-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4)
      ∧ r.2.mem ((c.tc : Thread Cert.Gating.nD Cert.Gating.τ).loc Cert.Gating.main_arg5) = m ((c.tc : Thread Cert.Gating.nD Cert.Gating.τ).loc Cert.Gating.main_arg5)
      ∧ r.2.mem ((c.tc : Thread Cert.Gating.nD Cert.Gating.τ).loc Cert.Gating.main_arg6) = m ((c.tc : Thread Cert.Gating.nD Cert.Gating.τ).loc Cert.Gating.main_arg6)
      ∧ r.2.mem ((c.tc : Thread Cert.Gating.nD Cert.Gating.τ).loc Cert.Gating.main_arg7) = m ((c.tc : Thread Cert.Gating.nD Cert.Gating.τ).loc Cert.Gating.main_arg7)
      ∧ r.2.mem ((c.tc : Thread Cert.Gating.nD Cert.Gating.τ).loc Cert.Gating.main_arg8) = m ((c.tc : Thread Cert.Gating.nD Cert.Gating.τ).loc Cert.Gating.main_arg8))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
      ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7)
      ∧ r.2.mem ((c.tc : Thread Cert.GatingIdeal.nD Cert.GatingIdeal.τ).loc Cert.GatingIdeal.main_arg8) = m ((c.tc : Thread Cert.GatingIdeal.nD Cert.GatingIdeal.τ).loc Cert.GatingIdeal.main_arg8))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4)
      ∧ r.2.mem ((c.tc : Thread Cert.GatingReferenceIdeal.nD Cert.GatingReferenceIdeal.τ).loc Cert.GatingReferenceIdeal.main_arg5) = m ((c.tc : Thread Cert.GatingReferenceIdeal.nD Cert.GatingReferenceIdeal.τ).loc Cert.GatingReferenceIdeal.main_arg5)
      ∧ r.2.mem ((c.tc : Thread Cert.GatingReferenceIdeal.nD Cert.GatingReferenceIdeal.τ).loc Cert.GatingReferenceIdeal.main_arg6) = m ((c.tc : Thread Cert.GatingReferenceIdeal.nD Cert.GatingReferenceIdeal.τ).loc Cert.GatingReferenceIdeal.main_arg6)
      ∧ r.2.mem ((c.tc : Thread Cert.GatingReferenceIdeal.nD Cert.GatingReferenceIdeal.τ).loc Cert.GatingReferenceIdeal.main_arg7) = m ((c.tc : Thread Cert.GatingReferenceIdeal.nD Cert.GatingReferenceIdeal.τ).loc Cert.GatingReferenceIdeal.main_arg7)
      ∧ r.2.mem ((c.tc : Thread Cert.GatingReferenceIdeal.nD Cert.GatingReferenceIdeal.τ).loc Cert.GatingReferenceIdeal.main_arg8) = m ((c.tc : Thread Cert.GatingReferenceIdeal.nD Cert.GatingReferenceIdeal.τ).loc Cert.GatingReferenceIdeal.main_arg8))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gating_GatingIdeal : Prop :=
  IdealRules.named_const.Statement Cert.GatingIdeal.κ "sqrt_half" .f32 0x3F3504F3#32 (((Real.sqrt 2)⁻¹ : ℝ) : EReal)

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)
      ∧ m' ((c.tc : Thread Cert.GatingReferenceIdeal.nD Cert.GatingReferenceIdeal.τ).loc Cert.GatingReferenceIdeal.main_arg5) = m ((c.tc : Thread Cert.GatingIdeal.nD Cert.GatingIdeal.τ).loc Cert.GatingIdeal.main_arg5)
      ∧ m' ((c.tc : Thread Cert.GatingReferenceIdeal.nD Cert.GatingReferenceIdeal.τ).loc Cert.GatingReferenceIdeal.main_arg6) = m ((c.tc : Thread Cert.GatingIdeal.nD Cert.GatingIdeal.τ).loc Cert.GatingIdeal.main_arg6)
      ∧ m' ((c.tc : Thread Cert.GatingReferenceIdeal.nD Cert.GatingReferenceIdeal.τ).loc Cert.GatingReferenceIdeal.main_arg7) = m ((c.tc : Thread Cert.GatingIdeal.nD Cert.GatingIdeal.τ).loc Cert.GatingIdeal.main_arg7)
      ∧ m' ((c.tc : Thread Cert.GatingReferenceIdeal.nD Cert.GatingReferenceIdeal.τ).loc Cert.GatingReferenceIdeal.main_arg8) = m ((c.tc : Thread Cert.GatingIdeal.nD Cert.GatingIdeal.τ).loc Cert.GatingIdeal.main_arg8)) →
    ∃ (v0 : (c : Dev Cert.GatingIdeal.nD) → Buf (Elt Ideal) ((c.tc : Thread Cert.GatingIdeal.nD Cert.GatingIdeal.τ).loc Cert.GatingIdeal.main_v8)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v8) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
          ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
          ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
          ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7)
          ∧ r.2.mem ((c.tc : Thread Cert.GatingIdeal.nD Cert.GatingIdeal.τ).loc Cert.GatingIdeal.main_arg8) = m ((c.tc : Thread Cert.GatingIdeal.nD Cert.GatingIdeal.τ).loc Cert.GatingIdeal.main_arg8))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v60) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4)
          ∧ r.2.mem ((c.tc : Thread Cert.GatingReferenceIdeal.nD Cert.GatingReferenceIdeal.τ).loc Cert.GatingReferenceIdeal.main_arg5) = m' ((c.tc : Thread Cert.GatingReferenceIdeal.nD Cert.GatingReferenceIdeal.τ).loc Cert.GatingReferenceIdeal.main_arg5)
          ∧ r.2.mem ((c.tc : Thread Cert.GatingReferenceIdeal.nD Cert.GatingReferenceIdeal.τ).loc Cert.GatingReferenceIdeal.main_arg6) = m' ((c.tc : Thread Cert.GatingReferenceIdeal.nD Cert.GatingReferenceIdeal.τ).loc Cert.GatingReferenceIdeal.main_arg6)
          ∧ r.2.mem ((c.tc : Thread Cert.GatingReferenceIdeal.nD Cert.GatingReferenceIdeal.τ).loc Cert.GatingReferenceIdeal.main_arg7) = m' ((c.tc : Thread Cert.GatingReferenceIdeal.nD Cert.GatingReferenceIdeal.τ).loc Cert.GatingReferenceIdeal.main_arg7)
          ∧ r.2.mem ((c.tc : Thread Cert.GatingReferenceIdeal.nD Cert.GatingReferenceIdeal.τ).loc Cert.GatingReferenceIdeal.main_arg8) = m' ((c.tc : Thread Cert.GatingReferenceIdeal.nD Cert.GatingReferenceIdeal.τ).loc Cert.GatingReferenceIdeal.main_arg8))

def preserves_Projection_ProjectionIdeal : Prop :=
  IdealRules.named_const.Statement Cert.ProjectionIdeal.κ "q_scale" .f32 0x3E38AA3B#32 (((1 / 8) * (Real.log 2)⁻¹ : ℝ) : EReal)

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v40_0)) (v1 : (c : Dev Cert.ProjectionIdeal.nD) → Buf (Elt Ideal) ((c.tc : Thread Cert.ProjectionIdeal.nD Cert.ProjectionIdeal.τ).loc Cert.ProjectionIdeal.main_v40_1)) (v2 : (c : Dev Cert.ProjectionIdeal.nD) → Buf (Elt Ideal) ((c.tc : Thread Cert.ProjectionIdeal.nD Cert.ProjectionIdeal.τ).loc Cert.ProjectionIdeal.main_v40_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v40_0) = v0 c
          ∧ r.2.mem ((c.tc : Thread Cert.ProjectionIdeal.nD Cert.ProjectionIdeal.τ).loc Cert.ProjectionIdeal.main_v40_1) = v1 c
          ∧ r.2.mem ((c.tc : Thread Cert.ProjectionIdeal.nD Cert.ProjectionIdeal.τ).loc Cert.ProjectionIdeal.main_v40_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v123) = v0 c
          ∧ r.2.mem ((c.tc : Thread Cert.ProjectionReferenceIdeal.nD Cert.ProjectionReferenceIdeal.τ).loc Cert.ProjectionReferenceIdeal.main_v124) = v1 c
          ∧ r.2.mem ((c.tc : Thread Cert.ProjectionReferenceIdeal.nD Cert.ProjectionReferenceIdeal.τ).loc Cert.ProjectionReferenceIdeal.main_v125) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def Claim : Prop :=
  ∃ (hKernel : Cert.Kernel.Facts) (hKernelIdeal : Cert.KernelIdeal.Facts) (hReferenceIdeal : Cert.ReferenceIdeal.Facts) (hGating : Cert.Gating.Facts) (hGatingIdeal : Cert.GatingIdeal.Facts) (hGatingReferenceIdeal : Cert.GatingReferenceIdeal.Facts) (hProjection : Cert.Projection.Facts) (hProjectionIdeal : Cert.ProjectionIdeal.Facts) (hProjectionReferenceIdeal : Cert.ProjectionReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gating (hGating := hGating)
    ∧ quiescent_GatingIdeal (hGatingIdeal := hGatingIdeal)
    ∧ quiescent_GatingReferenceIdeal (hGatingReferenceIdeal := hGatingReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gating_GatingIdeal
    ∧ algebraic_GatingIdeal_GatingReferenceIdeal (hGatingIdeal := hGatingIdeal) (hGatingReferenceIdeal := hGatingReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite.lean ====
abbrev S4x8192x8x2x64 : Shape := ⟨5, ![4, 8192, 8, 2, 64]⟩
abbrev S4x8192x8x128 : Shape := ⟨4, ![4, 8192, 8, 128]⟩
abbrev S4x256x8x2x64 : Shape := ⟨5, ![4, 256, 8, 2, 64]⟩
abbrev S4x256x8x128 : Shape := ⟨4, ![4, 256, 8, 128]⟩
abbrev S4x64 : Shape := ⟨2, ![4, 64]⟩
abbrev S128 : Shape := ⟨1, ![128]⟩
abbrev S_ : Shape := ⟨0, ![]⟩

class Facts : Prop where
  bcast_S_S4x8192x8x2x64 : S_.BroadcastsInDim S4x8192x8x2x64 (![] : Fin 0 → Fin S4x8192x8x2x64.rank)
  bcast_S_S4x8192x8x128 : S_.BroadcastsInDim S4x8192x8x128 (![] : Fin 0 → Fin S4x8192x8x128.rank)
  bcast_S_S4x256x8x2x64 : S_.BroadcastsInDim S4x256x8x2x64 (![] : Fin 0 → Fin S4x256x8x2x64.rank)
  bcast_S_S4x256x8x128 : S_.BroadcastsInDim S4x256x8x128 (![] : Fin 0 → Fin S4x256x8x128.rank)
  bcast_S_S4x64 : S_.BroadcastsInDim S4x64 (![] : Fin 0 → Fin S4x64.rank)

variable [Facts]

def fn {F : FTy → Type} [FloatOps F] (main_arg0 : FVec F S4x8192x8x2x64 .f32) (main_arg1 : FVec F S4x8192x8x2x64 .f32) (main_arg2 : FVec F S4x8192x8x128 .f32) (main_arg3 : FVec F S4x256x8x2x64 .f32) (main_arg4 : FVec F S4x256x8x128 .f32) (main_arg5 : FVec F S4x64 .f32) (main_arg6 : FVec F S128 .f32) : IVec S4x8192x8x2x64 1 × IVec S4x8192x8x2x64 1 × IVec S4x8192x8x128 1 × IVec S4x256x8x2x64 1 × IVec S4x256x8x128 1 × IVec S4x64 1 :=
  let main_v0 : FVec F S4x8192x8x2x64 .f32 := Host.absf main_arg0
  let main_cst : FVec F S_ .f32 := constant S_ .f32 0x7F800000#32
  let main_v1 : FVec F S4x8192x8x2x64 .f32 := broadcastInDim S4x8192x8x2x64 ![] bcast_S_S4x8192x8x2x64 main_cst
  let main_v2 : IVec S4x8192x8x2x64 1 := cmpf .olt main_v0 main_v1
  let main_v3 : FVec F S4x8192x8x2x64 .f32 := Host.absf main_arg1
  let main_cst_0 : FVec F S_ .f32 := constant S_ .f32 0x7F800000#32
  let main_v4 : FVec F S4x8192x8x2x64 .f32 := broadcastInDim S4x8192x8x2x64 ![] bcast_S_S4x8192x8x2x64 main_cst_0
  let main_v5 : IVec S4x8192x8x2x64 1 := cmpf .olt main_v3 main_v4
  let main_v6 : FVec F S4x8192x8x128 .f32 := Host.absf main_arg2
  let main_cst_1 : FVec F S_ .f32 := constant S_ .f32 0x7F800000#32
  let main_v7 : FVec F S4x8192x8x128 .f32 := broadcastInDim S4x8192x8x128 ![] bcast_S_S4x8192x8x128 main_cst_1
  let main_v8 : IVec S4x8192x8x128 1 := cmpf .olt main_v6 main_v7
  let main_v9 : FVec F S4x256x8x2x64 .f32 := Host.absf main_arg3
  let main_cst_2 : FVec F S_ .f32 := constant S_ .f32 0x7F800000#32
  let main_v10 : FVec F S4x256x8x2x64 .f32 := broadcastInDim S4x256x8x2x64 ![] bcast_S_S4x256x8x2x64 main_cst_2
  let main_v11 : IVec S4x256x8x2x64 1 := cmpf .olt main_v9 main_v10
  let main_v12 : FVec F S4x256x8x128 .f32 := Host.absf main_arg4
  let main_cst_3 : FVec F S_ .f32 := constant S_ .f32 0x7F800000#32
  let main_v13 : FVec F S4x256x8x128 .f32 := broadcastInDim S4x256x8x128 ![] bcast_S_S4x256x8x128 main_cst_3
  let main_v14 : IVec S4x256x8x128 1 := cmpf .olt main_v12 main_v13
  let main_v15 : FVec F S4x64 .f32 := Host.absf main_arg5
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  (main_v2, main_v5, main_v8, main_v11, main_v14, main_v17)
-- ==== Kernel.lean ====
abbrev S4x8192x8x2x64 : Shape := ⟨5, ![4, 8192, 8, 2, 64]⟩
abbrev S4x8192x8x128 : Shape := ⟨4, ![4, 8192, 8, 128]⟩
abbrev S4x256x8x2x64 : Shape := ⟨5, ![4, 256, 8, 2, 64]⟩
abbrev S4x256x8x128 : Shape := ⟨4, ![4, 256, 8, 128]⟩
abbrev S4x64 : Shape := ⟨2, ![4, 64]⟩
abbrev S128 : Shape := ⟨1, ![128]⟩
abbrev S4x8x8192x128 : Shape := ⟨4, ![4, 8, 8192, 128]⟩
abbrev S4x8x128x8192 : Shape := ⟨4, ![4, 8, 128, 8192]⟩
abbrev S4x8x256x128 : Shape := ⟨4, ![4, 8, 256, 128]⟩
abbrev S4x8x128x256 : Shape := ⟨4, ![4, 8, 128, 256]⟩
abbrev S128x1 : Shape := ⟨2, ![128, 1]⟩
abbrev S4x8192x1024 : Shape := ⟨3, ![4, 8192, 1024]⟩
abbrev S1x1x4096x128 : Shape := ⟨4, ![1, 1, 4096, 128]⟩
abbrev S1x1x8192x128 : Shape := ⟨4, ![1, 1, 8192, 128]⟩
abbrev S1x1x128x8192 : Shape := ⟨4, ![1, 1, 128, 8192]⟩
abbrev S1x1x256x128 : Shape := ⟨4, ![1, 1, 256, 128]⟩
abbrev S1x1x128x256 : Shape := ⟨4, ![1, 1, 128, 256]⟩
abbrev S1x4096x128 : Shape := ⟨3, ![1, 4096, 128]⟩
abbrev S256x4096 : Shape := ⟨2, ![256, 4096]⟩
abbrev S128x4096 : Shape := ⟨2, ![128, 4096]⟩
abbrev S4096x128 : Shape := ⟨2, ![4096, 128]⟩
abbrev S256x128 : Shape := ⟨2, ![256, 128]⟩
abbrev S4096 : Shape := ⟨1, ![4096]⟩
abbrev S1x4096 : Shape := ⟨2, ![1, 4096]⟩
abbrev S8x4096 : Shape := ⟨2, ![8, 4096]⟩
abbrev S128x256 : Shape := ⟨2, ![128, 256]⟩
abbrev S16x4096 : Shape := ⟨2, ![16, 4096]⟩
abbrev S1x1x4096 : Shape := ⟨3, ![1, 1, 4096]⟩
abbrev S1 : Shape := ⟨1, ![1]⟩
abbrev S1x1x1 : Shape := ⟨3, ![1, 1, 1]⟩
abbrev S1x128x4096 : Shape := ⟨3, ![1, 128, 4096]⟩
abbrev S1x64 : Shape := ⟨2, ![1, 64]⟩
abbrev S1x1 : Shape := ⟨2, ![1, 1]⟩

abbrev nBuf : Space → Nat
  | .hbm => 21
  | .vmem => 22
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S4x256x8x2x64, .f32⟩
  | .hbm, ⟨4, _⟩ => ⟨S4x256x8x128, .f32⟩
  | .hbm, ⟨5, _⟩ => ⟨S4x64, .f32⟩
  | .hbm, ⟨6, _⟩ => ⟨S128, .f32⟩
  | .hbm, ⟨7, _⟩ => ⟨S4x8192x8x128, .f32⟩
  | .hbm, ⟨8, _⟩ => ⟨S4x8x8192x128, .f32⟩
  | .hbm, ⟨9, _⟩ => ⟨S4x8192x8x128, .f32⟩
  | .hbm, ⟨10, _⟩ => ⟨S4x8x8192x128, .f32⟩
  | .hbm, ⟨11, _⟩ => ⟨S4x8x8192x128, .bf16⟩
  | .hbm, ⟨12, _⟩ => ⟨S4x8x128x8192, .f32⟩
  | .hbm, ⟨13, _⟩ => ⟨S4x8x128x8192, .bf16⟩
  | .hbm, ⟨14, _⟩ => ⟨S4x256x8x128, .f32⟩
  | .hbm, ⟨15, _⟩ => ⟨S4x8x256x128, .f32⟩
  | .hbm, ⟨16, _⟩ => ⟨S4x8x256x128, .bf16⟩
  | .hbm, ⟨17, _⟩ => ⟨S4x8x128x256, .f32⟩
  | .hbm, ⟨18, _⟩ => ⟨S4x8x128x256, .bf16⟩
  | .hbm, ⟨19, _⟩ => ⟨S128x1, .f32⟩
  | .hbm, ⟨20, _⟩ => ⟨S4x8192x1024, .bf16⟩
  | .local _ .vmem, ⟨0, _⟩ => ⟨S1x1x4096x128, .f32⟩
  | .local _ .vmem, ⟨1, _⟩ => ⟨S1x1x4096x128, .f32⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S4x64, .f32⟩
  | .local _ .vmem, ⟨11, _⟩ => ⟨S128x1, .f32⟩
  | .local _ .vmem, ⟨12, _⟩ => ⟨S1x4096x128, .bf16⟩
  | .local _ .vmem, ⟨13, _⟩ => ⟨S1x4096x128, .bf16⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .bf16⟩
  | .local _ .vmem, ⟨19, _⟩ => ⟨S256x4096, .bf16⟩
  | .local _ .vmem, ⟨20, _⟩ => ⟨S128x4096, .f32⟩
  | .local _ .vmem, ⟨21, _⟩ => ⟨S128x4096, .f32⟩
  | _, _ => ⟨S4x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 2], ![false, false, false]⟩

def k0_mult1 : BitVec 32 :=
  let c0_i32 : BitVec 32 := 0#32
  c0_i32
@[reducible] def k0_t1_loop : Scf.Loop 32 :=
  let c0_i32_28 : BitVec 32 := 0#32
  let c15_i32 : BitVec 32 := 15#32
  let v45 : BitVec 32 := Scalar.addi c0_i32_28 c15_i32
  let c1_i32 : BitVec 32 := 1#32
  ⟨c0_i32_28, v45, c1_i32⟩
def k0_mult2 (k0_t1 : Fin k0_t1_loop.trips) : BitVec 32 :=
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let c1_i32_674 : BitVec 32 := 1#32
  let v1422 : BitVec 32 := Scalar.addi v1421 c1_i32_674
  let c256_i32 : BitVec 32 := 256#32
  let v1423 : BitVec 32 := Scalar.muli v1422 c256_i32
  v1423
def k0_off1 (k0_t1 : Fin k0_t1_loop.trips) (c1_i32_674 : BitVec 32) : Fin 4 → Nat :=
  let c0_675 : Index := 0#32
  let c0_676 : Index := 0#32
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let v1422 : BitVec 32 := Scalar.addi v1421 c1_i32_674
  let c256_i32 : BitVec 32 := 256#32
  let v1423 : BitVec 32 := Scalar.muli v1422 c256_i32
  let v1424 : BitVec 32 := v1423
  let v1425 : Index := Scalar.indexCast v1424
  let c0_677 : Index := 0#32
  ![0, 0, v1425.toNat, 0]
def k0_mult3 (k0_t1 : Fin k0_t1_loop.trips) : BitVec 32 :=
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let c256_i32_684 : BitVec 32 := 256#32
  let v1436 : BitVec 32 := Scalar.muli v1421 c256_i32_684
  v1436
def k0_off2 (k0_t1 : Fin k0_t1_loop.trips) : Fin 4 → Nat :=
  let c0_685 : Index := 0#32
  let c0_686 : Index := 0#32
  let c0_687 : Index := 0#32
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let c256_i32_684 : BitVec 32 := 256#32
  let v1436 : BitVec 32 := Scalar.muli v1421 c256_i32_684
  let v1437 : BitVec 32 := v1436
  let v1438 : Index := Scalar.indexCast v1437
  ![0, 0, 0, v1438.toNat]
def k0_mult4 (k0_t1 : Fin k0_t1_loop.trips) : BitVec 32 :=
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let c2_i32_894 : BitVec 32 := 2#32
  let v1871 : BitVec 32 := Scalar.addi v1421 c2_i32_894
  let c256_i32_895 : BitVec 32 := 256#32
  let v1872 : BitVec 32 := Scalar.muli v1871 c256_i32_895
  v1872
def k0_mult5 (k0_t1 : Fin k0_t1_loop.trips) : BitVec 32 :=
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let c1_i32_905 : BitVec 32 := 1#32
  let v1885 : BitVec 32 := Scalar.addi v1421 c1_i32_905
  let c256_i32_906 : BitVec 32 := 256#32
  let v1886 : BitVec 32 := Scalar.muli v1885 c256_i32_906
  v1886
def k0_off3 (k0_t1 : Fin k0_t1_loop.trips) : Fin 4 → Nat :=
  let c0_907 : Index := 0#32
  let c0_908 : Index := 0#32
  let c0_909 : Index := 0#32
  let c2_i32 : BitVec 32 := 2#32
  let c0_i32_28 : BitVec 32 := 0#32
  let c1_i32 : BitVec 32 := 1#32
  let arg19 : BitVec 32 := Scf.iv c0_i32_28 c1_i32 k0_t1
  let v1421 : BitVec 32 := Scalar.muli c2_i32 arg19
  let c1_i32_905 : BitVec 32 := 1#32
  let v1885 : BitVec 32 := Scalar.addi v1421 c1_i32_905
  let c256_i32_906 : BitVec 32 := 256#32
  let v1886 : BitVec 32 := Scalar.muli v1885 c256_i32_906
  let v1887 : BitVec 32 := v1886
  let v1888 : Index := Scalar.indexCast v1887
  ![0, 0, 0, v1888.toNat]
def k0_mult6 : BitVec 32 :=
  let c7936_i32 : BitVec 32 := 7936#32
  c7936_i32
def k0_mult7 : BitVec 32 :=
  let c7680_i32 : BitVec 32 := 7680#32
  c7680_i32
def k0_mult8 : BitVec 32 :=
  let c7936_i32_227 : BitVec 32 := 7936#32
  c7936_i32_227
@[reducible] def k0_t2_loop : Scf.Loop 32 :=
  let c0_i32_680 : BitVec 32 := 0#32
  let c32_i32 : BitVec 32 := 32#32
  let v1427 : BitVec 32 := Scalar.addi c0_i32_680 c32_i32
  let c1_i32_681 : BitVec 32 := 1#32
  ⟨c0_i32_680, v1427, c1_i32_681⟩
def k0_mult9 (k0_t2 : Fin k0_t2_loop.trips) : BitVec 32 :=
  let c0_i32_680 : BitVec 32 := 0#32
  let c1_i32_681 : BitVec 32 := 1#32
  let arg19 : BitVec 32 := Scf.iv c0_i32_680 c1_i32_681 k0_t2
  let c256_i32 : BitVec 32 := 256#32
  let v1513 : BitVec 32 := Scalar.muli arg19 c256_i32
  v1513
def k0_off4 (k0_t2 : Fin k0_t2_loop.trips) : Fin 4 → Nat :=
  let c0_713 : Index := 0#32
  let c0_714 : Index := 0#32
  let c0_i32_680 : BitVec 32 := 0#32
  let c1_i32_681 : BitVec 32 := 1#32
  let arg19 : BitVec 32 := Scf.iv c0_i32_680 c1_i32_681 k0_t2
  let c256_i32 : BitVec 32 := 256#32
  let v1513 : BitVec 32 := Scalar.muli arg19 c256_i32
  let v1514 : BitVec 32 := v1513
  let v1515 : Index := Scalar.indexCast v1514
  let c0_715 : Index := 0#32
  ![0, 0, v1515.toNat, 0]
def k0_mult10 (k0_t2 : Fin k0_t2_loop.trips) : BitVec 32 :=
  let c0_i32_680 : BitVec 32 := 0#32
  let c1_i32_681 : BitVec 32 := 1#32
  let arg19 : BitVec 32 := Scf.iv c0_i32_680 c1_i32_681 k0_t2
  let c256_i32_716 : BitVec 32 := 256#32
  let v1518 : BitVec 32 := Scalar.muli arg19 c256_i32_716
  v1518
def k0_off5 (k0_t2 : Fin k0_t2_loop.trips) : Fin 4 → Nat :=
  let c0_717 : Index := 0#32
  let c0_718 : Index := 0#32
  let c0_719 : Index := 0#32
  let c0_i32_680 : BitVec 32 := 0#32
  let c1_i32_681 : BitVec 32 := 1#32
  let arg19 : BitVec 32 := Scf.iv c0_i32_680 c1_i32_681 k0_t2
  let c256_i32_716 : BitVec 32 := 256#32
  let v1518 : BitVec 32 := Scalar.muli arg19 c256_i32_716
  let v1519 : BitVec 32 := v1518
  let v1520 : Index := Scalar.indexCast v1519
  ![0, 0, 0, v1520.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S4x8192x8x2x64 : Shape := ⟨5, ![4, 8192, 8, 2, 64]⟩
abbrev S4x8192x8x128 : Shape := ⟨4, ![4, 8192, 8, 128]⟩
abbrev S4x256x8x2x64 : Shape := ⟨5, ![4, 256, 8, 2, 64]⟩
abbrev S4x256x8x128 : Shape := ⟨4, ![4, 256, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S4x8448x8x2x64 : Shape := ⟨5, ![4, 8448, 8, 2, 64]⟩
abbrev S4x8448x8x128 : Shape := ⟨4, ![4, 8448, 8, 128]⟩
abbrev S4x8x2x8192x8448 : Shape := ⟨5, ![4, 8, 2, 8192, 8448]⟩
abbrev S4x8x2x8192 : Shape := ⟨4, ![4, 8, 2, 8192]⟩
abbrev S4x8x2x8192x1 : Shape := ⟨5, ![4, 8, 2, 8192, 1]⟩
abbrev S4x8x1x8192x8448 : Shape := ⟨5, ![4, 8, 1, 8192, 8448]⟩
abbrev S4x8x8192x8448 : Shape := ⟨4, ![4, 8, 8192, 8448]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x1024 : Shape := ⟨3, ![4, 8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S4x256x8x2x64, .f32⟩
  | .hbm, ⟨4, _⟩ => ⟨S4x256x8x128, .f32⟩
  | .hbm, ⟨5, _⟩ => ⟨S4x64, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x8448x8x2x64, .f32⟩
  | .hbm, ⟨27, _⟩ => ⟨S4x8448x8x128, .f32⟩
  | .hbm, ⟨28, _⟩ => ⟨S4x8x2x8192x8448, .f32⟩
  | .hbm, ⟨29, _⟩ => ⟨S_, .f32⟩
  | .hbm, ⟨30, _⟩ => ⟨S4x8x2x8192x8448, .f32⟩
  | .hbm, ⟨31, _⟩ => ⟨S4x8x2x8192x8448, .f32⟩
  | .hbm, ⟨32, _⟩ => ⟨S_, .f32⟩
  | .hbm, ⟨33, _⟩ => ⟨S4x8x2x8192, .f32⟩
  | .hbm, ⟨34, _⟩ => ⟨S_, .f32⟩
  | .hbm, ⟨35, _⟩ => ⟨S4x8x2x8192, .f32⟩
  | .hbm, ⟨36, _⟩ => ⟨S4x8x2x8192, .f32⟩
  | .hbm, ⟨37, _⟩ => ⟨S4x8x2x8192x1, .f32⟩
  | .hbm, ⟨38, _⟩ => ⟨S4x8x2x8192x8448, .f32⟩
  | .hbm, ⟨39, _⟩ => ⟨S4x8x2x8192x8448, .f32⟩
  | .hbm, ⟨40, _⟩ => ⟨S4x8x2x8192x8448, .f32⟩
  | .hbm, ⟨41, _⟩ => ⟨S_, .f32⟩
  | .hbm, ⟨42, _⟩ => ⟨S4x8x2x8192, .f32⟩
  | .hbm, ⟨43, _⟩ => ⟨S4x8x2x8192x1, .f32⟩
  | .hbm, ⟨44, _⟩ => ⟨S4x8x2x8192x8448, .f32⟩
  | .hbm, ⟨45, _⟩ => ⟨S4x8x2x8192x8448, .f32⟩
  | .hbm, ⟨46, _⟩ => ⟨S4x8x1x8192x8448, .f32⟩
  | .hbm, ⟨47, _⟩ => ⟨S4x8x8192x8448, .f32⟩
  | .hbm, ⟨48, _⟩ => ⟨S4x8x1x8192x8448, .f32⟩
  | .hbm, ⟨49, _⟩ => ⟨S4x8x8192x8448, .f32⟩
  | .hbm, ⟨50, _⟩ => ⟨S4x8x8192x8448, .f32⟩
  | .hbm, ⟨51, _⟩ => ⟨S4x8x8192x8448, .f32⟩
  | .hbm, ⟨52, _⟩ => ⟨S4x8x8192x8448, .f32⟩
  | .hbm, ⟨53, _⟩ => ⟨S4x8x128x8192, .f32⟩
  | .hbm, ⟨54, _⟩ => ⟨S4x8192x8x128, .f32⟩
  | .hbm, ⟨55, _⟩ => ⟨S4x8192x8x128, .f32⟩
  | .hbm, ⟨56, _⟩ => ⟨S_, .f32⟩
  | .hbm, ⟨57, _⟩ => ⟨S4x8192x8, .f32⟩
  | .hbm, ⟨58, _⟩ => ⟨S4x8192x8x1, .f32⟩
  | .hbm, ⟨59, _⟩ => ⟨S_, .f32⟩
  | .hbm, ⟨60, _⟩ => ⟨S4x8192x8x1, .f32⟩
  | .hbm, ⟨61, _⟩ => ⟨S4x8192x8x1, .f32⟩
  | .hbm, ⟨62, _⟩ => ⟨S_, .f32⟩
  | .hbm, ⟨63, _⟩ => ⟨S4x8192x8x1, .f32⟩
  | .hbm, ⟨64, _⟩ => ⟨S4x8192x8x1, .f32⟩
  | .hbm, ⟨65, _⟩ => ⟨S4x8192x8x1, .f32⟩
  | .hbm, ⟨66, _⟩ => ⟨S4x8192x8x128, .f32⟩
  | .hbm, ⟨67, _⟩ => ⟨S4x8192x8x128, .f32⟩
  | .hbm, ⟨68, _⟩ => ⟨S1x1x1x128, .f32⟩
  | .hbm, ⟨69, _⟩ => ⟨S4x8192x8x128, .f32⟩
  | .hbm, ⟨70, _⟩ => ⟨S4x8192x8x128, .f32⟩
  | .hbm, ⟨71, _⟩ => ⟨S_, .f32⟩
  | .hbm, ⟨72, _⟩ => ⟨S4x8192x8x128, .f32⟩
  | .hbm, ⟨73, _⟩ => ⟨S4x8192x8x128, .f32⟩
  | .hbm, ⟨74, _⟩ => ⟨S4x8192x1024, .f32⟩
  | .hbm, ⟨75, _⟩ => ⟨S4x8192x1024, .bf16⟩
  | _, _ => ⟨S4x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Gating.lean ====
abbrev S4x8192x1024 : Shape := ⟨3, ![4, 8192, 1024]⟩
abbrev S8x1024 : Shape := ⟨2, ![8, 1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S8x1x1024 : Shape := ⟨3, ![8, 1, 1024]⟩
abbrev S128x8 : Shape := ⟨2, ![128, 8]⟩
abbrev S1x4096 : Shape := ⟨2, ![1, 4096]⟩
abbrev S1x2048 : Shape := ⟨2, ![1, 2048]⟩
abbrev S4x8192x2048 : Shape := ⟨3, ![4, 8192, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩
abbrev S1x128x256 : Shape := ⟨3, ![1, 128, 256]⟩

abbrev nBuf : Space → Nat
  | .hbm => 18
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S8x1024, .f32⟩
  | .hbm, ⟨2, _⟩ => ⟨S8x1024, .f32⟩
  | .hbm, ⟨3, _⟩ => ⟨S1024x4096, .f32⟩
  | .hbm, ⟨4, _⟩ => ⟨S4096, .f32⟩
  | .hbm, ⟨5, _⟩ => ⟨S2048, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S8x1x1024, .f32⟩
  | .hbm, ⟨10, _⟩ => ⟨S8x1x1024, .f32⟩
  | .hbm, ⟨11, _⟩ => ⟨S1024x4096, .bf16⟩
  | .hbm, ⟨12, _⟩ => ⟨S8x128x128, .bf16⟩
  | .hbm, ⟨13, _⟩ => ⟨S128x8, .f32⟩
  | .hbm, ⟨14, _⟩ => ⟨S1x4096, .f32⟩
  | .hbm, ⟨15, _⟩ => ⟨S1x2048, .f32⟩
  | .hbm, ⟨16, _⟩ => ⟨S1x2048, .f32⟩
  | .hbm, ⟨17, _⟩ => ⟨S4x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x4096, .f32⟩
  | .local _ .vmem, ⟨8, _⟩ => ⟨S1x2048, .f32⟩
  | .local _ .vmem, ⟨9, _⟩ => ⟨S1x2048, .f32⟩
  | .local _ .vmem, ⟨10, _⟩ => ⟨S8x128x128, .bf16⟩
  | .local _ .vmem, ⟨11, _⟩ => ⟨S128x8, .f32⟩
  | .local _ .vmem, ⟨12, _⟩ => ⟨S1x512x2048, .bf16⟩
  | .local _ .vmem, ⟨13, _⟩ => ⟨S1x512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GatingIdeal.lean ====
variable {F : FTy → Type} [FloatOps F] [Named F]
def κ : String → Option EReal := fun
  | "sqrt_half" => some (((Real.sqrt 2)⁻¹ : ℝ) : EReal)
  | _ => none
-- ==== GatingReferenceIdeal.lean ====
abbrev S4x8192x1024 : Shape := ⟨3, ![4, 8192, 1024]⟩
abbrev S8x1024 : Shape := ⟨2, ![8, 1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S4x1024 : Shape := ⟨2, ![4, 1024]⟩
abbrev S4x1x1024 : Shape := ⟨3, ![4, 1, 1024]⟩
abbrev S_ : Shape := ⟨0, ![]⟩
abbrev S4x8192x4096 : Shape := ⟨3, ![4, 8192, 4096]⟩
abbrev S1x1x4096 : Shape := ⟨3, ![1, 1, 4096]⟩
abbrev S4x8192x2048 : Shape := ⟨3, ![4, 8192, 2048]⟩
abbrev S4x8192 : Shape := ⟨2, ![4, 8192]⟩
abbrev S4x8192x1 : Shape := ⟨3, ![4, 8192, 1]⟩
abbrev S1x1x2048 : Shape := ⟨3, ![1, 1, 2048]⟩
abbrev S4x64x128x8x256 : Shape := ⟨5, ![4, 64, 128, 8, 256]⟩
abbrev S8x4x64x256x128 : Shape := ⟨5, ![8, 4, 64, 256, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x1024, .f32⟩
  | .hbm, ⟨2, _⟩ => ⟨S8x1024, .f32⟩
  | .hbm, ⟨3, _⟩ => ⟨S1024x4096, .f32⟩
  | .hbm, ⟨4, _⟩ => ⟨S4096, .f32⟩
  | .hbm, ⟨5, _⟩ => ⟨S2048, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S4x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S4x1024, .f32⟩
  | .hbm, ⟨17, _⟩ => ⟨S4x1x1024, .f32⟩
  | .hbm, ⟨18, _⟩ => ⟨S4x8192x1024, .f32⟩
  | .hbm, ⟨19, _⟩ => ⟨S4x8192x1024, .f32⟩
  | .hbm, ⟨20, _⟩ => ⟨S4x8192x4096, .f32⟩
  | .hbm, ⟨21, _⟩ => ⟨S1x1x4096, .f32⟩
  | .hbm, ⟨22, _⟩ => ⟨S4x8192x4096, .f32⟩
  | .hbm, ⟨23, _⟩ => ⟨S4x8192x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8192x4096, .f32⟩
  | .hbm, ⟨28, _⟩ => ⟨S4x8192x4096, .f32⟩
  | .hbm, ⟨29, _⟩ => ⟨S4x8192x4096, .f32⟩
  | .hbm, ⟨30, _⟩ => ⟨S_, .f32⟩
  | .hbm, ⟨31, _⟩ => ⟨S4x8192x4096, .f32⟩
  | .hbm, ⟨32, _⟩ => ⟨S4x8192x4096, .f32⟩
  | .hbm, ⟨33, _⟩ => ⟨S4x8192x4096, .f32⟩
  | .hbm, ⟨34, _⟩ => ⟨S_, .f32⟩
  | .hbm, ⟨35, _⟩ => ⟨S4x8192x4096, .f32⟩
  | .hbm, ⟨36, _⟩ => ⟨S4x8192x4096, .f32⟩
  | .hbm, ⟨37, _⟩ => ⟨S4x8192x2048, .f32⟩
  | .hbm, ⟨38, _⟩ => ⟨S4x8192x2048, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x2048, .f32⟩
  | .hbm, ⟨55, _⟩ => ⟨S4x8192x2048, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x2048, .f32⟩
  | .hbm, ⟨61, _⟩ => ⟨S4x8192x2048, .f32⟩
  | .hbm, ⟨62, _⟩ => ⟨S1x1x2048, .f32⟩
  | .hbm, ⟨63, _⟩ => ⟨S4x8192x2048, .f32⟩
  | .hbm, ⟨64, _⟩ => ⟨S4x8192x2048, .f32⟩
  | .hbm, ⟨65, _⟩ => ⟨S1x1x2048, .f32⟩
  | .hbm, ⟨66, _⟩ => ⟨S4x8192x2048, .f32⟩
  | .hbm, ⟨67, _⟩ => ⟨S4x8192x2048, .f32⟩
  | .hbm, ⟨68, _⟩ => ⟨S4x64x128x8x256, .f32⟩
  | .hbm, ⟨69, _⟩ => ⟨S8x4x64x256x128, .f32⟩
  | .hbm, ⟨70, _⟩ => ⟨S4x64x128x8x256, .f32⟩
  | .hbm, ⟨71, _⟩ => ⟨S128x8, .f32⟩
  | .hbm, ⟨72, _⟩ => ⟨S128x8x1, .f32⟩
  | .hbm, ⟨73, _⟩ => ⟨S1x1x128x8x1, .f32⟩
  | .hbm, ⟨74, _⟩ => ⟨S4x64x128x8x256, .f32⟩
  | .hbm, ⟨75, _⟩ => ⟨S4x64x128x8x256, .f32⟩
  | .hbm, ⟨76, _⟩ => ⟨S4x8192x2048, .f32⟩
  | .hbm, ⟨77, _⟩ => ⟨S4x8192x2048, .f32⟩
  | .hbm, ⟨78, _⟩ => ⟨S4x8192x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Projection.lean ====
abbrev S4x8192x1024 : Shape := ⟨3, ![4, 8192, 1024]⟩
abbrev S8x1024 : Shape := ⟨2, ![8, 1024]⟩
abbrev S1024x3072 : Shape := ⟨2, ![1024, 3072]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S_ : Shape := ⟨0, ![]⟩
abbrev S1x128 : Shape := ⟨2, ![1, 128]⟩
abbrev S8192x1 : Shape := ⟨2, ![8192, 1]⟩
abbrev S8192x128 : Shape := ⟨2, ![8192, 128]⟩
abbrev S8x1x1024 : Shape := ⟨3, ![8, 1, 1024]⟩
abbrev S4x8x8192x128 : Shape := ⟨4, ![4, 8, 8192, 128]⟩
abbrev S4x8x128x8192 : Shape := ⟨4, ![4, 8, 128, 8192]⟩
abbrev S1x512x1024 : Shape := ⟨3, ![1, 512, 1024]⟩
abbrev S1x1x1024 : Shape := ⟨3, ![1, 1, 1024]⟩
abbrev S512x128 : Shape := ⟨2, ![512, 128]⟩
abbrev S1x8x512x128 : Shape := ⟨4, ![1, 8, 512, 128]⟩
abbrev S1x8x128x512 : Shape := ⟨4, ![1, 8, 128, 512]⟩
abbrev S512x1024 : Shape := ⟨2, ![512, 1024]⟩
abbrev S1x1024 : Shape := ⟨2, ![1, 1024]⟩
abbrev S1024x1024 : Shape := ⟨2, ![1024, 1024]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 143
  | .vmem => 19
  | .smem => 0
  | _ => 0

abbrev hbmTy0_0 (i : Nat) : BufTy := match i % 128 with
  | 0 => ⟨S4x8192x1024, .f32⟩
  | 1 => ⟨S8x1024, .f32⟩
  | 2 => ⟨S8x1024, .f32⟩
  | 3 => ⟨S1024x3072, .f32⟩
  | 4 => ⟨S128, .f32⟩
  | 5 => ⟨S128x64, .f32⟩
  | 6 => ⟨S8192, .f32⟩
  | 7 => ⟨S64, .f32⟩
  | 8 => ⟨S1x64, .f32⟩
  | 9 => ⟨S128x64, .f32⟩
  | 10 => ⟨S8192, .f32⟩
  | 11 => ⟨S128, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S128, .i32⟩
  | 19 => ⟨S128, .i32⟩
  | 20 => ⟨S_, .i32⟩
  | 21 => ⟨S128, .i32⟩
  | 22 => ⟨S128, .i1⟩
  | 23 => ⟨S_, .i32⟩
  | 24 => ⟨S128, .i32⟩
  | 25 => ⟨S128, .i1⟩
  | 26 => ⟨S_, .i32⟩
  | 27 => ⟨S_, .i1⟩
  | 28 => ⟨S128, .i1⟩
  | 29 => ⟨S128, .i1⟩
  | 30 => ⟨S128, .i1⟩
  | 31 => ⟨S128, .i32⟩
  | 32 => ⟨S128, .i32⟩
  | 33 => ⟨S128, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S128, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i1⟩
  | 48 => ⟨S_, .i32⟩
  | 49 => ⟨S_, .i1⟩
  | 50 => ⟨S128, .i1⟩
  | 51 => ⟨S128, .i1⟩
  | 52 => ⟨S128, .i1⟩
  | 53 => ⟨S128, .i32⟩
  | 54 => ⟨S128, .i32⟩
  | 55 => ⟨S128, .i32⟩
  | 56 => ⟨S128, .f32⟩
  | 57 => ⟨S_, .f32⟩
  | 58 => ⟨S128, .f32⟩
  | 59 => ⟨S128, .f32⟩
  | 60 => ⟨S128, .f32⟩
  | 61 => ⟨S_, .f32⟩
  | 62 => ⟨S128, .f32⟩
  | 63 => ⟨S128, .f32⟩
  | 64 => ⟨S_, .f32⟩
  | 65 => ⟨S128, .f32⟩
  | 66 => ⟨S128, .f32⟩
  | 67 => ⟨S_, .i32⟩
  | 68 => ⟨S_, .i32⟩
  | 69 => ⟨S128, .i32⟩
  | 70 => ⟨S128, .i32⟩
  | 71 => ⟨S128, .i32⟩
  | 72 => ⟨S_, .i32⟩
  | 73 => ⟨S128, .i32⟩
  | 74 => ⟨S128, .i1⟩
  | 75 => ⟨S128, .i32⟩
  | 76 => ⟨S128, .i32⟩
  | 77 => ⟨S_, .i32⟩
  | 78 => ⟨S128, .i32⟩
  | 79 => ⟨S128, .i1⟩
  | 80 => ⟨S128, .i1⟩
  | 81 => ⟨S_, .i32⟩
  | 82 => ⟨S128, .i32⟩
  | 83 => ⟨S128, .i32⟩
  | 84 => ⟨S128, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S128, .i32⟩
  | 92 => ⟨S128, .i32⟩
  | 93 => ⟨S_, .i32⟩
  | 94 => ⟨S128, .i32⟩
  | 95 => ⟨S128, .i1⟩
  | 96 => ⟨S_, .i32⟩
  | 97 => ⟨S128, .i32⟩
  | 98 => ⟨S128, .i1⟩
  | 99 => ⟨S_, .i32⟩
  | 100 => ⟨S_, .i1⟩
  | 101 => ⟨S128, .i1⟩
  | 102 => ⟨S128, .i1⟩
  | 103 => ⟨S128, .i1⟩
  | 104 => ⟨S128, .i32⟩
  | 105 => ⟨S128, .i32⟩
  | 106 => ⟨S128, .i32⟩
  | 107 => ⟨S_, .i32⟩
  | 108 => ⟨S128, .i32⟩
  | 109 => ⟨S128, .i1⟩
  | 110 => ⟨S1x128, .i1⟩
  | 111 => ⟨S8192x1, .f32⟩
  | 112 => ⟨S8192x1, .f32⟩
  | 113 => ⟨S8192x128, .i1⟩
  | 114 => ⟨S8192x128, .f32⟩
  | 115 => ⟨S8192x128, .f32⟩
  | 116 => ⟨S8192x128, .f32⟩
  | 117 => ⟨S1x128, .f32⟩
  | 118 => ⟨S8192x128, .f32⟩
  | 119 => ⟨S8192x128, .f32⟩
  | 120 => ⟨S_, .i32⟩
  | 121 => ⟨S128, .i32⟩
  | 122 => ⟨S128, .i1⟩
  | 123 => ⟨S1x128, .i1⟩
  | 124 => ⟨S8192x128, .f32⟩
  | 125 => ⟨S8192x128, .f32⟩
  | 126 => ⟨S8192x128, .f32⟩
  | 127 => ⟨S_, .f32⟩
  | _ => ⟨S4x8192x1024, .f32⟩

abbrev hbmTy0_1 (i : Nat) : BufTy := match i % 128 with
  | 0 => ⟨S_, .f32⟩
  | 1 => ⟨S8192x128, .i1⟩
  | 2 => ⟨S8192x128, .f32⟩
  | 3 => ⟨S8192x128, .f32⟩
  | 4 => ⟨S_, .f32⟩
  | 5 => ⟨S_, .f32⟩
  | 6 => ⟨S8192x128, .i1⟩
  | 7 => ⟨S8192x128, .f32⟩
  | 8 => ⟨S8192x128, .f32⟩
  | 9 => ⟨S8x1x1024, .f32⟩
  | 10 => ⟨S8x1x1024, .f32⟩
  | 11 => ⟨S1024x3072, .bf16⟩
  | 12 => ⟨S4x8x8192x128, .bf16⟩
  | 13 => ⟨S4x8x8192x128, .bf16⟩
  | 14 => ⟨S4x8x128x8192, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x128x512, .bf16⟩
  | .local _ .vmem, ⟨18, _⟩ => ⟨S1x8x128x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v9 : Ref sig .tc := ⟨.hbm, 55, rfl⟩
abbrev main_v10 : Ref sig .tc := ⟨.hbm, 56, rfl⟩
abbrev main_cst : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst_1 : Ref sig .tc := ⟨.hbm, 61, rfl⟩
abbrev main_v14 : Ref sig .tc := ⟨.hbm, 62, rfl⟩
abbrev main_v15 : Ref sig .tc := ⟨.hbm, 63, rfl⟩
abbrev main_cst_2 : Ref sig .tc := ⟨.hbm, 64, rfl⟩
abbrev main_v16 : Ref sig .tc := ⟨.hbm, 65, rfl⟩
abbrev main_v17 : Ref sig .tc := ⟨.hbm, 66, rfl⟩
abbrev main_c_3 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v18 : Ref sig .tc := ⟨.hbm, 84, rfl⟩
abbrev main_c_4 : Ref sig .tc := ⟨.hbm, 85, rfl⟩
abbrev main_call3_v0 : Ref sig .tc := ⟨.hbm, 86, rfl⟩
abbrev main_call3_c : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_1 : Ref sig .tc := ⟨.hbm, 93, rfl⟩
abbrev main_call3_v5 : Ref sig .tc := ⟨.hbm, 94, rfl⟩
abbrev main_call3_v6 : Ref sig .tc := ⟨.hbm, 95, rfl⟩
abbrev main_call3_c_2 : Ref sig .tc := ⟨.hbm, 96, rfl⟩
abbrev main_call3_v7 : Ref sig .tc := ⟨.hbm, 97, rfl⟩
abbrev main_call3_v8 : Ref sig .tc := ⟨.hbm, 98, rfl⟩
abbrev main_call3_c_3 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_v19 : Ref sig .tc := ⟨.hbm, 106, rfl⟩
abbrev main_c_5 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_v23 : Ref sig .tc := ⟨.hbm, 111, rfl⟩
abbrev main_v24 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_c_6 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_cst_7 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v35 : Ref sig .tc := ⟨.hbm, 131, rfl⟩
abbrev main_cst_8 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40_0 : Ref sig .tc := ⟨.hbm, 140, rfl⟩
abbrev main_v40_1 : Ref sig .tc := ⟨.hbm, 141, rfl⟩
abbrev main_v40_2 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjectionIdeal.lean ====
variable {F : FTy → Type} [FloatOps F] [Named F]
def κ : String → Option EReal := fun
  | "q_scale" => some (((1 / 8) * (Real.log 2)⁻¹ : ℝ) : EReal)
  | _ => none
-- ==== ProjectionReferenceIdeal.lean ====
abbrev S4x8192x1024 : Shape := ⟨3, ![4, 8192, 1024]⟩
abbrev S8x1024 : Shape := ⟨2, ![8, 1024]⟩
abbrev S1024x3072 : Shape := ⟨2, ![1024, 3072]⟩
abbrev S4x1024 : Shape := ⟨2, ![4, 1024]⟩
abbrev S4x1x1024 : Shape := ⟨3, ![4, 1, 1024]⟩
abbrev S_ : Shape := ⟨0, ![]⟩
abbrev S4x8192x3072 : Shape := ⟨3, ![4, 8192, 3072]⟩
abbrev S16 : Shape := ⟨1, ![16]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S4x8192x8x2x64 : Shape := ⟨5, ![4, 8192, 8, 2, 64]⟩
abbrev S4x8192x8x2x32 : Shape := ⟨5, ![4, 8192, 8, 2, 32]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x1x32 : Shape := ⟨5, ![1, 8192, 1, 1, 32]⟩
abbrev S4x8192x8x2x16 : Shape := ⟨5, ![4, 8192, 8, 2, 16]⟩
abbrev S4x8192x8x128 : Shape := ⟨4, ![4, 8192, 8, 128]⟩
abbrev S4x8x8192x128 : Shape := ⟨4, ![4, 8, 8192, 128]⟩
abbrev S4x8x128x8192 : Shape := ⟨4, ![4, 8, 128, 8192]⟩

abbrev nBuf : Space → Nat
  | .hbm => 137
  | .vmem => 0
  | .smem => 0
  | _ => 0

abbrev hbmTy0_0 (i : Nat) : BufTy := match i % 128 with
  | 0 => ⟨S4x8192x1024, .f32⟩
  | 1 => ⟨S8x1024, .f32⟩
  | 2 => ⟨S8x1024, .f32⟩
  | 3 => ⟨S1024x3072, .f32⟩
  | 4 => ⟨S4x1024, .f32⟩
  | 5 => ⟨S4x1x1024, .f32⟩
  | 6 => ⟨S_, .f32⟩
  | 7 => ⟨S4x1x1024, .f32⟩
  | 8 => ⟨S4x1x1024, .f32⟩
  | 9 => ⟨S4x8192x1024, .f32⟩
  | 10 => ⟨S4x8192x1024, .f32⟩
  | 11 => ⟨S4x1024, .f32⟩
  | 12 => ⟨S4x1x1024, .f32⟩
  | 13 => ⟨S4x8192x1024, .f32⟩
  | 14 => ⟨S4x8192x1024, .f32⟩
  | 15 => ⟨S4x8192x3072, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S128, .f32⟩
  | 31 => ⟨S128x64, .f32⟩
  | 32 => ⟨S8192, .f32⟩
  | 33 => ⟨S64, .f32⟩
  | 34 => ⟨S1x64, .f32⟩
  | 35 => ⟨S128x64, .f32⟩
  | 36 => ⟨S8192, .f32⟩
  | 37 => ⟨S4x8192x1024, .f32⟩
  | 38 => ⟨S4x8192x8x2x64, .f32⟩
  | 39 => ⟨S4x8192x8x2x32, .f32⟩
  | 40 => ⟨S8192x1, .f32⟩
  | 41 => ⟨S1x16, .f32⟩
  | 42 => ⟨S8192x16, .f32⟩
  | 43 => ⟨S8192x16, .f32⟩
  | 44 => ⟨S8192x16, .f32⟩
  | 45 => ⟨S8192x32, .f32⟩
  | 46 => ⟨S1x8192x1x1x32, .f32⟩
  | 47 => ⟨S4x8192x8x2x16, .f32⟩
  | 48 => ⟨S4x8192x8x2x16, .f32⟩
  | 49 => ⟨S1x8192x1x1x32, .f32⟩
  | 50 => ⟨S4x8192x8x2x32, .f32⟩
  | 51 => ⟨S4x8192x8x2x32, .f32⟩
  | 52 => ⟨S4x8192x8x2x16, .f32⟩
  | 53 => ⟨S4x8192x8x2x32, .f32⟩
  | 54 => ⟨S1x8192x1x1x32, .f32⟩
  | 55 => ⟨S4x8192x8x2x32, .f32⟩
  | 56 => ⟨S4x8192x8x2x32, .f32⟩
  | 57 => ⟨S4x8192x8x2x32, .f32⟩
  | 58 => ⟨S4x8192x8x2x32, .f32⟩
  | 59 => ⟨S8192x1, .f32⟩
  | 60 => ⟨S1x16, .f32⟩
  | 61 => ⟨S8192x16, .f32⟩
  | 62 => ⟨S8192x16, .f32⟩
  | 63 => ⟨S8192x16, .f32⟩
  | 64 => ⟨S8192x32, .f32⟩
  | 65 => ⟨S1x8192x1x1x32, .f32⟩
  | 66 => ⟨S4x8192x8x2x16, .f32⟩
  | 67 => ⟨S4x8192x8x2x16, .f32⟩
  | 68 => ⟨S1x8192x1x1x32, .f32⟩
  | 69 => ⟨S4x8192x8x2x32, .f32⟩
  | 70 => ⟨S4x8192x8x2x32, .f32⟩
  | 71 => ⟨S4x8192x8x2x16, .f32⟩
  | 72 => ⟨S4x8192x8x2x32, .f32⟩
  | 73 => ⟨S1x8192x1x1x32, .f32⟩
  | 74 => ⟨S4x8192x8x2x32, .f32⟩
  | 75 => ⟨S4x8192x8x2x32, .f32⟩
  | 76 => ⟨S4x8192x8x2x32, .f32⟩
  | 77 => ⟨S4x8192x8x2x64, .f32⟩
  | 78 => ⟨S4x8192x8x128, .f32⟩
  | 79 => ⟨S4x8x8192x128, .f32⟩
  | 80 => ⟨S_, .f32⟩
  | 81 => ⟨S4x8x8192x128, .f32⟩
  | 82 => ⟨S4x8x8192x128, .f32⟩
  | 83 => ⟨S_, .f32⟩
  | 84 => ⟨S_, .f32⟩
  | 85 => ⟨S_, .f32⟩
  | 86 => ⟨S4x8x8192x128, .f32⟩
  | 87 => ⟨S4x8x8192x128, .f32⟩
  | 88 => ⟨S4x8192x1024, .f32⟩
  | 89 => ⟨S4x8192x8x2x64, .f32⟩
  | 90 => ⟨S4x8192x8x2x32, .f32⟩
  | 91 => ⟨S8192x1, .f32⟩
  | 92 => ⟨S1x16, .f32⟩
  | 93 => ⟨S8192x16, .f32⟩
  | 94 => ⟨S8192x16, .f32⟩
  | 95 => ⟨S8192x16, .f32⟩
  | 96 => ⟨S8192x32, .f32⟩
  | 97 => ⟨S1x8192x1x1x32, .f32⟩
  | 98 => ⟨S4x8192x8x2x16, .f32⟩
  | 99 => ⟨S4x8192x8x2x16, .f32⟩
  | 100 => ⟨S1x8192x1x1x32, .f32⟩
  | 101 => ⟨S4x8192x8x2x32, .f32⟩
  | 102 => ⟨S4x8192x8x2x32, .f32⟩
  | 103 => ⟨S4x8192x8x2x16, .f32⟩
  | 104 => ⟨S4x8192x8x2x32, .f32⟩
  | 105 => ⟨S1x8192x1x1x32, .f32⟩
  | 106 => ⟨S4x8192x8x2x32, .f32⟩
  | 107 => ⟨S4x8192x8x2x32, .f32⟩
  | 108 => ⟨S4x8192x8x2x32, .f32⟩
  | 109 => ⟨S4x8192x8x2x32, .f32⟩
  | 110 => ⟨S8192x1, .f32⟩
  | 111 => ⟨S1x16, .f32⟩
  | 112 => ⟨S8192x16, .f32⟩
  | 113 => ⟨S8192x16, .f32⟩
  | 114 => ⟨S8192x16, .f32⟩
  | 115 => ⟨S8192x32, .f32⟩
  | 116 => ⟨S1x8192x1x1x32, .f32⟩
  | 117 => ⟨S4x8192x8x2x16, .f32⟩
  | 118 => ⟨S4x8192x8x2x16, .f32⟩
  | 119 => ⟨S1x8192x1x1x32, .f32⟩
  | 120 => ⟨S4x8192x8x2x32, .f32⟩
  | 121 => ⟨S4x8192x8x2x32, .f32⟩
  | 122 => ⟨S4x8192x8x2x16, .f32⟩
  | 123 => ⟨S4x8192x8x2x32, .f32⟩
  | 124 => ⟨S1x8192x1x1x32, .f32⟩
  | 125 => ⟨S4x8192x8x2x32, .f32⟩
  | 126 => ⟨S4x8192x8x2x32, .f32⟩
  | 127 => ⟨S4x8192x8x2x32, .f32⟩
  | _ => ⟨S4x8192x1024, .f32⟩

abbrev hbmTy0_1 (i : Nat) : BufTy := match i % 128 with
  | 0 => ⟨S4x8192x8x2x64, .f32⟩
  | 1 => ⟨S4x8192x8x128, .f32⟩
  | 2 => ⟨S4x8x8192x128, .f32⟩
  | 3 => ⟨S4x8192x1024, .f32⟩
  | 4 => ⟨S4x8192x8x128, .f32⟩
  | 5 => ⟨S4x8x128x8192, .f32⟩
  | 6 => ⟨S4x8x8192x128, .bf16⟩
  | 7 => ⟨S4x8x8192x128, .bf16⟩
  | 8 => ⟨S4x8x128x8192, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_cst_5 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩

abbrev nD : Nat := 1
abbrev τ : Topo := Topo.v7x

variable {F : FTy → Type} [FloatOps F]
-- ==== Proof.Body.lean ====
/-
  The attention kernel's body as a structured program, over any signature: the parts of the printed text that repeat
  (one sixteen-row strip, one absorbed chunk, one pair of chunks) are each written once, in continuation form.
-/
module

public import proofs.«01_k».proof.Proof.Gen.KernelIdeal
public import Idealize.ShloMosaic.Lib.Pipeline.FrameBody
public import Idealize.ShloMosaic.Lib.Pipeline.Value
public import Idealize.ShloMosaic.Lib.Tactic

@[expose] public section

set_option maxRecDepth 16384

noncomputable section

namespace Cert.Attn

open Idealize.ShloMosaic Idealize.ShloMosaic.TcCoe Idealize.SL.Sem
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096
  dot_S256x128_S4096x128_S256x4096_1_1_0_0_n_n dot_S128x256_S256x4096_S128x4096_1_0_0_1_n_n)
open Cert.KernelIdeal.Facts₀ Cert.KernelIdeal.Facts

variable {nD : Nat} {τ : Topo} {sig : RefSig} {Λ : Labels} {F : FTy → Type} [FloatOps F] {α : Type}

/-! ## Row offsets of a strip -/

theorem inb_lo (i : ℕ) (hi : i < 16) : ∀ a, (![16 * i, 0] : Fin 2 → ℕ) a + S8x4096.size a ≤ S256x4096.size a := by
  intro a; match a with
  | ⟨0, _⟩ => show 16 * i + 8 ≤ 256; omega
  | ⟨1, _⟩ => show 0 + 4096 ≤ 4096; omega

theorem inb_hi (i : ℕ) (hi : i < 16) : ∀ a, (![16 * i + 8, 0] : Fin 2 → ℕ) a + S8x4096.size a ≤ S256x4096.size a := by
  intro a; match a with
  | ⟨0, _⟩ => show 16 * i + 8 + 8 ≤ 256; omega
  | ⟨1, _⟩ => show 0 + 4096 ≤ 4096; omega

theorem inb_strip (i : ℕ) (hi : i < 16) : ∀ a, (![16 * i, 0] : Fin 2 → ℕ) a + S16x4096.size a ≤ S256x4096.size a := by
  intro a; match a with
  | ⟨0, _⟩ => show 16 * i + 16 ≤ 256; omega
  | ⟨1, _⟩ => show 0 + 4096 ≤ 4096; omega

theorem packed_strip (i : ℕ) (hi : i < 16) :
    (Rect.unit (s := S256x4096) ![16 * i, 0] S16x4096.size (inb_strip i hi)).PackedRows (EltTy.packing .bf16) := by
  have h : ∀ i : Fin 16, (Rect.unit (s := S256x4096) ![16 * i.val, 0] S16x4096.size (inb_strip i.val i.isLt)).PackedRows (EltTy.packing .bf16) := by
    decide
  exact h ⟨i, hi⟩

/-! ## The pieces -/

/-- The sixteen rows a strip writes, from the two eight-row tiles of scores it reads. -/
def stripPay (sh a b : FVec F S8x4096 .f32) : FVec F S16x4096 .bf16 :=
  shapeCast S16x4096 (truncf .bf16 (concatenate S16x4096 0 [⟨S8x4096, exp2 (subf a sh)⟩, ⟨S8x4096, exp2 (subf b sh)⟩] concatenates_S8x4096_S8x4096_S16x4096_d0) bitsLt_bf16_f32) shapeCasts_S16x4096_S16x4096

/-- What a strip adds to the running row sums. -/
def stripSum (sh part a b : FVec F S8x4096 .f32) : FVec F S8x4096 .f32 :=
  addf part (addf (exp2 (subf a sh)) (exp2 (subf b sh)))

/-- One strip: two tiles of scores in, sixteen rows of weights out, the row sums carried on. -/
def strip (s : Memref sig .tc .vmem S256x4096 .f32) (p : Memref sig .tc .vmem S256x4096 .bf16) (hp : p.IsWhole)
    (sh : FVec F S8x4096 .f32) (i : ℕ) (hi : i < 16) (part : FVec F S8x4096 .f32)
    (k : FVec F S8x4096 .f32 → Prog (TpuEff nD τ sig (Elt F) Λ .tc) α) : Prog (TpuEff nD τ sig (Elt F) Λ .tc) α :=
  .op (.load s (Rect.unit (s := S256x4096) ![16 * i, 0] S8x4096.size (inb_lo i hi)).toLoadRect (View.loadsAt_vmem h_S8x4096)) fun a =>
  .op (.load s (Rect.unit (s := S256x4096) ![16 * i + 8, 0] S8x4096.size (inb_hi i hi)).toLoadRect (View.loadsAt_vmem h_S8x4096)) fun b =>
  .op (.load p (Rect.unit (s := S256x4096) ![16 * i, 0] S16x4096.size (inb_strip i hi)).toLoadRect (View.loadsAt_vmem h_S16x4096)) fun _ =>
  .op (.store p (Rect.unit (s := S256x4096) ![16 * i, 0] S16x4096.size (inb_strip i hi)) (stripPay sh a b) Finset.univ
    (View.stores_vmem h_S16x4096 (hp.storeExact_slice rfl _ (packed_strip i hi)) (fun _ => rfl)) (.inl rfl)) fun _ =>
  k (stripSum sh part a b)

/-- The strips from `i` on, `n` of them. -/
def strips (s : Memref sig .tc .vmem S256x4096 .f32) (p : Memref sig .tc .vmem S256x4096 .bf16) (hp : p.IsWhole)
    (sh : FVec F S8x4096 .f32) : (n i : ℕ) → (h : n + i = 16) → (part : FVec F S8x4096 .f32) →
      (k : FVec F S8x4096 .f32 → Prog (TpuEff nD τ sig (Elt F) Λ .tc) α) → Prog (TpuEff nD τ sig (Elt F) Λ .tc) α
  | 0, _, _, part, k => k part
  | n + 1, i, h, part, k => strip s p hp sh i (by omega) part fun part' => strips s p hp sh n (i + 1) (by omega) part' k

/-- One chunk absorbed: its sixteen strips, then the product of the values with the weights added to the accumulator. -/
def absorb (s : Memref sig .tc .vmem S256x4096 .f32) (p : Memref sig .tc .vmem S256x4096 .bf16) (hp : p.IsWhole)
    (acc : Memref sig .tc .vmem S128x4096 .f32) (sh : FVec F S8x4096 .f32) (vt : FVec F S128x256 .bf16) (part : FVec F S8x4096 .f32)
    (k : FVec F S8x4096 .f32 → Prog (TpuEff nD τ sig (Elt F) Λ .tc) α) : Prog (TpuEff nD τ sig (Elt F) Λ .tc) α :=
  strips s p hp sh 16 0 rfl part fun part' =>
  .op (.load acc (Rect.unit (s := S128x4096) ![0, 0] S128x4096.size inb_S128x4096_S128x4096_0_0).toLoadRect (View.loadsAt_vmem h_S128x4096)) fun (a : FVec F S128x4096 .f32) =>
  .op (.load p (Rect.unit (s := S256x4096) ![0, 0] S256x4096.size inb_S256x4096_S256x4096_0_0).toLoadRect (View.loadsAt_vmem h_S256x4096)) fun (w : FVec F S256x4096 .bf16) =>
  .op (.load acc (Rect.unit (s := S128x4096) ![0, 0] S128x4096.size inb_S128x4096_S128x4096_0_0).toLoadRect (View.loadsAt_vmem h_S128x4096)) fun _ =>
  .op (.store acc (Rect.unit (s := S128x4096) ![0, 0] S128x4096.size inb_S128x4096_S128x4096_0_0)
    (shapeCast S128x4096 (addf a (matmul dot_S128x256_S256x4096_S128x4096_1_0_0_1_n_n none vt w (constant S128x4096 .f32 0x00000000#32))) shapeCasts_S128x4096_S128x4096)
    Finset.univ (View.stores_vmem_bits_univ h_S128x4096 rfl) (.inl rfl)) fun _ =>
  k part'

/-- A chunk's scores against one half of the queries. -/
def scoresOf (kk : FVec F S256x128 .bf16) (q : FVec F S4096x128 .bf16) : FVec F S256x4096 .f32 :=
  shapeCast S256x4096 (matmul dot_S256x128_S4096x128_S256x4096_1_1_0_0_n_n none kk q (constant S256x4096 .f32 0x00000000#32)) shapeCasts_S256x4096_S256x4096

/-- The scores stored. -/
def scores (s : Memref sig .tc .vmem S256x4096 .f32) (kk : FVec F S256x128 .bf16) (q : FVec F S4096x128 .bf16)
    (k : Prog (TpuEff nD τ sig (Elt F) Λ .tc) α) : Prog (TpuEff nD τ sig (Elt F) Λ .tc) α :=
  .op (.load s (Rect.unit (s := S256x4096) ![0, 0] S256x4096.size inb_S256x4096_S256x4096_0_0).toLoadRect (View.loadsAt_vmem h_S256x4096)) fun _ =>
  .op (.store s (Rect.unit (s := S256x4096) ![0, 0] S256x4096.size inb_S256x4096_S256x4096_0_0) (scoresOf kk q) Finset.univ
    (View.stores_vmem_bits_univ h_S256x4096 rfl) (.inl rfl)) fun _ => k

/-- A chunk of keys loaded. -/
def loadK (a4 : Memref sig .tc .vmem S1x1x8192x128 .bf16) (o : Fin 4 → ℕ) (ho : ∀ a, o a + S1x1x256x128.size a ≤ S1x1x8192x128.size a)
    (k : FVec F S256x128 .bf16 → Prog (TpuEff nD τ sig (Elt F) Λ .tc) α) : Prog (TpuEff nD τ sig (Elt F) Λ .tc) α :=
  .op (.load a4 (Rect.unit (s := S1x1x8192x128) o S1x1x256x128.size ho).toLoadRect (View.loadsAt_vmem h_S1x1x256x128)) fun x =>
  k (shapeCast S256x128 x shapeCasts_S1x1x256x128_S256x128)

/-- A chunk of transposed values loaded. -/
def loadV (a5 : Memref sig .tc .vmem S1x1x128x8192 .bf16) (o : Fin 4 → ℕ) (ho : ∀ a, o a + S1x1x128x256.size a ≤ S1x1x128x8192.size a)
    (k : FVec F S128x256 .bf16 → Prog (TpuEff nD τ sig (Elt F) Λ .tc) α) : Prog (TpuEff nD τ sig (Elt F) Λ .tc) α :=
  .op (.load a5 (Rect.unit (s := S1x1x128x8192) o S1x1x128x256.size ho).toLoadRect (View.loadsAt_vmem h_S1x1x128x256)) fun x =>
  k (shapeCast S128x256 x shapeCasts_S1x1x128x256_S128x256)

/-- The scratch buffers. -/
structure Scratch (sig : RefSig) where
  s00 : Memref sig .tc .vmem S256x4096 .f32
  s01 : Memref sig .tc .vmem S256x4096 .f32
  s10 : Memref sig .tc .vmem S256x4096 .f32
  s11 : Memref sig .tc .vmem S256x4096 .f32
  p0 : Memref sig .tc .vmem S256x4096 .bf16
  hp0 : p0.IsWhole
  p1 : Memref sig .tc .vmem S256x4096 .bf16
  hp1 : p1.IsWhole
  acc0 : Memref sig .tc .vmem S128x4096 .f32
  acc1 : Memref sig .tc .vmem S128x4096 .f32

variable (b : Scratch sig) (a4 : Memref sig .tc .vmem S1x1x8192x128 .bf16) (a5 : Memref sig .tc .vmem S1x1x128x8192 .bf16)

/-- Slot 0's two halves absorbed. -/
def absorb0 (sh sh' : FVec F S8x4096 .f32) (vt : FVec F S128x256 .bf16) (part part' : FVec F S8x4096 .f32)
    (k : FVec F S8x4096 .f32 → FVec F S8x4096 .f32 → Prog (TpuEff nD τ sig (Elt F) Λ .tc) α) : Prog (TpuEff nD τ sig (Elt F) Λ .tc) α :=
  absorb b.s00 b.p0 b.hp0 b.acc0 sh vt part fun r => absorb b.s01 b.p1 b.hp1 b.acc1 sh' vt part' fun r' => k r r'

/-- Slot 1's. -/
def absorb1 (sh sh' : FVec F S8x4096 .f32) (vt : FVec F S128x256 .bf16) (part part' : FVec F S8x4096 .f32)
    (k : FVec F S8x4096 .f32 → FVec F S8x4096 .f32 → Prog (TpuEff nD τ sig (Elt F) Λ .tc) α) : Prog (TpuEff nD τ sig (Elt F) Λ .tc) α :=
  absorb b.s10 b.p0 b.hp0 b.acc0 sh vt part fun r => absorb b.s11 b.p1 b.hp1 b.acc1 sh' vt part' fun r' => k r r'

/-- One trip of the main loop: the next odd chunk scored, the even chunk absorbed, the next even chunk scored, the odd one absorbed. -/
def pair (q q' : FVec F S4096x128 .bf16) (sh sh' : FVec F S8x4096 .f32) (o1 o2 o3 o4 : Fin 4 → ℕ)
    (h1 : ∀ a, o1 a + S1x1x256x128.size a ≤ S1x1x8192x128.size a) (h2 : ∀ a, o2 a + S1x1x128x256.size a ≤ S1x1x128x8192.size a)
    (h3 : ∀ a, o3 a + S1x1x256x128.size a ≤ S1x1x8192x128.size a) (h4 : ∀ a, o4 a + S1x1x128x256.size a ≤ S1x1x128x8192.size a)
    (part part' : FVec F S8x4096 .f32)
    (k : FVec F S8x4096 .f32 → FVec F S8x4096 .f32 → Prog (TpuEff nD τ sig (Elt F) Λ .tc) α) : Prog (TpuEff nD τ sig (Elt F) Λ .tc) α :=
  loadK a4 o1 h1 fun kk => scores b.s10 kk q <| scores b.s11 kk q' <|
  loadV a5 o2 h2 fun vt => absorb0 b sh sh' vt part part' fun r r' =>
  loadK a4 o3 h3 fun kk => scores b.s00 kk q <| scores b.s01 kk q' <|
  loadV a5 o4 h4 fun vt => absorb1 b sh sh' vt r r' k

/-! ## Before and after the main loop -/

/-- The queries of one map, from the block of queries: scaled, and zero off the lanes the map reads. -/
def maskQ (cst : F .f32) (pr : CmpIPredicate) (x : FVec F S1x1x4096x128 .f32) : FVec F S4096x128 .bf16 :=
  select (cmpi pr (iota .tc S4096x128 32 [1] iota_S4096x128_d1_w32) (broadcast S4096x128 64#32))
    (truncf .bf16 (mulf (shapeCast S4096x128 x shapeCasts_S1x1x4096x128_S4096x128) (broadcast S4096x128 cst)) bitsLt_bf16_f32)
    (broadcast S4096x128 (Scalar.ofBits .bf16 0x0000#16))

/-- The shift of one map: the largest score of the first chunk, at each query. -/
def shiftOf (s : FVec F S256x4096 .f32) : FVec F S8x4096 .f32 :=
  broadcastTo S8x4096 (shapeCast S1x4096 (shapeCast S1x4096
    (multiReduction .maximumf [0] S4096 s 0xFF800000#32 reduces_S256x4096_S4096 (.inl rfl) rfl) shapeCasts_S4096_S1x4096)
    shapeCasts_S1x4096_S1x4096) broadcasts_S1x4096_S8x4096

/-- A buffer of scores read whole. -/
def loadS (s : Memref sig .tc .vmem S256x4096 .f32) (k : FVec F S256x4096 .f32 → Prog (TpuEff nD τ sig (Elt F) Λ .tc) α) :
    Prog (TpuEff nD τ sig (Elt F) Λ .tc) α :=
  .op (.load s (Rect.unit (s := S256x4096) ![0, 0] S256x4096.size inb_S256x4096_S256x4096_0_0).toLoadRect (View.loadsAt_vmem h_S256x4096)) k

/-- An accumulator read whole. -/
def loadA (a : Memref sig .tc .vmem S128x4096 .f32) (k : FVec F S128x4096 .f32 → Prog (TpuEff nD τ sig (Elt F) Λ .tc) α) :
    Prog (TpuEff nD τ sig (Elt F) Λ .tc) α :=
  .op (.load a (Rect.unit (s := S128x4096) ![0, 0] S128x4096.size inb_S128x4096_S128x4096_0_0).toLoadRect (View.loadsAt_vmem h_S128x4096)) k

/-- The accumulators' initial contents. -/
def acc₀ : FVec F S128x4096 .f32 := shapeCast S128x4096 (broadcast S128x4096 (Scalar.ofBits .f32 0x00000000#32)) shapeCasts_S128x4096_S128x4096

/-- The row sums' initial value. -/
def sum₀ : FVec F S8x4096 .f32 := broadcast S8x4096 (Scalar.ofBits .f32 0x00000000#32)

/-- An accumulator cleared. -/
def clear (a : Memref sig .tc .vmem S128x4096 .f32) (k : Prog (TpuEff nD τ sig (Elt F) Λ .tc) α) : Prog (TpuEff nD τ sig (Elt F) Λ .tc) α :=
  loadA a fun _ =>
  .op (.store a (Rect.unit (s := S128x4096) ![0, 0] S128x4096.size inb_S128x4096_S128x4096_0_0) acc₀ Finset.univ
    (View.stores_vmem_bits_univ h_S128x4096 rfl) (.inl rfl)) fun _ => k

/-- Up to the second shift's scores: the queries masked, the first chunk scored, both slots' scores read back. -/
def front (cst : F .f32) (a3 : Memref sig .tc .vmem S1x1x4096x128 .f32)
    (k : FVec F S4096x128 .bf16 → FVec F S4096x128 .bf16 → FVec F S8x4096 .f32 → FVec F S256x4096 .f32 → Prog (TpuEff nD τ sig (Elt F) Λ .tc) α) :
    Prog (TpuEff nD τ sig (Elt F) Λ .tc) α :=
  .op (.load a3 (Rect.unit (s := S1x1x4096x128) ![0, 0, 0, 0] S1x1x4096x128.size inb_S1x1x4096x128_S1x1x4096x128_0_0_0_0).toLoadRect
    (View.loadsAt_vmem h_S1x1x4096x128)) fun (x : FVec F S1x1x4096x128 .f32) =>
  loadK a4 ![0, 0, 0, 0] inb_S1x1x8192x128_S1x1x256x128_0_0_0_0 fun kk =>
  scores b.s00 kk (maskQ cst .slt x) <| scores b.s01 kk (maskQ cst .sge x) <|
  loadS b.s00 fun s => loadS b.s01 fun s' => k (maskQ cst .slt x) (maskQ cst .sge x) (shiftOf s) s'

/-- The one-element sum of the ones an array has where it is not finite. -/
def weirdRow (t : FVec F S1x4096 .f32) : F .f32 :=
  extractAt ![0, 0, 0] (shapeCast S1x1x1 (multiReduction .add [1, 2] S1 (shapeCast S1x1x4096 (select (xori (weird t) (constantI S1x4096 1 1#1))
    (broadcast S1x4096 (Scalar.ofBits .f32 0x00000000#32)) (broadcast S1x4096 (Scalar.ofBits .f32 0x3F800000#32))) shapeCasts_S1x4096_S1x1x4096)
    0x00000000#32 reduces_S1x1x4096_S1 (.inl rfl) rfl) shapeCasts_S1_S1x1x1) inpos_S1x1x1_p0_0_0

/-- The same of an accumulator. -/
def weirdAcc (t : FVec F S128x4096 .f32) : F .f32 :=
  extractAt ![0, 0, 0] (shapeCast S1x1x1 (multiReduction .add [1, 2] S1 (shapeCast S1x128x4096 (select (xori (weird t) (constantI S128x4096 1 1#1))
    (broadcast S128x4096 (Scalar.ofBits .f32 0x00000000#32)) (broadcast S128x4096 (Scalar.ofBits .f32 0x3F800000#32))) shapeCasts_S128x4096_S1x128x4096)
    0x00000000#32 reduces_S1x128x4096_S1 (.inl rfl) rfl) shapeCasts_S1_S1x1x1) inpos_S1x1x1_p0_0_0

/-- How many totals and accumulators' elements are not finite. -/
def badOf (t t' : FVec F S1x4096 .f32) (a a' : FVec F S128x4096 .f32) : F .f32 :=
  Scalar.addf (Scalar.addf (Scalar.addf (Scalar.addf (Scalar.ofBits .f32 0x00000000#32) (weirdRow t)) (weirdRow t')) (weirdAcc a)) (weirdAcc a')

/-- The total of the row sums. -/
def totOf (r : FVec F S8x4096 .f32) : FVec F S1x4096 .f32 :=
  shapeCast S1x4096 (multiReduction .add [0] S4096 r 0x00000000#32 reduces_S8x4096_S4096 (.inl rfl) rfl) shapeCasts_S4096_S1x4096

/-- One exponential of a product of two rows of the mixing parameters. -/
def lamExp (x y : FVec F S1x64 .f32) : FVec F S1x1 .f32 :=
  exp (shapeCast S1x1 (multiReduction .add [1] S1 (mulf x y) 0x00000000#32 reduces_S1x64_S1 (.inl rfl) rfl) shapeCasts_S1_S1x1)

/-- The mixing factor. -/
def lamOf (l : FVec F S4x64 .f32) : FVec F S1x1 .f32 :=
  addf (subf (lamExp (extractStridedSlice S1x64 ![0, 0] l slices_S4x64_o0_0_S1x64) (extractStridedSlice S1x64 ![1, 0] l slices_S4x64_o1_0_S1x64))
    (lamExp (extractStridedSlice S1x64 ![2, 0] l slices_S4x64_o2_0_S1x64) (extractStridedSlice S1x64 ![3, 0] l slices_S4x64_o3_0_S1x64)))
    (broadcast S1x1 (Scalar.ofBits .f32 0x3E4CCCCD#32))

/-- The two maps' quotients mixed. -/
def mixOf (t t' : FVec F S1x4096 .f32) (a a' : FVec F S128x4096 .f32) (l : FVec F S4x64 .f32) : FVec F S128x4096 .f32 :=
  subf (divf a (broadcastTo S128x4096 t broadcasts_S1x4096_S128x4096))
    (mulf (broadcastTo S128x4096 (lamOf l) broadcasts_S1x1_S128x4096) (divf a' (broadcastTo S128x4096 t' broadcasts_S1x4096_S128x4096)))

/-- The reciprocal root mean square of each column. -/
def rmsOf (o : FVec F S128x4096 .f32) : FVec F S1x4096 .f32 :=
  rsqrt (addf (divf (shapeCast S1x4096 (multiReduction .add [0] S4096 (mulf o o) 0x00000000#32 reduces_S128x4096_S4096 (.inl rfl) rfl) shapeCasts_S4096_S1x4096)
    (broadcast S1x4096 (Scalar.ofBits .f32 0x43000000#32))) (broadcast S1x4096 (Scalar.ofBits .f32 0x3727C5AC#32)))

/-- The block of results, from the mixed quotients. -/
def normOf (o : FVec F S128x4096 .f32) (g : FVec F S128x1 .f32) : FVec F S1x4096x128 .bf16 :=
  shapeCast S1x4096x128 (truncf .bf16 (transpose S4096x128 [1, 0] (mulf (mulf (mulf o (broadcastTo S128x4096 (rmsOf o) broadcasts_S1x4096_S128x4096))
    (broadcastTo S128x4096 (shapeCast S128x1 g shapeCasts_S128x1_S128x1) broadcasts_S128x1_S128x4096)) (broadcast S128x4096 (Scalar.ofBits .f32 0x3F4CCCCD#32)))
    transposes_S128x4096_p1_0_S4096x128) bitsLt_bf16_f32) shapeCasts_S4096x128_S1x4096x128

/-- Whether a count is equal to zero (`oeq`) or differs from it (`one`), as the program asks it. -/
def asks (pr : CmpFPredicate) (x : F .f32) : Prop :=
  Scalar.cmpi .ne (Scalar.extui (Scalar.cmpf pr x (Scalar.ofBits .f32 0x00000000#32)) : BitVec 32) 0#32 = 1#1

instance (pr : CmpFPredicate) (x : F .f32) : Decidable (asks pr x) :=
  inferInstanceAs (Decidable (Scalar.cmpi .ne (Scalar.extui (Scalar.cmpf pr x (Scalar.ofBits .f32 0x00000000#32)) : BitVec 32) 0#32 = 1#1))

/-- The result block stored. -/
def storeOut (a10 : Memref sig .tc .vmem S1x4096x128 .bf16) (ha10 : a10.IsWhole) (w : FVec F S1x4096x128 .bf16)
    (k : Prog (TpuEff nD τ sig (Elt F) Λ .tc) α) : Prog (TpuEff nD τ sig (Elt F) Λ .tc) α :=
  .op (.load a10 (Rect.unit (s := S1x4096x128) ![0, 0, 0] S1x4096x128.size inb_S1x4096x128_S1x4096x128_0_0_0).toLoadRect (View.loadsAt_vmem h_S1x4096x128)) fun _ =>
  .op (.store a10 (Rect.unit (s := S1x4096x128) ![0, 0, 0] S1x4096x128.size inb_S1x4096x128_S1x4096x128_0_0_0) w Finset.univ
    (View.stores_vmem h_S1x4096x128 (ha10.storeExact_slice rfl _ packedbf16_S1x4096x128_S1x4096x128_0_0_0) (fun _ => rfl)) (.inl rfl)) fun _ => k

/-- The mixing parameters and the scales, loaded. -/
def loadG (a8 : Memref sig .tc .vmem S4x64 .f32) (a9 : Memref sig .tc .vmem S128x1 .f32)
    (k : FVec F S4x64 .f32 → FVec F S128x1 .f32 → Prog (TpuEff nD τ sig (Elt F) Λ .tc) α) : Prog (TpuEff nD τ sig (Elt F) Λ .tc) α :=
  .op (.load a8 (Rect.unit (s := S4x64) ![0, 0] S4x64.size inb_S4x64_S4x64_0_0).toLoadRect (View.loadsAt_vmem h_S4x64)) fun (l : FVec F S4x64 .f32) =>
  .op (.load a9 (Rect.unit (s := S128x1) ![0, 0] S128x1.size inb_S128x1_S128x1_0_0).toLoadRect (View.loadsAt_vmem h_S128x1)) fun (g : FVec F S128x1 .f32) => k l g

/-- The quotients mixed, normalised and stored. -/
def finish (a8 : Memref sig .tc .vmem S4x64 .f32) (a9 : Memref sig .tc .vmem S128x1 .f32) (a10 : Memref sig .tc .vmem S1x4096x128 .bf16) (ha10 : a10.IsWhole)
    (t t' : FVec F S1x4096 .f32) (k : Prog (TpuEff nD τ sig (Elt F) Λ .tc) α) : Prog (TpuEff nD τ sig (Elt F) Λ .tc) α :=
  loadA b.acc0 fun a => loadA b.acc1 fun a' =>
  loadG a8 a9 fun l g => storeOut a10 ha10 (normOf (mixOf t t' a a' l) g) k

/-- After the main loop's last scores: three chunks absorbed, the count of what is not finite, and the result where it is zero. -/
def back (a6 : Memref sig .tc .vmem S1x1x256x128 .bf16) (a7 : Memref sig .tc .vmem S1x1x128x256 .bf16)
    (a8 : Memref sig .tc .vmem S4x64 .f32) (a9 : Memref sig .tc .vmem S128x1 .f32) (a10 : Memref sig .tc .vmem S1x4096x128 .bf16) (ha10 : a10.IsWhole)
    (q q' : FVec F S4096x128 .bf16) (sh sh' part part' : FVec F S8x4096 .f32) :
    Prog (TpuEff nD τ sig (Elt F) Λ .tc) (Σ' (_ : FVec F S4096x128 .bf16) (_ : FVec F S4096x128 .bf16), F .f32) :=
  loadV a5 ![0, 0, 0, 7680] inb_S1x1x128x8192_S1x1x128x256_0_0_0_7680 fun vt => absorb0 b sh sh' vt part part' fun r r' =>
  .op (.load a6 (Rect.unit (s := S1x1x256x128) ![0, 0, 0, 0] S1x1x256x128.size inb_S1x1x256x128_S1x1x256x128_0_0_0_0).toLoadRect (View.loadsAt_vmem h_S1x1x256x128)) fun x =>
  scores b.s00 (shapeCast S256x128 x shapeCasts_S1x1x256x128_S256x128) q <| scores b.s01 (shapeCast S256x128 x shapeCasts_S1x1x256x128_S256x128) q' <|
  loadV a5 ![0, 0, 0, 7936] inb_S1x1x128x8192_S1x1x128x256_0_0_0_7936 fun vt => absorb1 b sh sh' vt r r' fun r r' =>
  .op (.load a7 (Rect.unit (s := S1x1x128x256) ![0, 0, 0, 0] S1x1x128x256.size inb_S1x1x128x256_S1x1x128x256_0_0_0_0).toLoadRect (View.loadsAt_vmem h_S1x1x128x256)) fun y =>
  absorb0 b sh sh' (shapeCast S128x256 y shapeCasts_S1x1x128x256_S128x256) r r' fun r r' =>
  loadA b.acc0 fun a => loadA b.acc1 fun a' =>
  if asks .oeq (badOf (totOf r) (totOf r') a a') then
    finish b a8 a9 a10 ha10 (totOf r) (totOf r') (.ret ⟨q, q', badOf (totOf r) (totOf r') a a'⟩)
  else .ret ⟨q, q', badOf (totOf r) (totOf r') a a'⟩

/-! ## The slow path -/

/-- A chunk's scores, not stored. -/
def rawOf (kk : FVec F S256x128 .bf16) (q : FVec F S4096x128 .bf16) : FVec F S256x4096 .f32 :=
  matmul dot_S256x128_S4096x128_S256x4096_1_1_0_0_n_n none kk q (constant S256x4096 .f32 0x00000000#32)

/-- The running largest score. -/
def upM (m : FVec F S1x4096 .f32) (s : FVec F S256x4096 .f32) : FVec F S1x4096 .f32 :=
  maximumf m (shapeCast S1x4096 (multiReduction .maximumf [0] S4096 s 0xFF800000#32 reduces_S256x4096_S4096 (.inl rfl) rfl) shapeCasts_S4096_S1x4096)

/-- What the earlier chunks are rescaled by. -/
def upA (m : FVec F S1x4096 .f32) (s : FVec F S256x4096 .f32) : FVec F S1x4096 .f32 := exp2 (subf m (upM m s))

/-- The chunk's weights. -/
def upP (m : FVec F S1x4096 .f32) (s : FVec F S256x4096 .f32) : FVec F S256x4096 .f32 :=
  exp2 (subf s (broadcastTo S256x4096 (upM m s) broadcasts_S1x4096_S256x4096))

/-- The running total. -/
def upL (m l : FVec F S1x4096 .f32) (s : FVec F S256x4096 .f32) : FVec F S1x4096 .f32 :=
  addf (mulf (upA m s) l) (shapeCast S1x4096 (multiReduction .add [0] S4096 (upP m s) 0x00000000#32 reduces_S256x4096_S4096 (.inl rfl) rfl) shapeCasts_S4096_S1x4096)

/-- The accumulator rescaled. -/
def upR (m : FVec F S1x4096 .f32) (acc : FVec F S128x4096 .f32) (s : FVec F S256x4096 .f32) : FVec F S128x4096 .f32 :=
  mulf (broadcastTo S128x4096 (upA m s) broadcasts_S1x4096_S128x4096) acc

/-- The accumulator updated. -/
def upV (vt : FVec F S128x256 .bf16) (r : FVec F S128x4096 .f32) (p : FVec F S256x4096 .bf16) : FVec F S128x4096 .f32 :=
  addf r (matmul dot_S128x256_S256x4096_S128x4096_1_0_0_1_n_n none vt p (constant S128x4096 .f32 0x00000000#32))

/-- The context's keys and values, loaded. -/
def loadC (a6 : Memref sig .tc .vmem S1x1x256x128 .bf16) (a7 : Memref sig .tc .vmem S1x1x128x256 .bf16)
    (k : FVec F S256x128 .bf16 → FVec F S128x256 .bf16 → Prog (TpuEff nD τ sig (Elt F) Λ .tc) α) : Prog (TpuEff nD τ sig (Elt F) Λ .tc) α :=
  .op (.load a6 (Rect.unit (s := S1x1x256x128) ![0, 0, 0, 0] S1x1x256x128.size inb_S1x1x256x128_S1x1x256x128_0_0_0_0).toLoadRect (View.loadsAt_vmem h_S1x1x256x128)) fun x =>
  .op (.load a7 (Rect.unit (s := S1x1x128x256) ![0, 0, 0, 0] S1x1x128x256.size inb_S1x1x128x256_S1x1x128x256_0_0_0_0).toLoadRect (View.loadsAt_vmem h_S1x1x128x256)) fun y =>
  k (shapeCast S256x128 x shapeCasts_S1x1x256x128_S256x128) (shapeCast S128x256 y shapeCasts_S1x1x128x256_S128x256)

/-- The slow path's state: per map, the largest score, the total and the accumulator. -/
abbrev Slow (F : FTy → Type) : Type :=
  FVec F S1x4096 .f32 × FVec F S1x4096 .f32 × FVec F S128x4096 .f32 × FVec F S1x4096 .f32 × FVec F S1x4096 .f32 × FVec F S128x4096 .f32

/-- Where the slow path starts. -/
def slow₀ : Slow F :=
  (broadcast S1x4096 (Scalar.ofBits .f32 0xFF800000#32), broadcast S1x4096 (Scalar.ofBits .f32 0x00000000#32), broadcast S128x4096 (Scalar.ofBits .f32 0x00000000#32),
   broadcast S1x4096 (Scalar.ofBits .f32 0xFF800000#32), broadcast S1x4096 (Scalar.ofBits .f32 0x00000000#32), broadcast S128x4096 (Scalar.ofBits .f32 0x00000000#32))

end Cert.Attn
-- ==== Proof.Owned.lean ====
/-
  Loads and stores of a memref owned whole: a load through a rectangle reads the contents there, a store through one
  lays its payload over them.
-/
module

public import proofs.«01_k».proof.Proof.Body
public import Idealize.ShloMosaic.Lib.Memref
public import Idealize.ShloMosaic.Lib.Scf
public import Idealize.ShloMosaic.Rules.Step

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F] {α : Type} {U : Type} [URA U]

local notation "𝕄" => MT nD τ sig Unit (Elt F) ℕ U ℕ

variable (defs : Defs nD τ sig (Elt F) Λ) (𝒱 : Variants) (c : Dev nD) (bd : Option 𝒱.V) (E : Set ℕ)

/-- The rule programs of the kernel's core are verified by. -/
abbrev Wp (p : Prog (TpuEff nD τ sig (Elt F) Λ .tc) α) (Q : α → sProp 𝕄) : sProp 𝕄 :=
  wp frame (wpE defs 𝒱 (c : Thread nD τ) bd) E p Q

variable {s : Shape} {e : EltTy}

theorem load_owns {m : Memref sig .tc .vmem s e} {r : Rect s} {hl : m.view.LoadsAt r.toLoadRect}
    {Q : α → sProp 𝕄} {k : (r.shape.Idx → Elt F e) → Prog (TpuEff nD τ sig (Elt F) Λ .tc) α} {q : PosShare TreeShare} {X : s.Idx → Elt F e} :
    (owns (c : Thread nD τ) m q X : sProp 𝕄) ⊢ iprop((owns (c : Thread nD τ) m q X -∗ Wp defs 𝒱 c bd E (k (View.ld X r)) Q)
      -∗ Wp defs 𝒱 c bd E (.op (.load m r.toLoadRect hl) k) Q) := by
  unfold owns
  iintro ⟨%f, %hf, H⟩ HK
  subst hf
  iapply (wp_load 𝒱 (c : Thread nD τ) bd E (View.setOn_subset_set _ _)) $$ H
  iintro H
  iapply HK
  iexists f
  isplitr
  · ipureintro; rfl
  · iexact H

theorem store_owns {m : Memref sig .tc .vmem s e} {r : Rect s} {w : r.shape.Idx → Elt F e} {hx} {hm}
    {Q : α → sProp 𝕄} {k : PUnit → Prog (TpuEff nD τ sig (Elt F) Λ .tc) α} {X : s.Idx → Elt F e} :
    (owns (c : Thread nD τ) m fullShare X : sProp 𝕄) ⊢ iprop((owns (c : Thread nD τ) m fullShare (r.overlay X w) -∗ Wp defs 𝒱 c bd E (k ⟨⟩) Q)
      -∗ Wp defs 𝒱 c bd E (.op (.store m r w Finset.univ hx hm) k) Q) := by
  unfold owns
  iintro ⟨%f, %hf, H⟩ HK
  subst hf
  iapply (wp_store 𝒱 (c : Thread nD τ) bd E (m := m) (r := r) (w := w) (Mk := Finset.univ) (f := f) (S := m.view.set) ((View.setOn_subset_set _ _).trans (View.set_slice_subset _ _))) $$ H
  iintro H
  iapply HK
  iexists _
  isplitr
  · ipureintro
    funext y
    by_cases hy : y ∈ r.set
    · obtain ⟨x, rfl⟩ := r.exists_idx_of_mem hy
      exact (View.read_slice_write_emb r f w (Finset.mem_univ x)).trans (r.overlay_emb _ _ x).symm
    · exact (View.read_slice_write_of_not_mem r f w Finset.univ (by rwa [Rect.map_emb_univ])).trans (r.overlay_of_not_mem _ _ hy).symm
  · iexact H

/-- A store through the whole-shape rectangle leaves its payload. -/
theorem overlay_unit_zero {off : Fin s.rank → Nat} (h : off = fun _ => 0) (inb : ∀ a, off a + s.size a ≤ s.size a)
    (X w : s.Idx → Elt F e) : (Rect.unit off s.size inb).overlay X w = w := by
  subst h
  funext y
  have e := (Rect.whole s).overlay_emb X w y
  rw [Rect.emb_whole_apply] at e
  exact e

theorem load_all {m : Memref sig .tc .vmem s e} {off : Fin s.rank → Nat} (h : off = fun _ => 0) {inb : ∀ a, off a + s.size a ≤ s.size a} {hl}
    {Q : α → sProp 𝕄} {k : (s.Idx → Elt F e) → Prog (TpuEff nD τ sig (Elt F) Λ .tc) α} {q : PosShare TreeShare} {X : s.Idx → Elt F e} :
    (owns (c : Thread nD τ) m q X : sProp 𝕄) ⊢ iprop((owns (c : Thread nD τ) m q X -∗ Wp defs 𝒱 c bd E (k X) Q)
      -∗ Wp defs 𝒱 c bd E (.op (.load m (Rect.unit off s.size inb).toLoadRect hl) k) Q) := by
  have := load_owns defs 𝒱 c bd E (m := m) (r := Rect.unit off s.size inb) (hl := hl) (k := k) (q := q) (X := X) (Q := Q)
  rwa [View.ld_unit_zero h] at this

theorem store_all {m : Memref sig .tc .vmem s e} {off : Fin s.rank → Nat} (h : off = fun _ => 0) {inb : ∀ a, off a + s.size a ≤ s.size a} {hx} {hm}
    {w : s.Idx → Elt F e} {Q : α → sProp 𝕄} {k : PUnit → Prog (TpuEff nD τ sig (Elt F) Λ .tc) α} {X : s.Idx → Elt F e} :
    (owns (c : Thread nD τ) m fullShare X : sProp 𝕄) ⊢ iprop((owns (c : Thread nD τ) m fullShare w -∗ Wp defs 𝒱 c bd E (k ⟨⟩) Q)
      -∗ Wp defs 𝒱 c bd E (.op (.store m (Rect.unit off s.size inb) w Finset.univ hx hm) k) Q) := by
  have := store_owns defs 𝒱 c bd E (m := m) (r := Rect.unit off s.size inb) (w := w) (hx := hx) (hm := hm) (k := k) (X := X) (Q := Q)
  rwa [overlay_unit_zero h] at this

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

end Cert.Attn
-- ==== Proof.Triple.lean ====
/-
  What the pieces of the kernel's body do: each leaves its buffers at contents written here in closed form.
-/
module

public import proofs.«01_k».proof.Proof.Owned
public import Idealize.ShloMosaic.Lib.ValueIdxCore
public import Idealize.ShloMosaic.Lib.Pointwise.SelectCore

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096
  dot_S256x128_S4096x128_S256x4096_1_1_0_0_n_n dot_S128x256_S256x4096_S128x4096_1_0_0_1_n_n)
open Cert.KernelIdeal.Facts₀ Cert.KernelIdeal.Facts

variable {nD : Nat} {τ : Topo} {sig : RefSig} {Λ : Labels} {F : FTy → Type} [FloatOps F] {α : Type} {U : Type} [URA U]

local notation "𝕄" => MT nD τ sig Unit (Elt F) ℕ U ℕ

/-! ## Contents -/

/-- The upper and the lower eight rows of strip `i`. -/
abbrev loTile (S : FVec F S256x4096 .f32) (i : ℕ) (hi : i < 16) : FVec F S8x4096 .f32 :=
  View.ld (Val := Elt F) (e' := .f32) S (Rect.unit (s := S256x4096) ![16 * i, 0] S8x4096.size (inb_lo i hi))
abbrev hiTile (S : FVec F S256x4096 .f32) (i : ℕ) (hi : i < 16) : FVec F S8x4096 .f32 :=
  View.ld (Val := Elt F) (e' := .f32) S (Rect.unit (s := S256x4096) ![16 * i + 8, 0] S8x4096.size (inb_hi i hi))

/-- Eight rows repeated down a chunk. -/
def spread (sh : FVec F S8x4096 .f32) : FVec F S256x4096 .f32 :=
  fun x => sh (ValueIdx.ix2 (n0 := 8) (n1 := 4096) ⟨(x 0).val % 8, Nat.mod_lt _ (by decide)⟩ (x 1))

/-- A chunk's weights. -/
def weights (S : FVec F S256x4096 .f32) (sh : FVec F S8x4096 .f32) : FVec F S256x4096 .bf16 :=
  truncf .bf16 (exp2 (subf S (spread sh))) bitsLt_bf16_f32

/-- The row sums after `n` strips from strip `i` on. -/
def sumFrom (S : FVec F S256x4096 .f32) (sh : FVec F S8x4096 .f32) : (n i : ℕ) → n + i = 16 → FVec F S8x4096 .f32 → FVec F S8x4096 .f32
  | 0, _, _, part => part
  | n + 1, i, h, part => sumFrom S sh n (i + 1) (by omega) (stripSum sh part (loTile S i (by omega)) (hiTile S i (by omega)))

/-- The row sums after a chunk. -/
def chunkSum (S : FVec F S256x4096 .f32) (sh part : FVec F S8x4096 .f32) : FVec F S8x4096 .f32 := sumFrom S sh 16 0 rfl part

/-- The accumulator after a chunk. -/
def chunkAcc (S : FVec F S256x4096 .f32) (sh : FVec F S8x4096 .f32) (vt : FVec F S128x256 .bf16) (a : FVec F S128x4096 .f32) : FVec F S128x4096 .f32 :=
  shapeCast S128x4096 (addf a (matmul dot_S128x256_S256x4096_S128x4096_1_0_0_1_n_n none vt (weights S sh) (constant S128x4096 .f32 0x00000000#32))) shapeCasts_S128x4096_S128x4096

/-- One row of the rows a strip writes. -/
theorem stripPay_apply (S : FVec F S256x4096 .f32) (sh : FVec F S8x4096 .f32) (i : ℕ) (hi : i < 16)
    (x : (Rect.unit (s := S256x4096) ![16 * i, 0] S16x4096.size (inb_strip i hi)).shape.Idx) :
    stripPay sh (loTile S i hi) (hiTile S i hi) x
      = weights S sh ((Rect.unit (s := S256x4096) ![16 * i, 0] S16x4096.size (inb_strip i hi)).emb x) := by
  have h0 : (x 0).val < 16 := (x 0).isLt
  unfold stripPay weights
  rw [shapeCast_self]
  refine congrArg (fun z : F .f32 => (FloatOps.truncf .bf16 bitsLt_bf16_f32 z : F .bf16)) ?_
  refine (concatenate_pair_apply (t := S16x4096) (s₁ := S8x4096) (s₂ := S8x4096) 0 _ _ concatenates_S8x4096_S8x4096_S16x4096_d0 x).trans ?_
  split
  · next hlt =>
    have h8 : (x 0).val < 8 := hlt
    refine congrArg (fun z : F .f32 => FloatOps.exp2 z) (congrArg₂ (fun z w : F .f32 => FloatOps.subf z w) (congrArg S ?_) (congrArg sh ?_))
    · funext a
      match a with
      | ⟨0, _⟩ => exact Fin.ext (by show 16 * i + 1 * (x 0).val = 16 * i + 1 * (x 0).val; rfl)
      | ⟨1, _⟩ => exact Fin.ext (by show 0 + 1 * (x 1).val = 0 + 1 * (x 1).val; rfl)
    · funext a
      match a with
      | ⟨0, _⟩ => exact Fin.ext (by show (x 0).val = (16 * i + 1 * (x 0).val) % 8; omega)
      | ⟨1, _⟩ => exact Fin.ext (by show (x 1).val = 0 + 1 * (x 1).val; omega)
  · next hlt =>
    have h8 : ¬ (x 0).val < 8 := hlt
    refine congrArg (fun z : F .f32 => FloatOps.exp2 z) (congrArg₂ (fun z w : F .f32 => FloatOps.subf z w) (congrArg S ?_) (congrArg sh ?_))
    · funext a
      match a with
      | ⟨0, _⟩ => exact Fin.ext (by show 16 * i + 8 + 1 * ((x 0).val - 8) = 16 * i + 1 * (x 0).val; omega)
      | ⟨1, _⟩ => exact Fin.ext (by show 0 + 1 * (x 1).val = 0 + 1 * (x 1).val; rfl)
    · funext a
      match a with
      | ⟨0, _⟩ => exact Fin.ext (by show (x 0).val - 8 = (16 * i + 1 * (x 0).val) % 8; omega)
      | ⟨1, _⟩ => exact Fin.ext (by show (x 1).val = 0 + 1 * (x 1).val; omega)

/-- The rows up to strip `i` written. -/
def Upto (S : FVec F S256x4096 .f32) (sh : FVec F S8x4096 .f32) (i : ℕ) (P : FVec F S256x4096 .bf16) : Prop :=
  ∀ x : S256x4096.Idx, (x 0).val < 16 * i → P x = weights S sh x

theorem Upto.step {S : FVec F S256x4096 .f32} {sh : FVec F S8x4096 .f32} {i : ℕ} {P : FVec F S256x4096 .bf16} (h : Upto S sh i P) (hi : i < 16) :
    Upto S sh (i + 1) ((Rect.unit (s := S256x4096) ![16 * i, 0] S16x4096.size (inb_strip i hi)).overlay (α := Elt F .bf16) P
      (stripPay sh (loTile S i hi) (hiTile S i hi))) := by
  intro x hx
  by_cases hm : x ∈ (Rect.unit (s := S256x4096) ![16 * i, 0] S16x4096.size (inb_strip i hi)).set
  · obtain ⟨y, rfl⟩ := (Rect.unit (s := S256x4096) ![16 * i, 0] S16x4096.size (inb_strip i hi)).exists_idx_of_mem hm
    exact (Rect.overlay_emb _ _ _ y).trans (stripPay_apply S sh i hi y)
  · refine (Rect.overlay_of_not_mem _ _ _ hm).trans (h x ?_)
    by_contra hlt
    refine hm (Rect.mem_set_unit.mpr fun a => ?_)
    match a with
    | ⟨0, _⟩ => exact ⟨by show 16 * i ≤ (x 0).val; omega, by show (x 0).val < 16 * i + 16; omega⟩
    | ⟨1, _⟩ => exact ⟨Nat.zero_le _, by show (x 1).val < 0 + 4096; have : (x 1).val < 4096 := (x 1).isLt; omega⟩

theorem Upto.all {S : FVec F S256x4096 .f32} {sh : FVec F S8x4096 .f32} {P : FVec F S256x4096 .bf16} (h : Upto S sh 16 P) : P = weights S sh :=
  funext fun x => h x (by have : (x 0).val < 256 := (x 0).isLt; omega)

/-! ## The pieces -/

variable (defs : Defs nD τ sig (Elt F) Λ) (𝒱 : Variants) (c : Dev nD) (bd : Option 𝒱.V) (E : Set ℕ)

theorem strips_wp {s : Memref sig .tc .vmem S256x4096 .f32} {p : Memref sig .tc .vmem S256x4096 .bf16} {hp : p.IsWhole}
    {S : FVec F S256x4096 .f32} {sh : FVec F S8x4096 .f32} {Q : α → sProp 𝕄} {k : FVec F S8x4096 .f32 → Prog (TpuEff nD τ sig (Elt F) Λ .tc) α} :
    ∀ (n i : ℕ) (h : n + i = 16) (P : FVec F S256x4096 .bf16) (part : FVec F S8x4096 .f32), Upto S sh i P →
    ((owns (c : Thread nD τ) s fullShare S : sProp 𝕄) ⊢ iprop(owns (c : Thread nD τ) p fullShare P
      -∗ (owns (c : Thread nD τ) s fullShare S -∗ owns (c : Thread nD τ) p fullShare (weights S sh) -∗ Wp defs 𝒱 c bd E (k (sumFrom S sh n i h part)) Q)
      -∗ Wp defs 𝒱 c bd E (strips s p hp sh n i h part k) Q))
  | 0, i, h, P, part, hU => by
    obtain rfl : i = 16 := by omega
    obtain rfl := hU.all
    iintro Hs Hp HK
    iapply HK $$ Hs Hp
  | n + 1, i, h, P, part, hU => by
    have ih := fun P' part' hU' => strips_wp (s := s) (p := p) (hp := hp) (S := S) (sh := sh) (Q := Q) (k := k) n (i + 1) (by omega) P' part' hU'
    have hi : i < 16 := by omega
    rw [sumFrom]
    iintro Hs Hp HK
    iapply (load_owns defs 𝒱 c bd E) $$ Hs
    iintro Hs
    iapply (load_owns defs 𝒱 c bd E) $$ Hs
    iintro Hs
    iapply (load_owns defs 𝒱 c bd E) $$ Hp
    iintro Hp
    iapply (store_owns defs 𝒱 c bd E) $$ Hp
    iintro Hp
    iapply (ih _ (stripSum sh part (loTile S i hi) (hiTile S i hi)) (hU.step hi)) $$ Hs Hp HK

/-- A memref owned at some contents. -/
def any (c : Dev nD) {s : Shape} {e : EltTy} (m : Memref sig .tc .vmem s e) : sProp 𝕄 := iprop(∃ X, owns (c : Thread nD τ) m fullShare X)

theorem any_intro (c : Dev nD) {s : Shape} {e : EltTy} (m : Memref sig .tc .vmem s e) (X : s.Idx → Elt F e) :
    (owns (c : Thread nD τ) m fullShare X : sProp 𝕄) ⊢ any c m := by
  unfold any; iintro H; iexists X; iexact H

theorem absorb_wp {s : Memref sig .tc .vmem S256x4096 .f32} {p : Memref sig .tc .vmem S256x4096 .bf16} {hp : p.IsWhole}
    {acc : Memref sig .tc .vmem S128x4096 .f32} {S : FVec F S256x4096 .f32} {A : FVec F S128x4096 .f32} {sh part : FVec F S8x4096 .f32}
    {vt : FVec F S128x256 .bf16} {Q : α → sProp 𝕄} {k : FVec F S8x4096 .f32 → Prog (TpuEff nD τ sig (Elt F) Λ .tc) α} :
    (owns (c : Thread nD τ) s fullShare S : sProp 𝕄) ⊢ iprop(any c p -∗ owns (c : Thread nD τ) acc fullShare A
      -∗ (owns (c : Thread nD τ) s fullShare S -∗ any c p -∗ owns (c : Thread nD τ) acc fullShare (chunkAcc S sh vt A)
          -∗ Wp defs 𝒱 c bd E (k (chunkSum S sh part)) Q)
      -∗ Wp defs 𝒱 c bd E (absorb s p hp acc sh vt part k) Q) := by
  unfold absorb chunkAcc
  iintro Hs Hp Ha HK
  unfold any
  icases Hp with ⟨%P, Hp⟩
  iapply (strips_wp defs 𝒱 c bd E 16 0 rfl P part (fun x hx => absurd hx (by omega))) $$ Hs Hp
  iintro Hs Hp
  iapply (load_all defs 𝒱 c bd E hz2) $$ Ha
  iintro Ha
  iapply (load_all defs 𝒱 c bd E hz2) $$ Hp
  iintro Hp
  iapply (load_all defs 𝒱 c bd E hz2) $$ Ha
  iintro Ha
  iapply (store_all defs 𝒱 c bd E hz2) $$ Ha
  iintro Ha
  iapply HK $$ Hs [Hp] Ha
  iexists _
  iexact Hp

theorem scores_wp {s : Memref sig .tc .vmem S256x4096 .f32} {kk : FVec F S256x128 .bf16} {q : FVec F S4096x128 .bf16}
    {Q : α → sProp 𝕄} {k : Prog (TpuEff nD τ sig (Elt F) Λ .tc) α} :
    (any c s : sProp 𝕄) ⊢ iprop((owns (c : Thread nD τ) s fullShare (scoresOf kk q) -∗ Wp defs 𝒱 c bd E k Q)
      -∗ Wp defs 𝒱 c bd E (scores s kk q k) Q) := by
  unfold scores any
  iintro ⟨%S, Hs⟩ HK
  iapply (load_all defs 𝒱 c bd E hz2) $$ Hs
  iintro Hs
  iapply (store_all defs 𝒱 c bd E hz2) $$ Hs
  iexact HK

theorem clear_wp {a : Memref sig .tc .vmem S128x4096 .f32} {Q : α → sProp 𝕄} {k : Prog (TpuEff nD τ sig (Elt F) Λ .tc) α} :
    (any c a : sProp 𝕄) ⊢ iprop((owns (c : Thread nD τ) a fullShare acc₀ -∗ Wp defs 𝒱 c bd E k Q)
      -∗ Wp defs 𝒱 c bd E (clear a k) Q) := by
  unfold clear loadA any
  iintro ⟨%S, Hs⟩ HK
  iapply (load_all defs 𝒱 c bd E hz2) $$ Hs
  iintro Hs
  iapply (store_all defs 𝒱 c bd E hz2) $$ Hs
  iexact HK

/-! ## Chunks -/

theorem inbK (n : ℕ) (h : n < 32) : ∀ a, (![0, 0, 256 * n, 0] : Fin 4 → ℕ) a + S1x1x256x128.size a ≤ S1x1x8192x128.size a := by
  intro a; match a with
  | ⟨0, _⟩ => show 0 + 1 ≤ 1; omega
  | ⟨1, _⟩ => show 0 + 1 ≤ 1; omega
  | ⟨2, _⟩ => show 256 * n + 256 ≤ 8192; omega
  | ⟨3, _⟩ => show 0 + 128 ≤ 128; omega

theorem inbV (n : ℕ) (h : n < 32) : ∀ a, (![0, 0, 0, 256 * n] : Fin 4 → ℕ) a + S1x1x128x256.size a ≤ S1x1x128x8192.size a := by
  intro a; match a with
  | ⟨0, _⟩ => show 0 + 1 ≤ 1; omega
  | ⟨1, _⟩ => show 0 + 1 ≤ 1; omega
  | ⟨2, _⟩ => show 0 + 128 ≤ 128; omega
  | ⟨3, _⟩ => show 256 * n + 256 ≤ 8192; omega

/-- Chunk `n` of the keys; the context's after the thirty-second. -/
def keys (X4 : FVec F S1x1x8192x128 .bf16) (X6 : FVec F S1x1x256x128 .bf16) (n : ℕ) : FVec F S256x128 .bf16 :=
  if h : n < 32 then
    shapeCast S256x128 (View.ld (Val := Elt F) (e' := .bf16) X4 (Rect.unit (s := S1x1x8192x128) ![0, 0, 256 * n, 0] S1x1x256x128.size (inbK n h)))
      shapeCasts_S1x1x256x128_S256x128
  else shapeCast S256x128 X6 shapeCasts_S1x1x256x128_S256x128

/-- Chunk `n` of the transposed values; the context's after the thirty-second. -/
def vals (X5 : FVec F S1x1x128x8192 .bf16) (X7 : FVec F S1x1x128x256 .bf16) (n : ℕ) : FVec F S128x256 .bf16 :=
  if h : n < 32 then
    shapeCast S128x256 (View.ld (Val := Elt F) (e' := .bf16) X5 (Rect.unit (s := S1x1x128x8192) ![0, 0, 0, 256 * n] S1x1x128x256.size (inbV n h)))
      shapeCasts_S1x1x128x256_S128x256
  else shapeCast S128x256 X7 shapeCasts_S1x1x128x256_S128x256

/-- The row sums of one map after `n` chunks. -/
def sumN (K : ℕ → FVec F S256x128 .bf16) (q : FVec F S4096x128 .bf16) (sh : FVec F S8x4096 .f32) : ℕ → FVec F S8x4096 .f32
  | 0 => sum₀
  | n + 1 => chunkSum (scoresOf (K n) q) sh (sumN K q sh n)

/-- The accumulator of one map after `n` chunks. -/
def accN (K : ℕ → FVec F S256x128 .bf16) (V : ℕ → FVec F S128x256 .bf16) (q : FVec F S4096x128 .bf16) (sh : FVec F S8x4096 .f32) : ℕ → FVec F S128x4096 .f32
  | 0 => acc₀
  | n + 1 => chunkAcc (scoresOf (K n) q) sh (V n) (accN K V q sh n)

theorem loadK_wp {a4 : Memref sig .tc .vmem S1x1x8192x128 .bf16} {X4 : FVec F S1x1x8192x128 .bf16} (X6 : FVec F S1x1x256x128 .bf16)
    {o : Fin 4 → ℕ} {ho : ∀ a, o a + S1x1x256x128.size a ≤ S1x1x8192x128.size a} (n : ℕ) (h : n < 32) (e : o = ![0, 0, 256 * n, 0])
    {Q : α → sProp 𝕄} {k : FVec F S256x128 .bf16 → Prog (TpuEff nD τ sig (Elt F) Λ .tc) α} :
    (owns (c : Thread nD τ) a4 fullShare X4 : sProp 𝕄) ⊢ iprop((owns (c : Thread nD τ) a4 fullShare X4 -∗ Wp defs 𝒱 c bd E (k (keys X4 X6 n)) Q)
      -∗ Wp defs 𝒱 c bd E (loadK a4 o ho k) Q) := by
  subst e
  unfold loadK keys
  rw [dif_pos h]
  iintro H HK
  iapply (load_owns defs 𝒱 c bd E) $$ H
  iexact HK

theorem loadV_wp {a5 : Memref sig .tc .vmem S1x1x128x8192 .bf16} {X5 : FVec F S1x1x128x8192 .bf16} (X7 : FVec F S1x1x128x256 .bf16)
    {o : Fin 4 → ℕ} {ho : ∀ a, o a + S1x1x128x256.size a ≤ S1x1x128x8192.size a} (n : ℕ) (h : n < 32) (e : o = ![0, 0, 0, 256 * n])
    {Q : α → sProp 𝕄} {k : FVec F S128x256 .bf16 → Prog (TpuEff nD τ sig (Elt F) Λ .tc) α} :
    (owns (c : Thread nD τ) a5 fullShare X5 : sProp 𝕄) ⊢ iprop((owns (c : Thread nD τ) a5 fullShare X5 -∗ Wp defs 𝒱 c bd E (k (vals X5 X7 n)) Q)
      -∗ Wp defs 𝒱 c bd E (loadV a5 o ho k) Q) := by
  subst e
  unfold loadV vals
  rw [dif_pos h]
  iintro H HK
  iapply (load_owns defs 𝒱 c bd E) $$ H
  iexact HK

/-- The state between chunks: slot 0 scored for chunk `n`, the accumulators at the chunks before it. -/
def Between (c : Dev nD) (b : Scratch sig) (K : ℕ → FVec F S256x128 .bf16) (V : ℕ → FVec F S128x256 .bf16) (q q' : FVec F S4096x128 .bf16)
    (sh sh' : FVec F S8x4096 .f32) (n : ℕ) : sProp 𝕄 :=
  iprop(owns (c : Thread nD τ) b.s00 fullShare (scoresOf (K n) q) ∗ owns (c : Thread nD τ) b.s01 fullShare (scoresOf (K n) q')
    ∗ any c b.s10 ∗ any c b.s11 ∗ any c b.p0 ∗ any c b.p1
    ∗ owns (c : Thread nD τ) b.acc0 fullShare (accN K V q sh n) ∗ owns (c : Thread nD τ) b.acc1 fullShare (accN K V q' sh' n))

theorem pair_wp {b : Scratch sig} {a4 : Memref sig .tc .vmem S1x1x8192x128 .bf16} {a5 : Memref sig .tc .vmem S1x1x128x8192 .bf16}
    {X4 : FVec F S1x1x8192x128 .bf16} {X5 : FVec F S1x1x128x8192 .bf16} (X6 : FVec F S1x1x256x128 .bf16) (X7 : FVec F S1x1x128x256 .bf16)
    {q q' : FVec F S4096x128 .bf16} {sh sh' part part' : FVec F S8x4096 .f32} {o1 o2 o3 o4 : Fin 4 → ℕ} {h1} {h2} {h3} {h4}
    (t : ℕ) (ht : t < 15) (e1 : o1 = ![0, 0, 256 * (2 * t + 1), 0]) (e2 : o2 = ![0, 0, 0, 256 * (2 * t)]) (e3 : o3 = ![0, 0, 256 * (2 * t + 2), 0])
    (e4 : o4 = ![0, 0, 0, 256 * (2 * t + 1)]) (hp : part = sumN (keys X4 X6) q sh (2 * t)) (hp' : part' = sumN (keys X4 X6) q' sh' (2 * t))
    {Q : α → sProp 𝕄} {k : FVec F S8x4096 .f32 → FVec F S8x4096 .f32 → Prog (TpuEff nD τ sig (Elt F) Λ .tc) α} :
    (owns (c : Thread nD τ) a4 fullShare X4 : sProp 𝕄) ⊢ iprop(owns (c : Thread nD τ) a5 fullShare X5
      -∗ Between c b (keys X4 X6) (vals X5 X7) q q' sh sh' (2 * t)
      -∗ (owns (c : Thread nD τ) a4 fullShare X4 -∗ owns (c : Thread nD τ) a5 fullShare X5 -∗ Between c b (keys X4 X6) (vals X5 X7) q q' sh sh' (2 * t + 2)
        -∗ Wp defs 𝒱 c bd E (k (sumN (keys X4 X6) q sh (2 * t + 2)) (sumN (keys X4 X6) q' sh' (2 * t + 2))) Q)
      -∗ Wp defs 𝒱 c bd E (pair b a4 a5 q q' sh sh' o1 o2 o3 o4 h1 h2 h3 h4 part part' k) Q) := by
  subst hp hp'
  unfold pair absorb0 absorb1 Between
  iintro H4 H5 ⟨H00, H01, H10, H11, Hp0, Hp1, Ha0, Ha1⟩ HK
  iapply (loadK_wp defs 𝒱 c bd E X6 (2 * t + 1) (by omega) e1) $$ H4
  iintro H4
  iapply (scores_wp defs 𝒱 c bd E) $$ H10
  iintro H10
  iapply (scores_wp defs 𝒱 c bd E) $$ H11
  iintro H11
  iapply (loadV_wp defs 𝒱 c bd E X7 (2 * t) (by omega) e2) $$ H5
  iintro H5
  iapply (absorb_wp defs 𝒱 c bd E) $$ H00 Hp0 Ha0
  iintro H00 Hp0 Ha0
  iapply (absorb_wp defs 𝒱 c bd E) $$ H01 Hp1 Ha1
  iintro H01 Hp1 Ha1
  iapply (loadK_wp defs 𝒱 c bd E X6 (2 * t + 2) (by omega) e3) $$ H4
  iintro H4
  iapply (scores_wp defs 𝒱 c bd E) $$ [H00]
  · iapply any_intro $$ H00
  iintro H00
  iapply (scores_wp defs 𝒱 c bd E) $$ [H01]
  · iapply any_intro $$ H01
  iintro H01
  iapply (loadV_wp defs 𝒱 c bd E X7 (2 * t + 1) (by omega) e4) $$ H5
  iintro H5
  iapply (absorb_wp defs 𝒱 c bd E) $$ H10 Hp0 Ha0
  iintro H10 Hp0 Ha0
  iapply (absorb_wp defs 𝒱 c bd E) $$ H11 Hp1 Ha1
  iintro H11 Hp1 Ha1
  iapply HK $$ H4 H5
  isplitl [H00]; · iexact H00
  isplitl [H01]; · iexact H01
  isplitl [H10]; · iapply any_intro $$ H10
  isplitl [H11]; · iapply any_intro $$ H11
  isplitl [Hp0]; · iexact Hp0
  isplitl [Hp1]; · iexact Hp1
  isplitl [Ha0]; · iexact Ha0
  iexact Ha1

end Cert.Attn
-- ==== Proof.Ends.lean ====
/-
  What the kernel's body does before its main loop, after it, and where something was not finite.
-/
module

public import proofs.«01_k».proof.Proof.Triple

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096
  dot_S256x128_S4096x128_S256x4096_1_1_0_0_n_n dot_S128x256_S256x4096_S128x4096_1_0_0_1_n_n)
open Cert.KernelIdeal.Facts₀ Cert.KernelIdeal.Facts

variable {nD : Nat} {τ : Topo} {sig : RefSig} {Λ : Labels} {F : FTy → Type} [FloatOps F] {α : Type} {U : Type} [URA U]

local notation "𝕄" => MT nD τ sig Unit (Elt F) ℕ U ℕ

variable (defs : Defs nD τ sig (Elt F) Λ) (𝒱 : Variants) (c : Dev nD) (bd : Option 𝒱.V) (E : Set ℕ)

/-! ## The block of results in closed form -/

/-- One map's shift, total and accumulator, from its queries. -/
def shift (X4 : FVec F S1x1x8192x128 .bf16) (X6 : FVec F S1x1x256x128 .bf16) (q : FVec F S4096x128 .bf16) : FVec F S8x4096 .f32 :=
  shiftOf (scoresOf (keys X4 X6 0) q)
def total (X4 : FVec F S1x1x8192x128 .bf16) (X6 : FVec F S1x1x256x128 .bf16) (q : FVec F S4096x128 .bf16) : FVec F S1x4096 .f32 :=
  totOf (sumN (keys X4 X6) q (shift X4 X6 q) 33)
def accum (X4 : FVec F S1x1x8192x128 .bf16) (X5 : FVec F S1x1x128x8192 .bf16) (X6 : FVec F S1x1x256x128 .bf16) (X7 : FVec F S1x1x128x256 .bf16)
    (q : FVec F S4096x128 .bf16) : FVec F S128x4096 .f32 :=
  accN (keys X4 X6) (vals X5 X7) q (shift X4 X6 q) 33

/-- How much of both maps' totals and accumulators is not finite. -/
def badness (X4 : FVec F S1x1x8192x128 .bf16) (X5 : FVec F S1x1x128x8192 .bf16) (X6 : FVec F S1x1x256x128 .bf16) (X7 : FVec F S1x1x128x256 .bf16)
    (q q' : FVec F S4096x128 .bf16) : F .f32 :=
  badOf (total X4 X6 q) (total X4 X6 q') (accum X4 X5 X6 X7 q) (accum X4 X5 X6 X7 q')

/-- The block of results where all of it is finite. -/
def fast (X4 : FVec F S1x1x8192x128 .bf16) (X5 : FVec F S1x1x128x8192 .bf16) (X6 : FVec F S1x1x256x128 .bf16) (X7 : FVec F S1x1x128x256 .bf16)
    (X8 : FVec F S4x64 .f32) (X9 : FVec F S128x1 .f32) (q q' : FVec F S4096x128 .bf16) : FVec F S1x4096x128 .bf16 :=
  normOf (mixOf (total X4 X6 q) (total X4 X6 q') (accum X4 X5 X6 X7 q) (accum X4 X5 X6 X7 q') X8) X9

/-! ## Before the main loop -/

theorem front_wp {b : Scratch sig} {a3 : Memref sig .tc .vmem S1x1x4096x128 .f32} {a4 : Memref sig .tc .vmem S1x1x8192x128 .bf16}
    {X3 : FVec F S1x1x4096x128 .f32} {X4 : FVec F S1x1x8192x128 .bf16} (X6 : FVec F S1x1x256x128 .bf16) {cst : F .f32}
    {Q : α → sProp 𝕄} {k} :
    (owns (c : Thread nD τ) a3 fullShare X3 : sProp 𝕄) ⊢ iprop(owns (c : Thread nD τ) a4 fullShare X4 -∗ any c b.s00 -∗ any c b.s01
      -∗ (owns (c : Thread nD τ) a3 fullShare X3 -∗ owns (c : Thread nD τ) a4 fullShare X4
          -∗ owns (c : Thread nD τ) b.s00 fullShare (scoresOf (keys X4 X6 0) (maskQ cst .slt X3))
          -∗ owns (c : Thread nD τ) b.s01 fullShare (scoresOf (keys X4 X6 0) (maskQ cst .sge X3))
          -∗ Wp defs 𝒱 c bd E (k (maskQ cst .slt X3) (maskQ cst .sge X3) (shift X4 X6 (maskQ cst .slt X3)) (scoresOf (keys X4 X6 0) (maskQ cst .sge X3))) Q)
      -∗ Wp defs 𝒱 c bd E (front b a4 cst a3 k) Q) := by
  unfold front loadS shift
  iintro H3 H4 H00 H01 HK
  iapply (load_all defs 𝒱 c bd E hz4) $$ H3
  iintro H3
  iapply (loadK_wp defs 𝒱 c bd E X6 0 (by omega) rfl) $$ H4
  iintro H4
  iapply (scores_wp defs 𝒱 c bd E) $$ H00
  iintro H00
  iapply (scores_wp defs 𝒱 c bd E) $$ H01
  iintro H01
  iapply (load_all defs 𝒱 c bd E hz2) $$ H00
  iintro H00
  iapply (load_all defs 𝒱 c bd E hz2) $$ H01
  iintro H01
  iapply HK $$ H3 H4 H00 H01

/-! ## After it -/

theorem storeOut_wp {a10 : Memref sig .tc .vmem S1x4096x128 .bf16} {ha10 : a10.IsWhole} {w : FVec F S1x4096x128 .bf16}
    {Q : α → sProp 𝕄} {k : Prog (TpuEff nD τ sig (Elt F) Λ .tc) α} :
    (any c a10 : sProp 𝕄) ⊢ iprop((owns (c : Thread nD τ) a10 fullShare w -∗ Wp defs 𝒱 c bd E k Q) -∗ Wp defs 𝒱 c bd E (storeOut a10 ha10 w k) Q) := by
  unfold storeOut any
  iintro ⟨%S, Hs⟩ HK
  iapply (load_all defs 𝒱 c bd E hz3) $$ Hs
  iintro Hs
  iapply (store_all defs 𝒱 c bd E hz3) $$ Hs
  iexact HK

theorem loadG_wp {a8 : Memref sig .tc .vmem S4x64 .f32} {a9 : Memref sig .tc .vmem S128x1 .f32} {X8 : FVec F S4x64 .f32} {X9 : FVec F S128x1 .f32}
    {Q : α → sProp 𝕄} {k : FVec F S4x64 .f32 → FVec F S128x1 .f32 → Prog (TpuEff nD τ sig (Elt F) Λ .tc) α} :
    (owns (c : Thread nD τ) a8 fullShare X8 : sProp 𝕄) ⊢ iprop(owns (c : Thread nD τ) a9 fullShare X9
      -∗ (owns (c : Thread nD τ) a8 fullShare X8 -∗ owns (c : Thread nD τ) a9 fullShare X9 -∗ Wp defs 𝒱 c bd E (k X8 X9) Q)
      -∗ Wp defs 𝒱 c bd E (loadG a8 a9 k) Q) := by
  unfold loadG
  iintro H8 H9 HK
  iapply (load_all defs 𝒱 c bd E hz2) $$ H8
  iintro H8
  iapply (load_all defs 𝒱 c bd E hz2) $$ H9
  iintro H9
  iapply HK $$ H8 H9

theorem loadC_wp {a6 : Memref sig .tc .vmem S1x1x256x128 .bf16} {a7 : Memref sig .tc .vmem S1x1x128x256 .bf16}
    {X6 : FVec F S1x1x256x128 .bf16} {X7 : FVec F S1x1x128x256 .bf16}
    {Q : α → sProp 𝕄} {k : FVec F S256x128 .bf16 → FVec F S128x256 .bf16 → Prog (TpuEff nD τ sig (Elt F) Λ .tc) α} :
    (owns (c : Thread nD τ) a6 fullShare X6 : sProp 𝕄) ⊢ iprop(owns (c : Thread nD τ) a7 fullShare X7
      -∗ (owns (c : Thread nD τ) a6 fullShare X6 -∗ owns (c : Thread nD τ) a7 fullShare X7
        -∗ Wp defs 𝒱 c bd E (k (shapeCast S256x128 X6 shapeCasts_S1x1x256x128_S256x128) (shapeCast S128x256 X7 shapeCasts_S1x1x128x256_S128x256)) Q)
      -∗ Wp defs 𝒱 c bd E (loadC a6 a7 k) Q) := by
  unfold loadC
  iintro H8 H9 HK
  iapply (load_all defs 𝒱 c bd E hz4) $$ H8
  iintro H8
  iapply (load_all defs 𝒱 c bd E hz4) $$ H9
  iintro H9
  iapply HK $$ H8 H9

/-- The scratch buffers at some contents. -/
def Scr (c : Dev nD) (b : Scratch sig) : sProp 𝕄 :=
  iprop(any c b.s00 ∗ any c b.s01 ∗ any c b.s10 ∗ any c b.s11 ∗ any c b.p0 ∗ any c b.p1 ∗ any c b.acc0 ∗ any c b.acc1)

/-- The block of results: what `w` says, where `p` holds. -/
def Out (c : Dev nD) (a10 : Memref sig .tc .vmem S1x4096x128 .bf16) (p : Prop) (w : FVec F S1x4096x128 .bf16) : sProp 𝕄 :=
  iprop(∃ Y, owns (c : Thread nD τ) a10 fullShare Y ∗ ⌜p → Y = w⌝)

theorem out_of_any {a10 : Memref sig .tc .vmem S1x4096x128 .bf16} {p : Prop} {w : FVec F S1x4096x128 .bf16} (h : ¬ p) :
    (any c a10 : sProp 𝕄) ⊢ Out c a10 p w := by
  unfold Out any
  iintro ⟨%Y, H⟩
  iexists Y
  isplitl
  · iexact H
  · ipureintro; exact fun h' => absurd h' h

theorem tail_wp {b : Scratch sig} {a8 : Memref sig .tc .vmem S4x64 .f32} {a9 : Memref sig .tc .vmem S128x1 .f32}
    {a10 : Memref sig .tc .vmem S1x4096x128 .bf16} {ha10 : a10.IsWhole}
    {X4 : FVec F S1x1x8192x128 .bf16} {X5 : FVec F S1x1x128x8192 .bf16} {X6 : FVec F S1x1x256x128 .bf16} {X7 : FVec F S1x1x128x256 .bf16}
    {X8 : FVec F S4x64 .f32} {X9 : FVec F S128x1 .f32} {q q' : FVec F S4096x128 .bf16} {r r' : FVec F S8x4096 .f32} {a a' : FVec F S128x4096 .f32}
    (hr : r = sumN (keys X4 X6) q (shift X4 X6 q) 33) (hr' : r' = sumN (keys X4 X6) q' (shift X4 X6 q') 33)
    (ha : a = accN (keys X4 X6) (vals X5 X7) q (shift X4 X6 q) 33) (ha' : a' = accN (keys X4 X6) (vals X5 X7) q' (shift X4 X6 q') 33)
    {Q : (Σ' (_ : FVec F S4096x128 .bf16) (_ : FVec F S4096x128 .bf16), F .f32) → sProp 𝕄} :
    (owns (c : Thread nD τ) a8 fullShare X8 : sProp 𝕄) ⊢ iprop(owns (c : Thread nD τ) a9 fullShare X9 -∗ any c a10
      -∗ owns (c : Thread nD τ) b.acc0 fullShare a -∗ owns (c : Thread nD τ) b.acc1 fullShare a'
      -∗ (owns (c : Thread nD τ) a8 fullShare X8 -∗ owns (c : Thread nD τ) a9 fullShare X9
          -∗ Out c a10 (asks .oeq (badness X4 X5 X6 X7 q q')) (fast X4 X5 X6 X7 X8 X9 q q') -∗ any c b.acc0 -∗ any c b.acc1
          -∗ Q ⟨q, q', badness X4 X5 X6 X7 q q'⟩)
      -∗ Wp defs 𝒱 c bd E (if asks .oeq (badOf (totOf r) (totOf r') a a') then
            finish b a8 a9 a10 ha10 (totOf r) (totOf r') (.ret ⟨q, q', badOf (totOf r) (totOf r') a a'⟩)
          else .ret ⟨q, q', badOf (totOf r) (totOf r') a a'⟩) Q) := by
  have hb : badOf (totOf r) (totOf r') a a' = badness X4 X5 X6 X7 q q' := by subst hr hr' ha ha'; rfl
  have hf : normOf (mixOf (totOf r) (totOf r') a a' X8) X9 = fast X4 X5 X6 X7 X8 X9 q q' := by subst hr hr' ha ha'; rfl
  rw [hb]
  clear hr hr' ha ha' hb
  iintro H8 H9 H10 Ha0 Ha1 HK
  by_cases h : asks .oeq (badness X4 X5 X6 X7 q q')
  · rw [if_pos h]
    unfold finish loadA
    iapply (load_all defs 𝒱 c bd E hz2) $$ Ha0
    iintro Ha0
    iapply (load_all defs 𝒱 c bd E hz2) $$ Ha1
    iintro Ha1
    iapply (loadG_wp defs 𝒱 c bd E) $$ H8 H9
    iintro H8 H9
    iapply (storeOut_wp defs 𝒱 c bd E) $$ H10
    iintro H10
    unfold Wp
    rw [wp_ret]
    imodintro
    iapply HK $$ H8 H9 [H10] [Ha0] [Ha1]
    · unfold Out; iexists _; isplitl
      · iexact H10
      · ipureintro; exact fun _ => hf
    · iapply any_intro $$ Ha0
    · iapply any_intro $$ Ha1
  · rw [if_neg h]
    unfold Wp
    rw [wp_ret]
    imodintro
    iapply HK $$ H8 H9 [H10] [Ha0] [Ha1]
    · iapply (out_of_any c h) $$ H10
    · iapply any_intro $$ Ha0
    · iapply any_intro $$ Ha1

theorem back_wp {b : Scratch sig} {a5 : Memref sig .tc .vmem S1x1x128x8192 .bf16} {a6 : Memref sig .tc .vmem S1x1x256x128 .bf16}
    {a7 : Memref sig .tc .vmem S1x1x128x256 .bf16} {a8 : Memref sig .tc .vmem S4x64 .f32} {a9 : Memref sig .tc .vmem S128x1 .f32}
    {a10 : Memref sig .tc .vmem S1x4096x128 .bf16} {ha10 : a10.IsWhole}
    (X4 : FVec F S1x1x8192x128 .bf16) {X5 : FVec F S1x1x128x8192 .bf16} {X6 : FVec F S1x1x256x128 .bf16} {X7 : FVec F S1x1x128x256 .bf16}
    {X8 : FVec F S4x64 .f32} {X9 : FVec F S128x1 .f32} {q q' : FVec F S4096x128 .bf16}
    {Q : (Σ' (_ : FVec F S4096x128 .bf16) (_ : FVec F S4096x128 .bf16), F .f32) → sProp 𝕄} :
    (owns (c : Thread nD τ) a5 fullShare X5 : sProp 𝕄) ⊢ iprop(owns (c : Thread nD τ) a6 fullShare X6 -∗ owns (c : Thread nD τ) a7 fullShare X7
      -∗ owns (c : Thread nD τ) a8 fullShare X8 -∗ owns (c : Thread nD τ) a9 fullShare X9 -∗ any c a10
      -∗ owns (c : Thread nD τ) b.s00 fullShare (scoresOf (keys X4 X6 30) q) -∗ owns (c : Thread nD τ) b.s01 fullShare (scoresOf (keys X4 X6 30) q')
      -∗ owns (c : Thread nD τ) b.s10 fullShare (scoresOf (keys X4 X6 31) q) -∗ owns (c : Thread nD τ) b.s11 fullShare (scoresOf (keys X4 X6 31) q')
      -∗ any c b.p0 -∗ any c b.p1
      -∗ owns (c : Thread nD τ) b.acc0 fullShare (accN (keys X4 X6) (vals X5 X7) q (shift X4 X6 q) 30)
      -∗ owns (c : Thread nD τ) b.acc1 fullShare (accN (keys X4 X6) (vals X5 X7) q' (shift X4 X6 q') 30)
      -∗ (owns (c : Thread nD τ) a5 fullShare X5 -∗ owns (c : Thread nD τ) a6 fullShare X6 -∗ owns (c : Thread nD τ) a7 fullShare X7
          -∗ owns (c : Thread nD τ) a8 fullShare X8 -∗ owns (c : Thread nD τ) a9 fullShare X9
          -∗ Out c a10 (asks .oeq (badness X4 X5 X6 X7 q q')) (fast X4 X5 X6 X7 X8 X9 q q') -∗ Scr c b
          -∗ Q ⟨q, q', badness X4 X5 X6 X7 q q'⟩)
      -∗ Wp defs 𝒱 c bd E (back b a5 a6 a7 a8 a9 a10 ha10 q q' (shift X4 X6 q) (shift X4 X6 q')
          (sumN (keys X4 X6) q (shift X4 X6 q) 30) (sumN (keys X4 X6) q' (shift X4 X6 q') 30)) Q) := by
  have k32 : keys X4 X6 32 = shapeCast S256x128 X6 shapeCasts_S1x1x256x128_S256x128 := dif_neg (by omega)
  have v32 : vals X5 X7 32 = shapeCast S128x256 X7 shapeCasts_S1x1x128x256_S128x256 := dif_neg (by omega)
  unfold back absorb0 absorb1 loadA
  iintro H5 H6 H7 H8 H9 H10 H00 H01 H10' H11 Hp0 Hp1 Ha0 Ha1 HK
  iapply (loadV_wp defs 𝒱 c bd E X7 30 (by omega) rfl) $$ H5
  iintro H5
  iapply (absorb_wp defs 𝒱 c bd E) $$ H00 Hp0 Ha0
  iintro H00 Hp0 Ha0
  iapply (absorb_wp defs 𝒱 c bd E) $$ H01 Hp1 Ha1
  iintro H01 Hp1 Ha1
  iapply (load_all defs 𝒱 c bd E hz4) $$ H6
  iintro H6
  rw [← k32]
  iapply (scores_wp defs 𝒱 c bd E) $$ [H00]
  · iapply any_intro $$ H00
  iintro H00
  iapply (scores_wp defs 𝒱 c bd E) $$ [H01]
  · iapply any_intro $$ H01
  iintro H01
  iapply (loadV_wp defs 𝒱 c bd E X7 31 (by omega) rfl) $$ H5
  iintro H5
  iapply (absorb_wp defs 𝒱 c bd E) $$ H10' Hp0 Ha0
  iintro H10' Hp0 Ha0
  iapply (absorb_wp defs 𝒱 c bd E) $$ H11 Hp1 Ha1
  iintro H11 Hp1 Ha1
  iapply (load_all defs 𝒱 c bd E hz4) $$ H7
  iintro H7
  rw [← v32]
  iapply (absorb_wp defs 𝒱 c bd E) $$ H00 Hp0 Ha0
  iintro H00 Hp0 Ha0
  iapply (absorb_wp defs 𝒱 c bd E) $$ H01 Hp1 Ha1
  iintro H01 Hp1 Ha1
  iapply (load_all defs 𝒱 c bd E hz2) $$ Ha0
  iintro Ha0
  iapply (load_all defs 𝒱 c bd E hz2) $$ Ha1
  iintro Ha1
  have hr : ∀ q, chunkSum (scoresOf (keys X4 X6 32) q) (shift X4 X6 q) (chunkSum (scoresOf (keys X4 X6 31) q) (shift X4 X6 q) (chunkSum (scoresOf (keys X4 X6 30) q) (shift X4 X6 q) (sumN (keys X4 X6) q (shift X4 X6 q) 30))) = sumN (keys X4 X6) q (shift X4 X6 q) 33 := fun _ => rfl
  have ha : ∀ q, chunkAcc (scoresOf (keys X4 X6 32) q) (shift X4 X6 q) (vals X5 X7 32) (chunkAcc (scoresOf (keys X4 X6 31) q) (shift X4 X6 q) (vals X5 X7 31) (chunkAcc (scoresOf (keys X4 X6 30) q) (shift X4 X6 q) (vals X5 X7 30) (accN (keys X4 X6) (vals X5 X7) q (shift X4 X6 q) 30))) = accN (keys X4 X6) (vals X5 X7) q (shift X4 X6 q) 33 := fun _ => rfl
  iapply (tail_wp defs 𝒱 c bd E (hr q) (hr q') (ha q) (ha q')) $$ H8 H9 H10 Ha0 Ha1
  iintro H8 H9 H10 Ha0 Ha1
  iapply HK $$ H5 H6 H7 H8 H9 H10
  unfold Scr
  isplitl [H00]; · iapply any_intro $$ H00
  isplitl [H01]; · iapply any_intro $$ H01
  isplitl [H10']; · iapply any_intro $$ H10'
  isplitl [H11]; · iapply any_intro $$ H11
  isplitl [Hp0]; · iexact Hp0
  isplitl [Hp1]; · iexact Hp1
  isplitl [Ha0]; · iexact Ha0
  iexact Ha1

end Cert.Attn
-- ==== Proof.Text.lean ====
/-
  The printed text of the kernel, part by part, is the structured program of Body.lean.
-/
module
public import proofs.«01_k».proof.Proof.Body
@[expose] public section
set_option maxRecDepth 16384
noncomputable section
namespace Cert.KernelIdeal
open Idealize.ShloMosaic Idealize.ShloMosaic.TcCoe Idealize.SL.Sem
open Facts₀ Facts
variable {F : FTy → Type} [FloatOps F] [Named F]

/-- One trip of the main loop, structured. -/
theorem part24_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)

    (v9 v12 : FVec F S4096x128 .bf16) (v29 v34 : FVec F S8x4096 .f32) (t : Fin k0_t1_loop.trips) (x y : FVec F S8x4096 .f32) :
    k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v12 v29 v34 0#32 1#32 t x y
      = Attn.pair ⟨arg11, arg12, arg13, arg14, arg15, harg15, arg16, harg16, arg17, arg18⟩ arg4 arg5 v9 v12 v29 v34
          (k0_off1 t 1#32) (k0_off2 t) (k0_off1 t 2#32) (k0_off3 t) (k0_off1_inb t 0) (k0_off2_inb t) (k0_off1_inb t 1) (k0_off3_inb t)
          x y (fun r r' => .ret ⟨r, r'⟩) := by
  chain_rfl

/-- What comes before the second shift, structured. -/
theorem part29_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)
 :
    k0_part29 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = Attn.front ⟨arg11, arg12, arg13, arg14, arg15, harg15, arg16, harg16, arg17, arg18⟩ arg4 (Named.named κ "q_scale" 0x3E38AA3B#32) arg3 (fun q q' sh s' => .ret ⟨q, q', sh, s'⟩) := by
  chain_rfl

/-- The main loop and the two clears before it, structured. -/
theorem part30_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)

    (v9 v12 : FVec F S4096x128 .bf16) (v29 : FVec F S8x4096 .f32) (v30 : FVec F S256x4096 .f32) :
    k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v12 v29 v30
      = Attn.clear arg17 (Attn.clear arg18 (Scf.Loop.for k0_t1_loop k0_t1_ok ((Attn.sum₀, Attn.sum₀) : FVec F S8x4096 .f32 × FVec F S8x4096 .f32) (fun t p =>
            k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v12 v29 (Attn.shiftOf v30) 0#32 1#32 t p.1 p.2 >>= fun r => .ret (r.1, r.2)) >>= fun s =>
          Attn.loadK arg4 ![0, 0, 7936, 0] inb_S1x1x8192x128_S1x1x256x128_0_0_7936_0 fun kk =>
          Attn.scores arg13 kk v9 <| Attn.scores arg14 kk v12 <| .ret ⟨Attn.shiftOf v30, s.1, s.2⟩)) := by
  chain_rfl

/-- The fast path whole, structured. -/
theorem part66_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)
 :
    k0_part66 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun a => k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.1 a.2.1 a.2.2.1 a.2.2.2 >>= fun z =>
          Attn.back ⟨arg11, arg12, arg13, arg14, arg15, harg15, arg16, harg16, arg17, arg18⟩ arg5 arg6 arg7 arg8 arg9 arg10 harg10 a.1 a.2.1 a.2.2.1 z.1 z.2.1 z.2.2 := by
  chain_rfl

/-- One trip of the loop of the slow path, structured. -/
theorem part26_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)
 (v9 v12 : FVec F S4096x128 .bf16) (t : Fin k0_t2_loop.trips)
    (m l : FVec F S1x4096 .f32) (a : FVec F S128x4096 .f32) (m' l' : FVec F S1x4096 .f32) (a' : FVec F S128x4096 .f32) :
    k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v12 0#32 1#32 t m l a m' l' a'
      = Attn.loadK arg4 (k0_off4 t) (k0_off4_inb t) fun kk => Attn.loadV arg5 (k0_off5 t) (k0_off5_inb t) fun vt =>
          .ret ⟨vt, Attn.upM m (Attn.rawOf kk v9), Attn.upL m l (Attn.rawOf kk v9),
            Attn.upV vt (Attn.upR m a (Attn.rawOf kk v9)) (truncf .bf16 (Attn.upP m (Attn.rawOf kk v9)) bitsLt_bf16_f32),
            Attn.upM m' (Attn.rawOf kk v12), Attn.upL m' l' (Attn.rawOf kk v12), Attn.upR m' a' (Attn.rawOf kk v12),
            truncf .bf16 (Attn.upP m' (Attn.rawOf kk v12)) bitsLt_bf16_f32⟩ := by
  chain_rfl

/-- The slow path's loop and the context's first map, structured. -/
theorem part27_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)
 (v9 v12 : FVec F S4096x128 .bf16) :
    k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v12
      = Scf.Loop.for k0_t2_loop k0_t2_ok (Attn.slow₀ : Attn.Slow F) (fun t p =>
            k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v12 0#32 1#32 t p.1 p.2.1 p.2.2.1 p.2.2.2.1 p.2.2.2.2.1 p.2.2.2.2.2 >>= fun r =>
            .ret ((r.2.1, r.2.2.1, r.2.2.2.1, r.2.2.2.2.1, r.2.2.2.2.2.1, Attn.upV r.1 r.2.2.2.2.2.2.1 r.2.2.2.2.2.2.2) : Attn.Slow F)) >>= fun p =>
          Attn.loadC arg6 arg7 fun kk vt =>
          .ret ⟨p.2.2.2.2.1, p.2.2.2.2.2, vt, Attn.upL p.1 p.2.1 (Attn.rawOf kk v9),
            Attn.upV vt (Attn.upR p.1 p.2.2.1 (Attn.rawOf kk v9)) (truncf .bf16 (Attn.upP p.1 (Attn.rawOf kk v9)) bitsLt_bf16_f32),
            Attn.rawOf kk v12, Attn.upM p.2.2.2.1 (Attn.rawOf kk v12), Attn.upA p.2.2.2.1 (Attn.rawOf kk v12)⟩ := by
  chain_rfl

/-- The slow path's end, structured: the context's second map, then the quotients mixed. -/
theorem part28_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)
 (l : FVec F S1x4096 .f32) (a : FVec F S128x4096 .f32) (vt : FVec F S128x256 .bf16) (t : FVec F S1x4096 .f32)
    (acc : FVec F S128x4096 .f32) (s : FVec F S256x4096 .f32) (m x : FVec F S1x4096 .f32) :
    k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 l a vt t acc s m x
      = Attn.loadG arg8 arg9 fun lam g =>
          let p : FVec F S256x4096 .f32 := exp2 (subf s (broadcastTo S256x4096 m broadcasts_S1x4096_S256x4096))
          let t' : FVec F S1x4096 .f32 := addf (mulf x l) (shapeCast S1x4096 (multiReduction .add [0] S4096 p 0x00000000#32 reduces_S256x4096_S4096 (.inl rfl) rfl) shapeCasts_S4096_S1x4096)
          let o := Attn.mixOf t t' acc (Attn.upV vt (mulf (broadcastTo S128x4096 x broadcasts_S1x4096_S128x4096) a) (truncf .bf16 p bitsLt_bf16_f32)) lam
          .ret ⟨mulf o (broadcastTo S128x4096 (Attn.rmsOf o) broadcasts_S1x4096_S128x4096),
            broadcastTo S128x4096 (shapeCast S128x1 g shapeCasts_S128x1_S128x1) broadcasts_S128x1_S128x4096⟩ := by
  chain_rfl

/-- The kernel whole: the fast path, then the slow one where something was not finite. -/
theorem cc0_eq (i : grid0.Coords) (arg3 : Memref sig .tc .vmem S1x1x4096x128 .f32) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x1x256x128 .bf16) (harg6 : arg6.IsWhole) (arg7 : Memref sig .tc .vmem S1x1x128x256 .bf16) (harg7 : arg7.IsWhole) (arg8 : Memref sig .tc .vmem S4x64 .f32) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S256x4096 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S128x4096 .f32) (harg17 : arg17.IsWhole) (arg18 : Memref sig .tc .vmem S128x4096 .f32) (harg18 : arg18.IsWhole)
 :
    cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = k0_part66 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun a => (if Attn.asks .one a.2.2 then
            k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.1 a.2.1 >>= fun r => k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r.1 r.2.1 r.2.2.1 r.2.2.2.1 r.2.2.2.2.1 r.2.2.2.2.2.1 r.2.2.2.2.2.2.1 r.2.2.2.2.2.2.2 >>= fun z =>
            Attn.storeOut arg10 harg10 (shapeCast S1x4096x128 (truncf .bf16 (transpose S4096x128 [1, 0] (mulf (mulf z.1 z.2) (broadcast S128x4096 (Scalar.ofBits .f32 0x3F4CCCCD#32)))
              transposes_S128x4096_p1_0_S4096x128) bitsLt_bf16_f32) shapeCasts_S4096x128_S1x4096x128) (.ret ⟨⟩)
          else .ret ⟨⟩ : Prog (TpuEff nD τ sig (Elt F) Λ₀ .tc) PUnit) := by
  chain_rfl

end Cert.KernelIdeal
-- ==== Proof.Whole.lean ====
/-
  The kernel's body whole: from its operands and scratch owned, to its operands as they were and the block of results.
-/
module

public import proofs.«01_k».proof.Proof.Ends
public import proofs.«01_k».proof.Proof.Text

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Attn
open Facts₀ Facts

variable {F : FTy → Type} [FloatOps F] [Named F] {U : Type} [URA U]

local notation "𝕄" => MT nD τ sig Unit (Elt F) ℕ U ℕ

variable (defs : Defs nD τ sig (Elt F) Λ₀) (𝒱 : Variants) (c : Dev nD) (bd : Option 𝒱.V) (E : Set ℕ)
variable {X3 : FVec F S1x1x4096x128 .f32} {X4 : FVec F S1x1x8192x128 .bf16} {X5 : FVec F S1x1x128x8192 .bf16} {X6 : FVec F S1x1x256x128 .bf16}
  {X7 : FVec F S1x1x128x256 .bf16} {X8 : FVec F S4x64 .f32} {X9 : FVec F S128x1 .f32}
variable (i : grid0.Coords) (arg3 : Memref sig .tc .vmem S1x1x4096x128 .f32) (harg3 : arg3.IsWhole) (arg4 : Memref sig .tc .vmem S1x1x8192x128 .bf16) (harg4 : arg4.IsWhole)
  (arg5 : Memref sig .tc .vmem S1x1x128x8192 .bf16) (harg5 : arg5.IsWhole) (arg6 : Memref sig .tc .vmem S1x1x256x128 .bf16) (harg6 : arg6.IsWhole)
  (arg7 : Memref sig .tc .vmem S1x1x128x256 .bf16) (harg7 : arg7.IsWhole) (arg8 : Memref sig .tc .vmem S4x64 .f32) (harg8 : arg8.IsWhole)
  (arg9 : Memref sig .tc .vmem S128x1 .f32) (harg9 : arg9.IsWhole) (arg10 : Memref sig .tc .vmem S1x4096x128 .bf16) (harg10 : arg10.IsWhole)
  (arg11 : Memref sig .tc .vmem S256x4096 .f32) (harg11 : arg11.IsWhole) (arg12 : Memref sig .tc .vmem S256x4096 .f32) (harg12 : arg12.IsWhole)
  (arg13 : Memref sig .tc .vmem S256x4096 .f32) (harg13 : arg13.IsWhole) (arg14 : Memref sig .tc .vmem S256x4096 .f32) (harg14 : arg14.IsWhole)
  (arg15 : Memref sig .tc .vmem S256x4096 .bf16) (harg15 : arg15.IsWhole) (arg16 : Memref sig .tc .vmem S256x4096 .bf16) (harg16 : arg16.IsWhole)
  (arg17 : Memref sig .tc .vmem S128x4096 .f32) (harg17 : arg17.IsWhole) (arg18 : Memref sig .tc .vmem S128x4096 .f32) (harg18 : arg18.IsWhole)

/-- The printed scratch. -/
abbrev scr : Scratch sig := ⟨arg11, arg12, arg13, arg14, arg15, harg15, arg16, harg16, arg17, arg18⟩

theorem trips1 : k0_t1_loop.trips = 15 := by decide +kernel

/-- The main loop: thirty chunks absorbed. -/
theorem loop_wp {q q' : FVec F S4096x128 .bf16} {sh sh' : FVec F S8x4096 .f32} {β : Type} {Q : β → sProp 𝕄}
    {kk : FVec F S8x4096 .f32 × FVec F S8x4096 .f32 → Prog (TpuEff nD τ sig (Elt F) Λ₀ .tc) β} :
    (owns (c : Thread nD τ) arg4 fullShare X4 : sProp 𝕄) ⊢ iprop(owns (c : Thread nD τ) arg5 fullShare X5
      -∗ Between c (scr arg11 arg12 arg13 arg14 arg15 harg15 arg16 harg16 arg17 arg18) (keys X4 X6) (vals X5 X7) q q' sh sh' 0
      -∗ (owns (c : Thread nD τ) arg4 fullShare X4 -∗ owns (c : Thread nD τ) arg5 fullShare X5
          -∗ Between c (scr arg11 arg12 arg13 arg14 arg15 harg15 arg16 harg16 arg17 arg18) (keys X4 X6) (vals X5 X7) q q' sh sh' 30
          -∗ Wp defs 𝒱 c bd E (kk (sumN (keys X4 X6) q sh 30, sumN (keys X4 X6) q' sh' 30)) Q)
      -∗ Wp defs 𝒱 c bd E (Scf.Loop.for k0_t1_loop k0_t1_ok ((sum₀, sum₀) : FVec F S8x4096 .f32 × FVec F S8x4096 .f32) (fun t p =>
            k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q q' sh sh' 0#32 1#32 t p.1 p.2 >>= fun r => .ret (r.1, r.2)) >>= kk) Q) := by
  let I : ℕ → FVec F S8x4096 .f32 × FVec F S8x4096 .f32 → sProp 𝕄 := fun t p =>
    iprop(⌜p = (sumN (keys X4 X6) q sh (2 * t), sumN (keys X4 X6) q' sh' (2 * t))⌝ ∗ owns (c : Thread nD τ) arg4 fullShare X4
      ∗ owns (c : Thread nD τ) arg5 fullShare X5 ∗ Between c (scr arg11 arg12 arg13 arg14 arg15 harg15 arg16 harg16 arg17 arg18) (keys X4 X6) (vals X5 X7) q q' sh sh' (2 * t))
  have hb : ∀ (t : Fin k0_t1_loop.trips) (p : FVec F S8x4096 .f32 × FVec F S8x4096 .f32), I t.val p
      ⊢ Wp defs 𝒱 c bd E (k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q q' sh sh' 0#32 1#32 t p.1 p.2 >>= fun r => .ret (r.1, r.2)) (I (t.val + 1)) := by
    intro t p
    have ht : t.val < 15 := trips1 ▸ t.isLt
    rw [part24_eq]
    unfold Wp
    rw [wp_bind]
    dsimp only [I]
    iintro ⟨%hp, H4, H5, HB⟩
    subst hp
    iapply (pair_wp defs 𝒱 c bd E X6 X7 (X4 := X4) (X5 := X5) t.val ht
      ((Gen.k0_off1_eq t 0).trans (congrArg (fun n => (![0, 0, n, 0] : Fin 4 → ℕ)) (by show 512 * t.val + 256 * 0 + 256 = _; omega)))
      ((Gen.k0_off2_eq t).trans (congrArg (fun n => (![0, 0, 0, n] : Fin 4 → ℕ)) (by omega)))
      ((Gen.k0_off1_eq t 1).trans (congrArg (fun n => (![0, 0, n, 0] : Fin 4 → ℕ)) (by show 512 * t.val + 256 * 1 + 256 = _; omega)))
      ((Gen.k0_off3_eq t).trans (congrArg (fun n => (![0, 0, 0, n] : Fin 4 → ℕ)) (by omega))) rfl rfl) $$ H4 H5 HB
    iintro H4 H5 HB
    unfold Wp
    rw [wp_ret, wp_ret]
    imodintro
    imodintro
    isplitr
    · ipureintro; rfl
    isplitl [H4]; · iexact H4
    isplitl [H5]; · iexact H5
    iexact HB
  iintro H4 H5 HB HK
  iapply (Scf.wp_for_bind frame (wpE defs 𝒱 (c : Thread nD τ) bd) E _ _ _ k0_t1_ok _ _ I hb) $$ [H4 H5 HB]
  · dsimp only [I]
    isplitr
    · ipureintro; rfl
    isplitl [H4]; · iexact H4
    isplitl [H5]; · iexact H5
    iexact HB
  iintro %acc HI
  rw [show Scf.trips k0_t1_loop.lb k0_t1_loop.ub k0_t1_loop.st = 15 from trips1]
  dsimp only [I]
  icases HI with ⟨%hp, H4, H5, HB⟩
  subst hp
  iapply HK $$ H4 H5 HB

/-- The slow path leaves its operands as they were. -/
theorem slow_wp {q q' : FVec F S4096x128 .bf16} {Q : PUnit → sProp 𝕄} :
    (owns (c : Thread nD τ) arg4 fullShare X4 : sProp 𝕄) ⊢ iprop(owns (c : Thread nD τ) arg5 fullShare X5
      -∗ owns (c : Thread nD τ) arg6 fullShare X6 -∗ owns (c : Thread nD τ) arg7 fullShare X7
      -∗ owns (c : Thread nD τ) arg8 fullShare X8 -∗ owns (c : Thread nD τ) arg9 fullShare X9 -∗ any c arg10
      -∗ (owns (c : Thread nD τ) arg4 fullShare X4 -∗ owns (c : Thread nD τ) arg5 fullShare X5
          -∗ owns (c : Thread nD τ) arg6 fullShare X6 -∗ owns (c : Thread nD τ) arg7 fullShare X7
          -∗ owns (c : Thread nD τ) arg8 fullShare X8 -∗ owns (c : Thread nD τ) arg9 fullShare X9 -∗ any c arg10 -∗ Q ⟨⟩)
      -∗ Wp defs 𝒱 c bd E (k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q q' >>= fun r =>
          k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r.1 r.2.1 r.2.2.1 r.2.2.2.1 r.2.2.2.2.1 r.2.2.2.2.2.1 r.2.2.2.2.2.2.1 r.2.2.2.2.2.2.2 >>= fun z =>
            Attn.storeOut arg10 harg10 (shapeCast S1x4096x128 (truncf .bf16 (transpose S4096x128 [1, 0] (mulf (mulf z.1 z.2) (broadcast S128x4096 (Scalar.ofBits .f32 0x3F4CCCCD#32)))
              transposes_S128x4096_p1_0_S4096x128) bitsLt_bf16_f32) shapeCasts_S4096x128_S1x4096x128) (.ret ⟨⟩)) Q) := by
  let I : ℕ → Slow F → sProp 𝕄 := fun _ _ =>
    iprop(owns (c : Thread nD τ) arg4 fullShare X4 ∗ owns (c : Thread nD τ) arg5 fullShare X5)
  rw [part27_eq]
  unfold Wp
  rw [wp_bind]
  iintro H4 H5 H6 H7 H8 H9 H10 HK
  iapply (Scf.wp_for_bind frame (wpE defs 𝒱 (c : Thread nD τ) bd) E _ _ _ k0_t2_ok _ _ I ?body) $$ [H4 H5]
  case body =>
    intro t p
    rw [part26_eq]
    rw [wp_bind]
    unfold loadK loadV
    dsimp only [I]
    iintro ⟨H4, H5⟩
    iapply (load_owns defs 𝒱 c bd E) $$ H4
    iintro H4
    iapply (load_owns defs 𝒱 c bd E) $$ H5
    iintro H5
    unfold Wp
    rw [wp_ret, wp_ret]
    imodintro
    imodintro
    isplitl [H4]; · iexact H4
    iexact H5
  · dsimp only [I]
    isplitl [H4]; · iexact H4
    iexact H5
  iintro %acc HI
  dsimp only [I]
  icases HI with ⟨H4, H5⟩
  iapply (loadC_wp defs 𝒱 c bd E) $$ H6 H7
  iintro H6 H7
  unfold Wp
  rw [wp_ret]
  imodintro
  rw [part28_eq, wp_bind]
  iapply (loadG_wp defs 𝒱 c bd E) $$ H8 H9
  iintro H8 H9
  unfold Wp
  rw [wp_ret]
  imodintro
  iapply (storeOut_wp defs 𝒱 c bd E) $$ H10
  iintro H10
  unfold Wp
  rw [wp_ret]
  imodintro
  iapply HK $$ H4 H5 H6 H7 H8 H9 [H10]
  iapply any_intro $$ H10

/-- The operands owned at their contents. -/
def Ins (X3 : FVec F S1x1x4096x128 .f32) (X4 : FVec F S1x1x8192x128 .bf16) (X5 : FVec F S1x1x128x8192 .bf16) (X6 : FVec F S1x1x256x128 .bf16)
    (X7 : FVec F S1x1x128x256 .bf16) (X8 : FVec F S4x64 .f32) (X9 : FVec F S128x1 .f32) : sProp 𝕄 :=
  iprop(owns (c : Thread nD τ) arg3 fullShare X3 ∗ owns (c : Thread nD τ) arg4 fullShare X4 ∗ owns (c : Thread nD τ) arg5 fullShare X5
    ∗ owns (c : Thread nD τ) arg6 fullShare X6 ∗ owns (c : Thread nD τ) arg7 fullShare X7
    ∗ owns (c : Thread nD τ) arg8 fullShare X8 ∗ owns (c : Thread nD τ) arg9 fullShare X9)

/-- The queries' scale, as the program names it. -/
abbrev qScale : F .f32 := Named.named κ "q_scale" 0x3E38AA3B#32

/-- The two maps' queries. -/
abbrev qA (X3 : FVec F S1x1x4096x128 .f32) : FVec F S4096x128 .bf16 := maskQ qScale .slt X3
abbrev qB (X3 : FVec F S1x1x4096x128 .f32) : FVec F S4096x128 .bf16 := maskQ qScale .sge X3

/-- The body: where nothing is counted as not finite, the block of results is the fast path's. -/
theorem cc0_wp {Q : PUnit → sProp 𝕄} :
    (Ins c arg3 arg4 arg5 arg6 arg7 arg8 arg9 X3 X4 X5 X6 X7 X8 X9 : sProp 𝕄) ⊢ iprop(any c arg10 -∗ Scr c (scr arg11 arg12 arg13 arg14 arg15 harg15 arg16 harg16 arg17 arg18)
      -∗ (Ins c arg3 arg4 arg5 arg6 arg7 arg8 arg9 X3 X4 X5 X6 X7 X8 X9
          -∗ Out c arg10 (asks .oeq (badness X4 X5 X6 X7 (qA X3) (qB X3)) ∧ ¬ asks .one (badness X4 X5 X6 X7 (qA X3) (qB X3)))
              (fast X4 X5 X6 X7 X8 X9 (qA X3) (qB X3))
          -∗ Scr c (scr arg11 arg12 arg13 arg14 arg15 harg15 arg16 harg16 arg17 arg18) -∗ Q ⟨⟩)
      -∗ Wp defs 𝒱 c bd E (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  rw [cc0_eq]
  unfold Wp Ins Scr
  rw [wp_bind, part66_eq, wp_bind, part29_eq]
  iintro ⟨H3, H4, H5, H6, H7, H8, H9⟩ H10 ⟨H00, H01, H10', H11, Hp0, Hp1, Ha0, Ha1⟩ HK
  iapply (front_wp defs 𝒱 c bd E X6) $$ H3 H4 H00 H01
  iintro H3 H4 H00 H01
  unfold Wp
  rw [wp_ret]
  imodintro
  dsimp only
  rw [wp_bind, part30_eq, show Attn.shiftOf (scoresOf (keys X4 X6 0) (qB X3)) = shift X4 X6 (qB X3) from rfl]
  iapply (clear_wp defs 𝒱 c bd E) $$ Ha0
  iintro Ha0
  iapply (clear_wp defs 𝒱 c bd E) $$ Ha1
  iintro Ha1
  iapply (loop_wp defs 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (X4 := X4) (X5 := X5) (X6 := X6) (X7 := X7) (q := qA X3) (q' := qB X3) (sh := shift X4 X6 (qA X3)) (sh' := shift X4 X6 (qB X3))) $$ H4 H5 [H00 H01 H10' H11 Hp0 Hp1 Ha0 Ha1]
  · unfold Between
    isplitl [H00]; · iexact H00
    isplitl [H01]; · iexact H01
    isplitl [H10']; · iexact H10'
    isplitl [H11]; · iexact H11
    isplitl [Hp0]; · iexact Hp0
    isplitl [Hp1]; · iexact Hp1
    isplitl [Ha0]; · iexact Ha0
    iexact Ha1
  iintro H4 H5 HB
  unfold Between
  icases HB with ⟨H00, H01, H10', H11, Hp0, Hp1, Ha0, Ha1⟩
  iapply (loadK_wp defs 𝒱 c bd E X6 31 (by omega) rfl) $$ H4
  iintro H4
  iapply (scores_wp defs 𝒱 c bd E) $$ H10'
  iintro H10'
  iapply (scores_wp defs 𝒱 c bd E) $$ H11
  iintro H11
  unfold Wp
  rw [wp_ret]
  imodintro
  iapply (back_wp defs 𝒱 c bd E X4) $$ H5 H6 H7 H8 H9 H10 H00 H01 H10' H11 Hp0 Hp1 Ha0 Ha1
  iintro H5 H6 H7 H8 H9 HO HS
  unfold Out
  by_cases hc : asks .one (badness X4 X5 X6 X7 (qA X3) (qB X3))
  · rw [if_pos hc]
    have hO : (any c arg10 : sProp 𝕄) ⊢ Out c arg10 (asks .oeq (badness X4 X5 X6 X7 (qA X3) (qB X3)) ∧ ¬ asks .one (badness X4 X5 X6 X7 (qA X3) (qB X3)))
      (fast X4 X5 X6 X7 X8 X9 (qA X3) (qB X3)) := out_of_any c fun h => absurd hc h.2
    unfold Out at hO
    icases HO with ⟨%Y, H10, -⟩
    iapply (slow_wp defs 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) $$ H4 H5 H6 H7 H8 H9 [H10]
    · iapply any_intro $$ H10
    iintro H4 H5 H6 H7 H8 H9 H10
    iapply HK $$ [H3 H4 H5 H6 H7 H8 H9] [H10] [HS]
    · isplitl [H3]; · iexact H3
      isplitl [H4]; · iexact H4
      isplitl [H5]; · iexact H5
      isplitl [H6]; · iexact H6
      isplitl [H7]; · iexact H7
      isplitl [H8]; · iexact H8
      iexact H9
    · iapply hO $$ H10
    unfold Scr
    iexact HS
  · rw [if_neg hc, wp_ret]
    imodintro
    icases HO with ⟨%Y, H10, %hY⟩
    iapply HK $$ [H3 H4 H5 H6 H7 H8 H9] [H10] [HS]
    · isplitl [H3]; · iexact H3
      isplitl [H4]; · iexact H4
      isplitl [H5]; · iexact H5
      isplitl [H6]; · iexact H6
      isplitl [H7]; · iexact H7
      isplitl [H8]; · iexact H8
      iexact H9
    · iexists Y
      isplitl
      · iexact H10
      · ipureintro; exact fun h => hY h.1
    unfold Scr
    iexact HS

end Cert.KernelIdeal
-- ==== Proof.Run.lean ====
/-
  The kernel run whole: what every point leaves, so that the arguments end unchanged and every counter at zero, and,
  where nothing is counted as not finite at any point, what the array of results holds.
-/
module

public import proofs.«01_k».proof.Proof.Whole
public import proofs.«01_k».proof.Proof.Gen.KernelIdeal.Frame

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Attn Gen
open Facts₀ Facts

variable {F : FTy → Type} [FloatOps F] [Named F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- The block of results of a point. -/
def outBlk (c : Dev nD) (t : Fin cfg0.N) : FVec F S1x4096x128 .bf16 :=
  fast (iblk m c 1 t) (iblk m c 2 t) (iblk m c 3 t) (iblk m c 4 t) (iblk m c 5 t) (iblk m c 6 t) (qA (iblk m c 0 t)) (qB (iblk m c 0 t))

/-- The count of what is not finite at a point. -/
def badAt (c : Dev nD) (t : Fin cfg0.N) : F .f32 :=
  badness (iblk m c 1 t) (iblk m c 2 t) (iblk m c 3 t) (iblk m c 4 t) (qA (iblk m c 0 t)) (qB (iblk m c 0 t))

/-- Nothing is counted as not finite at a point. -/
def Good (c : Dev nD) (t : Fin cfg0.N) : Prop := asks .oeq (badAt m c t) ∧ ¬ asks .one (badAt m c t)

/-- What the run is proved from: every operand's block left in place, and the block of results. -/
def dats (p : Fin 1) (c : Dev nD) : Dat τ (Elt F) Unit ℕ (UR sig nD τ) ℕ (cfgs p) c :=
  match p with
  | ⟨0, _⟩ =>
    { A := fun w => V m c (Pipeline.arrRef spec0 w)
      after := fun w t => match w with
        | ⟨7, _⟩ => outBlk m c t
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => iblk m c 5 t
        | ⟨6, _⟩ => iblk m c 6 t
        | ⟨n + 8, h⟩ => absurd h (by show ¬ n + 8 < 8; omega)
      Φ := fun _ => Pipeline.ΦA spec0 c
      q := fun _ => fullShare
      owed := fun _ => 0 }

/-- The scratch the kernel is handed. -/
abbrev scr0 : Scratch sig :=
  scr (Memref.whole cc0_scratch0) (Memref.whole cc0_scratch1) (Memref.whole cc0_scratch2) (Memref.whole cc0_scratch3)
    (Memref.whole cc0_scratch4) (Memref.isWhole_whole _) (Memref.whole cc0_scratch5) (Memref.isWhole_whole _)
    (Memref.whole cc0_scratch6) (Memref.whole cc0_scratch7)

theorem scr_eq (c : Dev nD) :
    (Pipeline.scopedRest (Ix := Unit) (Name := ℕ) (U := UR sig nD τ) (Lvl := ℕ) (Val := Elt F) spec0 c : sProp 𝕄) = Scr c scr0 := by
  rw [scopedRest0_eq]
  unfold Scr any
  simp only [owns_whole]
  rfl

/-- One point. -/
theorem point_wp (c : Dev nD) (t : Fin cfg0.N) {Q : PUnit → sProp 𝕄} :
    (Ins c (st0_0 t) (st0_1 t) (st0_2 t) (st0_3 t) (st0_4 t) (st0_5 t) (st0_6 t)
        (iblk m c 0 t) (iblk m c 1 t) (iblk m c 2 t) (iblk m c 3 t) (iblk m c 4 t) (iblk m c 5 t) (iblk m c 6 t) : sProp 𝕄)
      ⊢ iprop(any c (st0_7 t) -∗ Scr c scr0
      -∗ (Ins c (st0_0 t) (st0_1 t) (st0_2 t) (st0_3 t) (st0_4 t) (st0_5 t) (st0_6 t)
            (iblk m c 0 t) (iblk m c 1 t) (iblk m c 2 t) (iblk m c 3 t) (iblk m c 4 t) (iblk m c 5 t) (iblk m c 6 t)
          -∗ Out c (st0_7 t) (Good m c t) (outBlk m c t) -∗ Scr c scr0 -∗ Q ⟨⟩)
      -∗ wp frame (wpE defs₀ 𝒱₀ (c : Thread nD τ) none) Set.univ (bodyAt0 t) Q) :=
  cc0_wp defs₀ 𝒱₀ c none Set.univ (X3 := iblk m c 0 t) (X4 := iblk m c 1 t) (X5 := iblk m c 2 t) (X6 := iblk m c 3 t) (X7 := iblk m c 4 t)
    (X8 := iblk m c 5 t) (X9 := iblk m c 6 t) (grid0.coords t) (st0_0 t) _ (st0_1 t) _ (st0_2 t) _ (st0_3 t) _ (st0_4 t) _ (st0_5 t) _ (st0_6 t) _ (st0_7 t) _
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)

section Before
variable (c : Dev nD) (t : Fin cfg0.N)
theorem before0 (d) : (dats m 0 c).before 0 t d = iblk m c 0 t := before0_0_of m (dats m 0 c) rfl (fun _ => rfl) t d
theorem before1 (d) : (dats m 0 c).before 1 t d = iblk m c 1 t := before0_1_of m (dats m 0 c) rfl (fun _ => rfl) t d
theorem before2 (d) : (dats m 0 c).before 2 t d = iblk m c 2 t := before0_2_of m (dats m 0 c) rfl (fun _ => rfl) t d
theorem before3 (d) : (dats m 0 c).before 3 t d = iblk m c 3 t := before0_3_of m (dats m 0 c) rfl (fun _ => rfl) t d
theorem before4 (d) : (dats m 0 c).before 4 t d = iblk m c 4 t := before0_4_of m (dats m 0 c) rfl (fun _ => rfl) t d
theorem before5 (d) : (dats m 0 c).before 5 t d = iblk m c 5 t := before0_5_of m (dats m 0 c) rfl (fun _ => rfl) t d
theorem before6 (d) : (dats m 0 c).before 6 t d = iblk m c 6 t := before0_6_of m (dats m 0 c) rfl (fun _ => rfl) t d
end Before

/-- The operands' memrefs at a point, at their blocks. -/
abbrev InsAt (c : Dev nD) (t : Fin cfg0.N) : sProp 𝕄 :=
  Ins c (st0_0 t) (st0_1 t) (st0_2 t) (st0_3 t) (st0_4 t) (st0_5 t) (st0_6 t)
    (iblk m c 0 t) (iblk m c 1 t) (iblk m c 2 t) (iblk m c 3 t) (iblk m c 4 t) (iblk m c 5 t) (iblk m c 6 t)

/-- The window of results. -/
abbrev seven : Fin cfg0.W → Bool := fun w => w.val == 7

/-- A point, from what the pipeline hands the body to what it takes back, the results at whatever `P` makes of them. -/
theorem body_wp (c : Dev nD) (t : Fin cfg0.N) {R P : sProp 𝕄} (hR : R ⊢ any c (st0_7 t)) (hP : Out c (st0_7 t) (Good m c t) (outBlk m c t) ⊢ P) :
    iprop(Pipeline.ΦA spec0 c ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ R)
    ⊢ wp frame (wpE defs₀ 𝒱₀ (c : Thread nD τ) none) Set.univ (bodyAt0 t) fun _ =>
      iprop(Pipeline.ΦA spec0 c ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (iblk m c 6 t) ∗ P) := by
  simp only [before0, before1, before2, before3, before4, before5, before6]
  unfold Pipeline.ΦA
  rw [scr_eq]
  iintro ⟨⟨Hs, Hr⟩, Ho, ⟨%_, H0⟩, ⟨%_, H1⟩, ⟨%_, H2⟩, ⟨%_, H3⟩, ⟨%_, H4⟩, ⟨%_, H5⟩, ⟨%_, H6⟩, H7⟩
  iapply (point_wp m c t) $$ [H0 H1 H2 H3 H4 H5 H6] [H7] Hs
  · unfold Ins
    isplitl [H0]; · iexact H0
    isplitl [H1]; · iexact H1
    isplitl [H2]; · iexact H2
    isplitl [H3]; · iexact H3
    isplitl [H4]; · iexact H4
    isplitl [H5]; · iexact H5
    iexact H6
  · iapply hR; iexact H7
  unfold Ins
  iintro ⟨H0, H1, H2, H3, H4, H5, H6⟩ H7 Hs
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hP; iexact H7

/-- A point, the results at contents not named. -/
theorem body_any (c : Dev nD) : BodyObligationLoose (dats m 0 c) defs₀ 𝒱₀ () Set.univ seven := fun t => by
  rw [bigSep_W0, bigSep_W0]
  exact body_wp m c t (R := iprop(∃ X, owns (c : Thread nD τ) (st0_7 t) fullShare X)) (P := iprop(∃ X, owns (c : Thread nD τ) (st0_7 t) fullShare X))
    (by unfold any; exact .rfl) (by unfold Out; iintro ⟨%Y, H, %_⟩; iexists Y; iexact H)

/-- A point where nothing is counted as not finite, the results named. -/
theorem body_good (hg : ∀ c t, Good m c t) (c : Dev nD) : BodyObligationLoose (dats m 0 c) defs₀ 𝒱₀ () Set.univ := fun t => by
  rw [bigSep_W0, bigSep_W0]
  exact body_wp m c t (R := iprop(∃ d, owns (c : Thread nD τ) (st0_7 t) fullShare ((dats m 0 c).before 7 t d)))
    (P := owns (c : Thread nD τ) (st0_7 t) fullShare (outBlk m c t))
    (by unfold any; iintro ⟨%d, H⟩; iexists ((dats m 0 c).before 7 t d); iexact H)
    (by unfold Out; iintro ⟨%Y, H, %h⟩; rw [h (hg c t)]; iexact H)

theorem share_eq (c : Dev nD) (w : Fin cfg0.W) : (dats m 0 c).share w = fullShare := by
  unfold Dat.share; split <;> rfl

/-- The run, the results at contents not named: the arguments end unchanged, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_forget cfgs (dats m) (0 : Fin 1) launch0 defs₀ 𝒱₀ seven m ρ main (body_any m) (share_eq m) (fun _ _ => rfl)
    (V m) (hmain m 𝒱₀) (fun _ _ => rfl) (fun _ _ => rfl) (Q' := _) (hQ' := fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (((dats m 0 c).toRForget_arrAt_iff (fgt := seven) (w := 5) rfl _ _).mp ((h.1 c).1 5)).trans (((dats m 0 c).arrAt_in 5 rfl _).trans (V_main_arg5 m c)),
      ((h.1 c).2 main_arg6 (Pipeline.mem_restRefs_of main_arg6 (by decide) (by decide))).trans (V_main_arg6 m c)⟩, h.2⟩)

/-- The run where nothing is counted as not finite at any point: the array of results is what the points' blocks make it,
    the arguments end unchanged. -/
theorem run_value (hg : ∀ c t, Good m c t) : θ_run defs (onTc (τ := τ) (main (F := F))) ⟨m, fun _ => 0, ρ⟩ (fun r => ∀ c : Dev nD,
      r.2.mem ((c.tc : Thread nD τ).loc main_v13) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_frame cfgs (dats m) (0 : Fin 1) launch0 defs₀ 𝒱₀ m ρ main (body_good m hg) (share_eq m) (fun _ _ => rfl)
    (V m) (hmain m 𝒱₀) (fun _ _ => rfl) (fun _ _ => rfl) (Q' := _) (hQ' := fun _ h c =>
      ⟨(h.1 c).1 7,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 5).trans (((dats m 0 c).arrAt_in 5 rfl _).trans (V_main_arg5 m c)),
      ((h.1 c).2 main_arg6 (Pipeline.mem_restRefs_of main_arg6 (by decide) (by decide))).trans (V_main_arg6 m c)⟩)

end Cert.KernelIdeal

end
-- ==== Proof.Same.lean ====
/-
  The program before the constant was named is the program after it, the name read as the bits it stands beside.
-/
module

public import proofs.«01_k».proof.Proof.Gen.Kernel
public import proofs.«01_k».proof.Proof.Run
public import Idealize.ShloMosaic.Lib.Pipeline.Regions

@[expose] public section

set_option maxRecDepth 16384

noncomputable section

namespace Cert

open Idealize.ShloMosaic Idealize.ShloMosaic.TcCoe Idealize.SL.Sem

variable {F : FTy → Type} [FloatOps F]

/-- A named constant read as the bits it stands beside. -/
abbrev plain : Named F where
  named _ _ _ bits := Scalar.ofBits _ bits

theorem defs_eq : Kernel.defs (F := F) = @KernelIdeal.defs F _ plain _ := by chain_rfl

theorem main_eq : Kernel.main (F := F) = @KernelIdeal.main F _ _ := by chain_rfl

/-- The frame of the program before the constant was named, from the one after it: the two statements are the same text. -/
theorem kernel_frame (m : (ℓ : Loc Kernel.nD Kernel.τ Kernel.sig) → Buf (Elt F) ℓ) (ρ : Dev Kernel.nD → PrngReg) :
    θ_run (Kernel.defs (F := F)) (onTc (τ := Kernel.τ) (Kernel.main (F := F))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3)
      ∧ r.2.mem ((c.tc : Thread Kernel.nD Kernel.τ).loc Kernel.main_arg4) = m ((c.tc : Thread Kernel.nD Kernel.τ).loc Kernel.main_arg4)
      ∧ r.2.mem ((c.tc : Thread Kernel.nD Kernel.τ).loc Kernel.main_arg5) = m ((c.tc : Thread Kernel.nD Kernel.τ).loc Kernel.main_arg5)
      ∧ r.2.mem ((c.tc : Thread Kernel.nD Kernel.τ).loc Kernel.main_arg6) = m ((c.tc : Thread Kernel.nD Kernel.τ).loc Kernel.main_arg6))
      ∧ r.2.sem = fun _ => 0) := by
  rw [defs_eq, main_eq]
  exact @KernelIdeal.run_frame F _ plain m ρ

end Cert
-- ==== Proof.Point.lean ====
/-
  The pieces of the kernel's block at one element, as sums of extended reals.
-/
module

public import proofs.«01_k».proof.Proof.Whole
public import Idealize.ShloMosaic.Lib.Pointwise

@[expose] public section

set_option maxRecDepth 16384

noncomputable section

namespace Cert.Attn

open Idealize.ShloMosaic
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096
  dot_S256x128_S4096x128_S256x4096_1_1_0_0_n_n dot_S128x256_S256x4096_S128x4096_1_0_0_1_n_n)
open Cert.KernelIdeal.Facts₀ Cert.KernelIdeal.Facts

theorem scoresOf_apply (K : FVec Ideal S256x128 .bf16) (q : FVec Ideal S4096x128 .bf16) (x : Fin 256) (r : Fin 4096) :
    scoresOf K q (ix2 x r) = ∑ e : Fin 128, K (ix2 x e) * q (ix2 r e) := by
  pointwise [scoresOf]

theorem shiftOf_apply (s : FVec Ideal S256x4096 .f32) (u : Fin 8) (r : Fin 4096) :
    shiftOf s (ix2 u r) = Finset.univ.fold max ⊥ fun x : Fin 256 => s (ix2 x r) := by
  pointwise [shiftOf]
  rw [show Ideal.ofBits .f32 0xFF800000#32 = (⊥ : EReal) by simp [Ideal.ofBits, Ideal.ieee]]

theorem weights_apply (S : FVec Ideal S256x4096 .f32) (sh : FVec Ideal S8x4096 .f32) (x : Fin 256) (r : Fin 4096) :
    weights S sh (ix2 x r) = Ideal.exp2 (S (ix2 x r) - sh (ix2 ⟨x.val % 8, Nat.mod_lt _ (by decide)⟩ r)) := by
  pointwise [weights, spread]
  rfl

theorem chunkAcc_apply (S : FVec Ideal S256x4096 .f32) (sh : FVec Ideal S8x4096 .f32) (V : FVec Ideal S128x256 .bf16) (a : FVec Ideal S128x4096 .f32)
    (e : Fin 128) (r : Fin 4096) :
    chunkAcc S sh V a (ix2 e r) = a (ix2 e r) + ∑ x : Fin 256, V (ix2 e x) * weights S sh (ix2 x r) := by
  pointwise [chunkAcc]

theorem stripSum_apply (S : FVec Ideal S256x4096 .f32) (sh part : FVec Ideal S8x4096 .f32) (i : ℕ) (hi : i < 16) (u : Fin 8) (r : Fin 4096) :
    stripSum sh part (loTile S i hi) (hiTile S i hi) (ix2 u r)
      = part (ix2 u r) + (Ideal.exp2 (S (ix2 ⟨16 * i + u.val, by omega⟩ r) - sh (ix2 u r)) + Ideal.exp2 (S (ix2 ⟨16 * i + 8 + u.val, by omega⟩ r) - sh (ix2 u r))) := by
  pointwise [stripSum, loTile, hiTile]
  rfl

theorem totOf_apply (R : FVec Ideal S8x4096 .f32) (r : Fin 4096) : totOf R (ix2 0 r) = ∑ u : Fin 8, R (ix2 u r) := by
  pointwise [totOf]

theorem acc₀_apply (e : Fin 128) (r : Fin 4096) : (acc₀ : FVec Ideal S128x4096 .f32) (ix2 e r) = 0 := by
  pointwise [acc₀]

theorem sum₀_apply (u : Fin 8) (r : Fin 4096) : (sum₀ : FVec Ideal S8x4096 .f32) (ix2 u r) = 0 := by
  pointwise [sum₀]

/-- The lanes below the sixty-fourth, and the others, as the program tells them apart. -/
theorem lanes (e : Fin 128) : IntOp.cmpi .slt (BitVec.ofNat 32 e.val) 64#32 = (if e.val < 64 then 1#1 else 0#1)
    ∧ IntOp.cmpi .sge (BitVec.ofNat 32 e.val) 64#32 = (if e.val < 64 then 0#1 else 1#1) := by
  revert e; decide +kernel

theorem maskA_apply (cst : Ideal .f32) (X : FVec Ideal S1x1x4096x128 .f32) (r : Fin 4096) (e : Fin 128) :
    maskQ cst .slt X (ix2 r e) = if e.val < 64 then X (ix4 0 0 r e) * cst else 0 := by
  pointwise [maskQ]
  rw [(lanes e).1]
  split <;> rfl

theorem maskB_apply (cst : Ideal .f32) (X : FVec Ideal S1x1x4096x128 .f32) (r : Fin 4096) (e : Fin 128) :
    maskQ cst .sge X (ix2 r e) = if e.val < 64 then 0 else X (ix4 0 0 r e) * cst := by
  pointwise [maskQ]
  rw [(lanes e).2]
  split <;> rfl

theorem lamOf_apply (l : FVec Ideal S4x64 .f32) :
    lamOf l (ix2 0 0) = Ideal.exp (∑ d : Fin 64, l (ix2 0 d) * l (ix2 1 d)) - Ideal.exp (∑ d : Fin 64, l (ix2 2 d) * l (ix2 3 d)) + Ideal.ofBits .f32 0x3E4CCCCD#32 := by
  pointwise [lamOf, lamExp]

theorem mixOf_apply (t t' : FVec Ideal S1x4096 .f32) (a a' : FVec Ideal S128x4096 .f32) (l : FVec Ideal S4x64 .f32) (e : Fin 128) (r : Fin 4096) :
    mixOf t t' a a' l (ix2 e r) = Ideal.div (a (ix2 e r)) (t (ix2 0 r)) - lamOf l (ix2 0 0) * Ideal.div (a' (ix2 e r)) (t' (ix2 0 r)) := by
  pointwise [mixOf]

theorem normOf_apply (o : FVec Ideal S128x4096 .f32) (g : FVec Ideal S128x1 .f32) (r : Fin 4096) (e : Fin 128) :
    normOf o g (ix3 0 r e) = o (ix2 e r) * Ideal.rsqrt (Ideal.div (∑ k : Fin 128, o (ix2 k r) * o (ix2 k r)) (Ideal.ofBits .f32 0x43000000#32) + Ideal.ofBits .f32 0x3727C5AC#32)
      * g (ix2 e 0) * Ideal.ofBits .f32 0x3F4CCCCD#32 := by
  pointwise [normOf, rmsOf]

/-- A number that is not infinite counts for nothing. -/
theorem weird_none (x : Ideal .f32) (h : x ≠ ⊤ ∧ x ≠ ⊥) :
    Scalar.select (IntOp.xori (FloatOps.weird (F := Ideal) x) 1#1) (0 : EReal) 1 = 0 := by
  have : FloatOps.weird (F := Ideal) x = 0#1 := by
    show BitVec.ofBool (decide ((x : EReal) = ⊤ ∨ (x : EReal) = ⊥)) = 0#1
    simp [h.1, h.2]
  rw [this]; rfl

theorem weirdRow_apply (t : FVec Ideal S1x4096 .f32) (h : ∀ r, t (ix2 0 r) ≠ ⊤ ∧ t (ix2 0 r) ≠ ⊥) : weirdRow t = 0 := by
  pointwise [weirdRow]
  exact Finset.sum_eq_zero fun _ _ => Finset.sum_eq_zero fun r _ => weird_none _ (h r)

theorem weirdAcc_apply (t : FVec Ideal S128x4096 .f32) (h : ∀ e r, t (ix2 e r) ≠ ⊤ ∧ t (ix2 e r) ≠ ⊥) : weirdAcc t = 0 := by
  pointwise [weirdAcc]
  exact Finset.sum_eq_zero fun e _ => Finset.sum_eq_zero fun r _ => weird_none _ (h e r)

/-- Where no total and no accumulator is infinite, the count is zero, and both questions are answered accordingly. -/
theorem badOf_zero (t t' : FVec Ideal S1x4096 .f32) (a a' : FVec Ideal S128x4096 .f32) (h : ∀ r, t (ix2 0 r) ≠ ⊤ ∧ t (ix2 0 r) ≠ ⊥)
    (h' : ∀ r, t' (ix2 0 r) ≠ ⊤ ∧ t' (ix2 0 r) ≠ ⊥) (g : ∀ e r, a (ix2 e r) ≠ ⊤ ∧ a (ix2 e r) ≠ ⊥) (g' : ∀ e r, a' (ix2 e r) ≠ ⊤ ∧ a' (ix2 e r) ≠ ⊥) :
    badOf t t' a a' = 0 := by
  unfold badOf
  rw [weirdRow_apply t h, weirdRow_apply t' h', weirdAcc_apply a g, weirdAcc_apply a' g']
  show Ideal.ofBits .f32 0#32 + 0 + 0 + 0 + 0 = (0 : EReal)
  rw [Ideal.ofBits_zero_f32]; simp

theorem asks_zero : asks .oeq (0 : Ideal .f32) ∧ ¬ asks .one (0 : Ideal .f32) := by
  unfold asks
  have e : (Scalar.ofBits .f32 0x00000000#32 : Ideal .f32) = 0 := Ideal.ofBits_zero_f32
  rw [e]
  have h1 : (Scalar.cmpf .oeq (0 : Ideal .f32) 0) = 1#1 := by
    show Ideal.cmp .oeq (0 : EReal) 0 = 1#1
    simp [Ideal.cmp]
  have h2 : (Scalar.cmpf .one (0 : Ideal .f32) 0) = 0#1 := by
    show Ideal.cmp .one (0 : EReal) 0 = 0#1
    simp [Ideal.cmp]
  rw [h1, h2]
  decide

end Cert.Attn

end
-- ==== Proof.Real.lean ====
/-
  One map of the kernel on real numbers: with real keys, values and queries, the totals and the accumulators are sums of
  real powers over all the keys, and their quotient is the average of the values under the exponentials of the scores.
-/
module

public import proofs.«01_k».proof.Proof.Point
public import Mathlib.Analysis.SpecialFunctions.Pow.Real

@[expose] public section

set_option maxRecDepth 16384

noncomputable section

namespace Cert.Attn

open Idealize.ShloMosaic
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096
  dot_S256x128_S4096x128_S256x4096_1_1_0_0_n_n dot_S128x256_S256x4096_S128x4096_1_0_0_1_n_n)
open Cert.KernelIdeal.Facts₀ Cert.KernelIdeal.Facts

/-- A sum of real numbers, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers is a real number. -/
theorem fold_max_coe {n : ℕ} (f : Fin (n + 1) → ℝ) : ∃ y : ℝ, (Finset.univ.fold max ⊥ fun x => ((f x : ℝ) : EReal)) = y := by
  obtain ⟨i, -, h⟩ := Finset.exists_mem_eq_sup (Finset.univ : Finset (Fin (n + 1))) Finset.univ_nonempty (fun x => ((f x : ℝ) : EReal))
  exact ⟨f i, h⟩

theorem exp2_coe (x : ℝ) : Ideal.exp2 (x : EReal) = (((2 : ℝ) ^ x : ℝ) : EReal) := rfl

theorem div_coe_coe (a b : ℝ) (h : b ≠ 0) : Ideal.div (a : EReal) (b : EReal) = ((a / b : ℝ) : EReal) := by
  unfold Ideal.div
  rw [if_neg (by simpa using h), ← EReal.coe_inv, ← EReal.coe_mul, div_eq_mul_inv]

/-- The score of key `j`. -/
def score (k : ℕ → Fin 128 → ℝ) (q : Fin 128 → ℝ) (j : ℕ) : ℝ := ∑ e : Fin 128, k j e * q e

/-- Two tiles of eight rows make a strip of sixteen, sixteen strips a chunk. -/
theorem sum_strips (w : ℕ → ℝ) (n : ℕ) :
    ∑ u ∈ Finset.range 8, ∑ j ∈ Finset.range n, (w (16 * j + u) + w (16 * j + 8 + u)) = ∑ x ∈ Finset.range (16 * n), w x := by
  induction n with
  | zero => simp
  | succ n ih =>
    have h16 : ∑ x ∈ Finset.range (16 * (n + 1)), w x = ∑ x ∈ Finset.range (16 * n), w x + ∑ x ∈ Finset.range 16, w (16 * n + x) := by
      rw [show 16 * (n + 1) = 16 * n + 16 by ring, Finset.sum_range_add]
    rw [h16, ← ih]
    simp only [Finset.sum_range_succ _ n, Finset.sum_add_distrib]
    simp only [Finset.sum_range_succ, Finset.sum_range_zero, Nat.add_assoc]
    simp only [Nat.reduceAdd, add_zero]
    ring

/-- The chunks one after another are all the keys. -/
theorem sum_chunks (w : ℕ → ℝ) (n : ℕ) :
    ∑ i ∈ Finset.range n, ∑ x ∈ Finset.range 256, w (256 * i + x) = ∑ j ∈ Finset.range (256 * n), w j := by
  induction n with
  | zero => simp
  | succ n ih => rw [Finset.sum_range_succ, ih, show 256 * (n + 1) = 256 * n + 256 by ring, Finset.sum_range_add]

section OneQuery

variable {S : FVec Ideal S256x4096 .f32} {sh part : FVec Ideal S8x4096 .f32} {r : Fin 4096} {s : ℕ → ℝ} {y : ℝ}

theorem sumFrom_coe (hS : ∀ x : Fin 256, S (ix2 x r) = (s x.val : EReal)) (u : Fin 8) (hsh : sh (ix2 u r) = (y : EReal)) (n : ℕ) :
    ∀ (i : ℕ) (h : n + i = 16) (part : FVec Ideal S8x4096 .f32) (p : ℝ), part (ix2 u r) = (p : EReal) →
    sumFrom S sh n i h part (ix2 u r)
      = ((p + ∑ j ∈ Finset.range n, ((2 : ℝ) ^ (s (16 * (i + j) + u.val) - y) + (2 : ℝ) ^ (s (16 * (i + j) + 8 + u.val) - y)) : ℝ) : EReal) := by
  induction n with
  | zero => intro i h part p hp; simpa [sumFrom] using hp
  | succ n ih =>
    intro i h part p hp
    rw [sumFrom, ih (i + 1) (by omega) _ (p + ((2 : ℝ) ^ (s (16 * i + u.val) - y) + (2 : ℝ) ^ (s (16 * i + 8 + u.val) - y)))]
    · rw [Finset.sum_range_succ', add_assoc, add_comm (∑ _ ∈ _, _) _]
      simp only [add_zero, show ∀ j, i + 1 + j = i + (j + 1) from fun j => by omega]
    · rw [stripSum_apply, hp, hS, hS, hsh, ← EReal.coe_sub, ← EReal.coe_sub, exp2_coe, exp2_coe, ← EReal.coe_add, ← EReal.coe_add]

theorem chunkSum_coe (hS : ∀ x : Fin 256, S (ix2 x r) = (s x.val : EReal)) (u : Fin 8) (hsh : sh (ix2 u r) = (y : EReal))
    {p : ℝ} (hp : part (ix2 u r) = (p : EReal)) :
    chunkSum S sh part (ix2 u r)
      = ((p + ∑ j ∈ Finset.range 16, ((2 : ℝ) ^ (s (16 * j + u.val) - y) + (2 : ℝ) ^ (s (16 * j + 8 + u.val) - y)) : ℝ) : EReal) := by
  rw [chunkSum, sumFrom_coe hS u hsh 16 0 rfl part p hp]
  simp only [Nat.zero_add]

theorem chunkAcc_coe (hS : ∀ x : Fin 256, S (ix2 x r) = (s x.val : EReal)) (hsh : ∀ u : Fin 8, sh (ix2 u r) = (y : EReal))
    {V : FVec Ideal S128x256 .bf16} {e : Fin 128} {v : ℕ → ℝ} (hV : ∀ x : Fin 256, V (ix2 e x) = (v x.val : EReal))
    {a : FVec Ideal S128x4096 .f32} {p : ℝ} (hp : a (ix2 e r) = (p : EReal)) :
    chunkAcc S sh V a (ix2 e r) = ((p + ∑ x ∈ Finset.range 256, v x * (2 : ℝ) ^ (s x - y) : ℝ) : EReal) := by
  rw [chunkAcc_apply, hp, EReal.coe_add, Finset.sum_range (n := 256), coe_sum]
  refine congrArg _ (Finset.sum_congr rfl fun x _ => ?_)
  rw [weights_apply, hS, hsh, hV, ← EReal.coe_sub, exp2_coe, ← EReal.coe_mul]

end OneQuery

section OneMap

variable {K : ℕ → FVec Ideal S256x128 .bf16} {V : ℕ → FVec Ideal S128x256 .bf16} {q : FVec Ideal S4096x128 .bf16} {sh : FVec Ideal S8x4096 .f32}
  {r : Fin 4096} {k : ℕ → Fin 128 → ℝ} {v : ℕ → Fin 128 → ℝ} {p : Fin 128 → ℝ} {y : ℝ} {N : ℕ}

theorem scoresOf_coe {n : ℕ} (hK : ∀ (x : Fin 256) (e : Fin 128), K n (ix2 x e) = (k (256 * n + x.val) e : EReal))
    (hq : ∀ e, q (ix2 r e) = (p e : EReal)) (x : Fin 256) : scoresOf (K n) q (ix2 x r) = (score k p (256 * n + x.val) : EReal) := by
  rw [scoresOf_apply, score, coe_sum]
  refine Finset.sum_congr rfl fun e _ => ?_
  rw [hK, hq, ← EReal.coe_mul]

theorem sumN_coe (hK : ∀ n < N, ∀ (x : Fin 256) (e : Fin 128), K n (ix2 x e) = (k (256 * n + x.val) e : EReal))
    (hq : ∀ e, q (ix2 r e) = (p e : EReal)) (hsh : ∀ u : Fin 8, sh (ix2 u r) = (y : EReal)) (u : Fin 8) (n : ℕ) (hn : n ≤ N) :
    sumN K q sh n (ix2 u r) = ((∑ i ∈ Finset.range n, ∑ j ∈ Finset.range 16,
      ((2 : ℝ) ^ (score k p (256 * i + (16 * j + u.val)) - y) + (2 : ℝ) ^ (score k p (256 * i + (16 * j + 8 + u.val)) - y)) : ℝ) : EReal) := by
  induction n with
  | zero => rw [sumN, sum₀_apply]; simp
  | succ n ih =>
    rw [sumN, chunkSum_coe (s := fun x => score k p (256 * n + x)) (scoresOf_coe (hK n (by omega)) hq) u (hsh u) (ih (by omega)),
      Finset.sum_range_succ _ n]

theorem accN_coe (hK : ∀ n < N, ∀ (x : Fin 256) (e : Fin 128), K n (ix2 x e) = (k (256 * n + x.val) e : EReal))
    (hV : ∀ n < N, ∀ (e : Fin 128) (x : Fin 256), V n (ix2 e x) = (v (256 * n + x.val) e : EReal))
    (hq : ∀ e, q (ix2 r e) = (p e : EReal)) (hsh : ∀ u : Fin 8, sh (ix2 u r) = (y : EReal)) (e : Fin 128) (n : ℕ) (hn : n ≤ N) :
    accN K V q sh n (ix2 e r) = ((∑ j ∈ Finset.range (256 * n), v j e * (2 : ℝ) ^ (score k p j - y) : ℝ) : EReal) := by
  rw [← sum_chunks]
  induction n with
  | zero => rw [accN, acc₀_apply]; simp
  | succ n ih =>
    rw [accN, chunkAcc_coe (s := fun x => score k p (256 * n + x)) (v := fun x => v (256 * n + x) e) (scoresOf_coe (hK n (by omega)) hq) hsh
      (hV n (by omega) e) (ih (by omega)), Finset.sum_range_succ _ n]

theorem totOf_coe (hK : ∀ n < N, ∀ (x : Fin 256) (e : Fin 128), K n (ix2 x e) = (k (256 * n + x.val) e : EReal))
    (hq : ∀ e, q (ix2 r e) = (p e : EReal)) (hsh : ∀ u : Fin 8, sh (ix2 u r) = (y : EReal)) :
    totOf (sumN K q sh N) (ix2 0 r) = ((∑ j ∈ Finset.range (256 * N), (2 : ℝ) ^ (score k p j - y) : ℝ) : EReal) := by
  rw [totOf_apply, ← sum_chunks]
  simp only [sumN_coe hK hq hsh _ N le_rfl]
  rw [← coe_sum, Finset.sum_comm]
  refine congrArg _ (Finset.sum_congr rfl fun i _ => ?_)
  rw [← sum_strips (fun x => (2 : ℝ) ^ (score k p (256 * i + x) - y)) 16, Finset.sum_range (n := 8)]

theorem shiftOf_coe {S : FVec Ideal S256x4096 .f32} {s : Fin 256 → ℝ} (hS : ∀ x : Fin 256, S (ix2 x r) = (s x : EReal)) :
    ∃ y : ℝ, ∀ u : Fin 8, shiftOf S (ix2 u r) = (y : EReal) := by
  obtain ⟨y, hy⟩ := fold_max_coe s
  refine ⟨y, fun u => ?_⟩
  rw [shiftOf_apply, ← hy]
  exact congrArg (fun f => Finset.univ.fold max ⊥ f) (funext hS)

end OneMap

/-- The average of the values of the keys under the exponentials of the scores. -/
def average (t : ℕ → ℝ) (v : ℕ → ℝ) : ℝ :=
  (∑ j ∈ Finset.range 8448, v j * Real.exp (t j)) / ∑ j ∈ Finset.range 8448, Real.exp (t j)

theorem total_pos (s : ℕ → ℝ) (y : ℝ) : (0 : ℝ) < ∑ j ∈ Finset.range 8448, (2 : ℝ) ^ (s j - y) :=
  Finset.sum_pos (fun _ _ => Real.rpow_pos_of_pos (by norm_num) _) ⟨0, by simp⟩

/-- The shift cancels, and powers of two of scaled scores are exponentials. -/
theorem quotient (s t v : ℕ → ℝ) (y : ℝ) (h : ∀ j, s j = t j * (Real.log 2)⁻¹) :
    (∑ j ∈ Finset.range 8448, v j * (2 : ℝ) ^ (s j - y)) / (∑ j ∈ Finset.range 8448, (2 : ℝ) ^ (s j - y)) = average t v := by
  have hl : Real.log 2 ≠ 0 := (Real.log_pos (by norm_num)).ne'
  have e : ∀ j, (2 : ℝ) ^ (s j - y) = Real.exp (t j) * (2 : ℝ) ^ (-y) := by
    intro j
    rw [sub_eq_add_neg, Real.rpow_add (by norm_num), h, Real.rpow_def_of_pos (by norm_num : (0 : ℝ) < 2) (t j * _)]
    congr 2
    field_simp
  simp only [e, ← mul_assoc, ← Finset.sum_mul]
  rw [mul_div_mul_right _ _ (Real.rpow_pos_of_pos (by norm_num) _).ne', average]

end Cert.Attn

end
-- ==== Proof.Blocks.lean ====
/-
  The blocks the kernel reads, element by element, as elements of the arguments.
-/
module

public import proofs.«01_k».proof.Proof.Run
public import Idealize.ShloMosaic.Lib.Pointwise
public import Idealize.ShloMosaic.Lib.StableHlo.ReadAt

@[expose] public section

set_option maxRecDepth 16384

noncomputable section

namespace Cert.KernelIdeal

open Idealize.ShloMosaic Idealize.ShloMosaic.TcCoe Idealize.ShloMosaic.Tactic
open Idealize.SL.Sem
open Idealize.ShloMosaic.Pipeline (Dat Cfg Window)
open Cert.Attn Gen
open Facts₀ Facts

variable {F : FTy → Type} [FloatOps F] [Named F]
variable (m : (ℓ : Loc nD τ sig) → Buf (Elt F) ℓ)

/-- The batch, the head and the tile of queries of a point. -/
def bOf (t : Fin cfg0.N) : Fin 4 := ⟨t.val / 16, by have := t.isLt; have : cfg0.N = 64 := N_0; omega⟩
def hOf (t : Fin cfg0.N) : Fin 8 := ⟨t.val / 2 % 8, by omega⟩
def nOf (t : Fin cfg0.N) (r : Fin 4096) : Fin 8192 := ⟨4096 * (t.val % 2) + r.val, by omega⟩

theorem index0 : ∀ t : Fin grid0.N, win0_0.index t = ![t.val / 16, t.val / 2 % 8, t.val % 2, 0] := by decide +kernel
theorem index1 : ∀ t : Fin grid0.N, win0_1.index t = ![t.val / 16, t.val / 2 % 8, 0, 0] := by decide +kernel
theorem index2 : ∀ t : Fin grid0.N, win0_2.index t = ![t.val / 16, t.val / 2 % 8, 0, 0] := by decide +kernel
theorem index3 : ∀ t : Fin grid0.N, win0_3.index t = ![t.val / 16, t.val / 2 % 8, 0, 0] := by decide +kernel
theorem index4 : ∀ t : Fin grid0.N, win0_4.index t = ![t.val / 16, t.val / 2 % 8, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val / 16, t.val % 2, t.val / 2 % 8] := by decide +kernel

section AtIdeal

variable (m : (ℓ : Loc nD τ sig) → Buf (Elt Ideal) ℓ) (c : Dev nD) (t : Fin cfg0.N)

theorem V1 (b : Fin 4) (h : Fin 8) (n : Fin 8192) (e : Fin 128) :
    (V m c main_v1 : FVec Ideal S4x8x8192x128 .f32) (ix4 b h n e)
      = (m ((c : Thread nD τ).loc main_arg0) : FVec Ideal S4x8192x8x2x64 .f32) (ix5 b n h ⟨e.val / 64, by omega⟩ ⟨e.val % 64, by omega⟩) := by
  unfold V
  after_reads_at

theorem V4 (b : Fin 4) (h : Fin 8) (n : Fin 8192) (e : Fin 128) :
    (V m c main_v4 : FVec Ideal S4x8x8192x128 .bf16) (ix4 b h n e)
      = (m ((c : Thread nD τ).loc main_arg1) : FVec Ideal S4x8192x8x2x64 .f32) (ix5 b n h ⟨e.val / 64, by omega⟩ ⟨e.val % 64, by omega⟩) := by
  unfold V
  after_reads_at

theorem V6 (b : Fin 4) (h : Fin 8) (e : Fin 128) (n : Fin 8192) :
    (V m c main_v6 : FVec Ideal S4x8x128x8192 .bf16) (ix4 b h e n)
      = (m ((c : Thread nD τ).loc main_arg2) : FVec Ideal S4x8192x8x128 .f32) (ix4 b n h e) := by
  unfold V
  after_reads_at

theorem V9 (b : Fin 4) (h : Fin 8) (n : Fin 256) (e : Fin 128) :
    (V m c main_v9 : FVec Ideal S4x8x256x128 .bf16) (ix4 b h n e)
      = (m ((c : Thread nD τ).loc main_arg3) : FVec Ideal S4x256x8x2x64 .f32) (ix5 b n h ⟨e.val / 64, by omega⟩ ⟨e.val % 64, by omega⟩) := by
  unfold V
  after_reads_at

theorem V11 (b : Fin 4) (h : Fin 8) (e : Fin 128) (n : Fin 256) :
    (V m c main_v11 : FVec Ideal S4x8x128x256 .bf16) (ix4 b h e n)
      = (m ((c : Thread nD τ).loc main_arg4) : FVec Ideal S4x256x8x128 .f32) (ix4 b n h e) := by
  unfold V
  after_reads_at

theorem V12 (e : Fin 128) :
    (V m c main_v12 : FVec Ideal S128x1 .f32) (ix2 e 0) = (m ((c : Thread nD τ).loc main_arg6) : FVec Ideal S128 .f32) (ix1 e) := by
  unfold V
  after_reads_at

theorem iblk0 (r : Fin 4096) (e : Fin 128) :
    (iblk m c 0 t : FVec Ideal S1x1x4096x128 .f32) (ix4 0 0 r e) = (m ((c : Thread nD τ).loc main_arg0) : FVec Ideal S4x8192x8x2x64 .f32) (ix5 (bOf t) (nOf t r) (hOf t) ⟨e.val / 64, by omega⟩ ⟨e.val % 64, by omega⟩) := by
  have hi := index0 t
  unfold iblk
  rw [View.read_apply]
  refine Eq.trans (b := (V m c main_v1 : _) (_)) (congrArg (V m c main_v1) ?_) (V1 m c (bOf t) (hOf t) (nOf t r) e)
  funext a
  apply Fin.ext
  match a with
  | ⟨0, _⟩ => show win0_0.index t 0 * 1 + 1 * 0 = t.val / 16; rw [hi]; simp [Nat.mul_comm]
  | ⟨1, _⟩ => show win0_0.index t 1 * 1 + 1 * 0 = t.val / 2 % 8; rw [hi]; simp [Nat.mul_comm]
  | ⟨2, _⟩ => show win0_0.index t 2 * 4096 + 1 * r.val = 4096 * (t.val % 2) + r.val; rw [hi]; simp [Nat.mul_comm]
  | ⟨3, _⟩ => show win0_0.index t 3 * 128 + 1 * e.val = e.val; rw [hi]; simp [Nat.mul_comm]

theorem iblk1 (n : Fin 8192) (e : Fin 128) :
    (iblk m c 1 t : FVec Ideal S1x1x8192x128 .bf16) (ix4 0 0 n e) = (m ((c : Thread nD τ).loc main_arg1) : FVec Ideal S4x8192x8x2x64 .f32) (ix5 (bOf t) n (hOf t) ⟨e.val / 64, by omega⟩ ⟨e.val % 64, by omega⟩) := by
  have hi := index1 t
  unfold iblk
  rw [View.read_apply]
  refine Eq.trans (b := (V m c main_v4 : _) (_)) (congrArg (V m c main_v4) ?_) (V4 m c (bOf t) (hOf t) n e)
  funext a
  apply Fin.ext
  match a with
  | ⟨0, _⟩ => show win0_1.index t 0 * 1 + 1 * 0 = t.val / 16; rw [hi]; simp [Nat.mul_comm]
  | ⟨1, _⟩ => show win0_1.index t 1 * 1 + 1 * 0 = t.val / 2 % 8; rw [hi]; simp [Nat.mul_comm]
  | ⟨2, _⟩ => show win0_1.index t 2 * 8192 + 1 * n.val = n.val; rw [hi]; simp [Nat.mul_comm]
  | ⟨3, _⟩ => show win0_1.index t 3 * 128 + 1 * e.val = e.val; rw [hi]; simp [Nat.mul_comm]

theorem iblk2 (e : Fin 128) (n : Fin 8192) :
    (iblk m c 2 t : FVec Ideal S1x1x128x8192 .bf16) (ix4 0 0 e n) = (m ((c : Thread nD τ).loc main_arg2) : FVec Ideal S4x8192x8x128 .f32) (ix4 (bOf t) n (hOf t) e) := by
  have hi := index2 t
  unfold iblk
  rw [View.read_apply]
  refine Eq.trans (b := (V m c main_v6 : _) (_)) (congrArg (V m c main_v6) ?_) (V6 m c (bOf t) (hOf t) e n)
  funext a
  apply Fin.ext
  match a with
  | ⟨0, _⟩ => show win0_2.index t 0 * 1 + 1 * 0 = t.val / 16; rw [hi]; simp [Nat.mul_comm]
  | ⟨1, _⟩ => show win0_2.index t 1 * 1 + 1 * 0 = t.val / 2 % 8; rw [hi]; simp [Nat.mul_comm]
  | ⟨2, _⟩ => show win0_2.index t 2 * 128 + 1 * e.val = e.val; rw [hi]; simp [Nat.mul_comm]
  | ⟨3, _⟩ => show win0_2.index t 3 * 8192 + 1 * n.val = n.val; rw [hi]; simp [Nat.mul_comm]

theorem iblk3 (n : Fin 256) (e : Fin 128) :
    (iblk m c 3 t : FVec Ideal S1x1x256x128 .bf16) (ix4 0 0 n e) = (m ((c : Thread nD τ).loc main_arg3) : FVec Ideal S4x256x8x2x64 .f32) (ix5 (bOf t) n (hOf t) ⟨e.val / 64, by omega⟩ ⟨e.val % 64, by omega⟩) := by
  have hi := index3 t
  unfold iblk
  rw [View.read_apply]
  refine Eq.trans (b := (V m c main_v9 : _) (_)) (congrArg (V m c main_v9) ?_) (V9 m c (bOf t) (hOf t) n e)
  funext a
  apply Fin.ext
  match a with
  | ⟨0, _⟩ => show win0_3.index t 0 * 1 + 1 * 0 = t.val / 16; rw [hi]; simp [Nat.mul_comm]
  | ⟨1, _⟩ => show win0_3.index t 1 * 1 + 1 * 0 = t.val / 2 % 8; rw [hi]; simp [Nat.mul_comm]
  | ⟨2, _⟩ => show win0_3.index t 2 * 256 + 1 * n.val = n.val; rw [hi]; simp [Nat.mul_comm]
  | ⟨3, _⟩ => show win0_3.index t 3 * 128 + 1 * e.val = e.val; rw [hi]; simp [Nat.mul_comm]

theorem iblk4 (e : Fin 128) (n : Fin 256) :
    (iblk m c 4 t : FVec Ideal S1x1x128x256 .bf16) (ix4 0 0 e n) = (m ((c : Thread nD τ).loc main_arg4) : FVec Ideal S4x256x8x128 .f32) (ix4 (bOf t) n (hOf t) e) := by
  have hi := index4 t
  unfold iblk
  rw [View.read_apply]
  refine Eq.trans (b := (V m c main_v11 : _) (_)) (congrArg (V m c main_v11) ?_) (V11 m c (bOf t) (hOf t) e n)
  funext a
  apply Fin.ext
  match a with
  | ⟨0, _⟩ => show win0_4.index t 0 * 1 + 1 * 0 = t.val / 16; rw [hi]; simp [Nat.mul_comm]
  | ⟨1, _⟩ => show win0_4.index t 1 * 1 + 1 * 0 = t.val / 2 % 8; rw [hi]; simp [Nat.mul_comm]
  | ⟨2, _⟩ => show win0_4.index t 2 * 128 + 1 * e.val = e.val; rw [hi]; simp [Nat.mul_comm]
  | ⟨3, _⟩ => show win0_4.index t 3 * 256 + 1 * n.val = n.val; rw [hi]; simp [Nat.mul_comm]

theorem iblk5 (i : Fin 4) (d : Fin 64) :
    (iblk m c 5 t : FVec Ideal S4x64 .f32) (ix2 i d) = (m ((c : Thread nD τ).loc main_arg5) : FVec Ideal S4x64 .f32) (ix2 i d) := by
  have hi := index5 t
  unfold iblk
  rw [View.read_apply]
  refine Eq.trans (b := (V m c main_arg5 : _) (_)) (congrArg (V m c main_arg5) ?_) (congrFun (V_main_arg5 m c) (ix2 i d))
  funext a
  apply Fin.ext
  match a with
  | ⟨0, _⟩ => show win0_5.index t 0 * 4 + 1 * i.val = i.val; rw [hi]; simp [Nat.mul_comm]
  | ⟨1, _⟩ => show win0_5.index t 1 * 64 + 1 * d.val = d.val; rw [hi]; simp [Nat.mul_comm]

theorem iblk6 (e : Fin 128) :
    (iblk m c 6 t : FVec Ideal S128x1 .f32) (ix2 e 0) = (m ((c : Thread nD τ).loc main_arg6) : FVec Ideal S128 .f32) (ix1 e) := by
  have hi := index6 t
  unfold iblk
  rw [View.read_apply]
  refine Eq.trans (b := (V m c main_v12 : _) (_)) (congrArg (V m c main_v12) ?_) (V12 m c e)
  funext a
  apply Fin.ext
  match a with
  | ⟨0, _⟩ => show win0_6.index t 0 * 128 + 1 * e.val = e.val; rw [hi]; simp [Nat.mul_comm]
  | ⟨1, _⟩ => show win0_6.index t 1 * 1 + 1 * 0 = 0; rw [hi]; simp [Nat.mul_comm]

end AtIdeal

end Cert.KernelIdeal

end
-- ==== Proof.Result.lean ====
/-
  The array of results, from the blocks the points leave.
-/
module

public import proofs.«01_k».proof.Proof.Blocks
public import Idealize.ShloMosaic.Lib.Pipeline.Value

@[expose] public section

set_option maxRecDepth 16384

noncomputable section

namespace Cert.KernelIdeal

open Idealize.ShloMosaic Idealize.ShloMosaic.TcCoe Idealize.ShloMosaic.Tactic
open Idealize.SL.Sem
open Idealize.ShloMosaic.Pipeline (Dat Cfg Window)
open Cert.Attn Gen
open Facts₀ Facts

variable {F : FTy → Type} [FloatOps F] [Named F]
variable (m : (ℓ : Loc nD τ sig) → Buf (Elt F) ℓ)

/-- The point that leaves an element of the results. -/
def ptOf (i : S4x8192x1024.Idx) : Fin cfg0.N :=
  ⟨16 * (i 0).val + 2 * ((i 2).val / 128) + (i 1).val / 4096, by
    have h0 : (i 0).val < 4 := (i 0).isLt
    have h1 : (i 1).val < 8192 := (i 1).isLt
    have h2 : (i 2).val < 1024 := (i 2).isLt
    have : cfg0.N = 64 := N_0
    omega⟩

/-- The array of results. -/
def result (c : Dev nD) : FVec F S4x8192x1024 .bf16 := fun i =>
  outBlk m c (ptOf i) (ix3 0 ⟨(i 1).val % 4096, Nat.mod_lt _ (by decide)⟩ ⟨(i 2).val % 128, Nat.mod_lt _ (by decide)⟩)

theorem flushed_eq (c : Dev nD) (t : Fin cfg0.N) (_ : (cfg0.win 7).flush t = true) :
    (dats m 0 c).flushed 7 t = ((cfg0.win 7).blk t).view.read (Elt F) (result m c) := by
  have hi := index7 t
  have hN : cfg0.N = 64 := N_0
  have ht := t.isLt
  show (outBlk m c t : FVec F S1x4096x128 .bf16) = _
  funext j
  rw [View.read_apply]
  have h0 : (j 0).val < 1 := (j 0).isLt
  have h1 : (j 1).val < 4096 := (j 1).isLt
  have h2 : (j 2).val < 128 := (j 2).isLt
  obtain ⟨x, hx⟩ : ∃ x : S4x8192x1024.Idx, x = (((cfg0.win 7).blk t).view.emb j) := ⟨_, rfl⟩
  have e0 : (x 0).val = t.val / 16 := by
    rw [hx]; show win0_7.index t 0 * 1 + 1 * (j 0).val = _; rw [hi]; simp; omega
  have e1 : (x 1).val = 4096 * (t.val % 2) + (j 1).val := by
    rw [hx]; show win0_7.index t 1 * 4096 + 1 * (j 1).val = _; rw [hi]; simp [Nat.mul_comm]
  have e2 : (x 2).val = 128 * (t.val / 2 % 8) + (j 2).val := by
    rw [hx]; show win0_7.index t 2 * 128 + 1 * (j 2).val = _; rw [hi]; simp [Nat.mul_comm]
  show outBlk m c t j = result m c (((cfg0.win 7).blk t).view.emb j)
  rw [← hx]
  unfold result
  have hp : ptOf x = t := Fin.ext (by show 16 * (x 0).val + 2 * ((x 2).val / 128) + (x 1).val / 4096 = t.val; omega)
  rw [hp]
  congr 1
  funext a
  apply Fin.ext
  match a with
  | ⟨0, _⟩ => show (j 0).val = 0; omega
  | ⟨1, _⟩ => show (j 1).val = (x 1).val % 4096; omega
  | ⟨2, _⟩ => show (j 2).val = (x 2).val % 128; omega

theorem final (c : Dev nD) : (dats m 0 c).arrAt 7 cfg0.N = result m c :=
  (dats m 0 c).arrAt_eq_of_cover 7 (result m c) (flushed_eq m c) fun i =>
    ⟨ptOf i, flush0_7 (ptOf i), by
      show i ∈ ((View.whole main_v13).slice (win0_7.rect (ptOf i))).set
      rw [View.set_slice_whole, Rect.mem_set_unit]
      have hi := index7 (ptOf i)
      have h0 : (i 0).val < 4 := (i 0).isLt
      have h1 : (i 1).val < 8192 := (i 1).isLt
      have h2 : (i 2).val < 1024 := (i 2).isLt
      have hv : (ptOf i).val = 16 * (i 0).val + 2 * ((i 2).val / 128) + (i 1).val / 4096 := rfl
      intro a
      match a with
      | ⟨0, _⟩ => show win0_7.index (ptOf i) 0 * 1 ≤ (i 0).val ∧ (i 0).val < win0_7.index (ptOf i) 0 * 1 + 1; rw [hi]; simp; omega
      | ⟨1, _⟩ => show win0_7.index (ptOf i) 1 * 4096 ≤ (i 1).val ∧ (i 1).val < win0_7.index (ptOf i) 1 * 4096 + 4096; rw [hi]; simp; omega
      | ⟨2, _⟩ => show win0_7.index (ptOf i) 2 * 128 ≤ (i 2).val ∧ (i 2).val < win0_7.index (ptOf i) 2 * 128 + 128; rw [hi]; simp; omega⟩

end Cert.KernelIdeal

end
-- ==== Proof.Plain.lean ====
/-
  The layer at one element of its result as a formula over real numbers, and the kernel's block of results equal to it
  where the queries, the keys, the values and the mixing parameters are finite.
-/
module

public import proofs.«01_k».proof.Proof.Real
public import proofs.«01_k».proof.Proof.Result

@[expose] public section

set_option maxRecDepth 16384

noncomputable section

namespace Cert.Attn

open Idealize.ShloMosaic
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096 S128
  S4x8192x8x2x64 S4x8192x8x128 S4x256x8x2x64 S4x256x8x128)
open Cert.KernelIdeal.Facts₀ Cert.KernelIdeal.Facts

/-! ## The formula -/

/-- No element is infinite. -/
def Fin' {s : Shape} (X : s.Idx → EReal) : Prop := ∀ i, X i ≠ ⊤ ∧ X i ≠ ⊥

theorem Fin'.coe {s : Shape} {X : s.Idx → EReal} (h : Fin' X) (i : s.Idx) : X i = ((X i).toReal : EReal) :=
  (EReal.coe_toReal (h i).1 (h i).2).symm

/-- The layer's arguments but the scales. -/
structure Args where
  q : S4x8192x8x2x64.Idx → EReal
  k : S4x8192x8x2x64.Idx → EReal
  v : S4x8192x8x128.Idx → EReal
  kc : S4x256x8x2x64.Idx → EReal
  vc : S4x256x8x128.Idx → EReal
  l : S4x64.Idx → EReal

/-- All of them finite. -/
structure Args.Fin (A : Args) : Prop where
  q : Fin' A.q
  k : Fin' A.k
  v : Fin' A.v
  kc : Fin' A.kc
  vc : Fin' A.vc
  l : Fin' A.l

namespace Args

variable (A : Args) (b : _root_.Fin 4) (n : _root_.Fin 8192) (h : _root_.Fin 8)

/-- Key `j` of a batch and a head; the context's keys follow the others. -/
def key (p : _root_.Fin 2) (d : _root_.Fin 64) (j : ℕ) : ℝ :=
  if hj : j < 8192 then (A.k (ix5 b ⟨j, hj⟩ h p d)).toReal else (A.kc (ix5 b ⟨(j - 8192) % 256, Nat.mod_lt _ (by decide)⟩ h p d)).toReal

/-- Value `j` of a batch and a head; the context's values follow the others. -/
def val (e : _root_.Fin 128) (j : ℕ) : ℝ :=
  if hj : j < 8192 then (A.v (ix4 b ⟨j, hj⟩ h e)).toReal else (A.vc (ix4 b ⟨(j - 8192) % 256, Nat.mod_lt _ (by decide)⟩ h e)).toReal

/-- The scaled score of key `j` in map `p`. -/
def scaled (p : _root_.Fin 2) (j : ℕ) : ℝ := (∑ d : _root_.Fin 64, (A.q (ix5 b n h p d)).toReal * A.key b h p d j) * (1 / 8)

/-- The mixing factor. -/
def lam : ℝ :=
  Real.exp (∑ d : _root_.Fin 64, (A.l (ix2 0 d)).toReal * (A.l (ix2 1 d)).toReal)
    - Real.exp (∑ d : _root_.Fin 64, (A.l (ix2 2 d)).toReal * (A.l (ix2 3 d)).toReal) + (Ideal.ofBits .f32 0x3E4CCCCD#32).toReal

/-- The difference of the two maps' averages. -/
def mixed (e : _root_.Fin 128) : ℝ :=
  average (A.scaled b n h 0) (A.val b h e) - A.lam * average (A.scaled b n h 1) (A.val b h e)

/-- The layer's result: the difference, over its root mean square, scaled. -/
def out (g : S128.Idx → EReal) (e : _root_.Fin 128) : EReal :=
  (A.mixed b n h e : EReal)
    * Ideal.rsqrt (Ideal.div (∑ k : _root_.Fin 128, (A.mixed b n h k : EReal) * (A.mixed b n h k : EReal)) (Ideal.ofBits .f32 0x43000000#32) + Ideal.ofBits .f32 0x3727C5AC#32)
    * g (ix1 e) * Ideal.ofBits .f32 0x3F4CCCCD#32

end Args

/-! ## The kernel's chunks of keys and values -/

theorem castK (x : FVec Ideal S1x1x256x128 .bf16) (a : Fin 256) (e : Fin 128) :
    shapeCast S256x128 x shapeCasts_S1x1x256x128_S256x128 (ix2 a e) = x (ix4 0 0 a e) := by
  pointwise

theorem castV (x : FVec Ideal S1x1x128x256 .bf16) (e : Fin 128) (a : Fin 256) :
    shapeCast S128x256 x shapeCasts_S1x1x128x256_S128x256 (ix2 e a) = x (ix4 0 0 e a) := by
  pointwise

theorem keys_apply (X4 : FVec Ideal S1x1x8192x128 .bf16) (X6 : FVec Ideal S1x1x256x128 .bf16) (n : ℕ) (x : Fin 256) (e : Fin 128) :
    keys X4 X6 n (ix2 x e) = if h : n < 32 then X4 (ix4 0 0 ⟨256 * n + x.val, by omega⟩ e) else X6 (ix4 0 0 x e) := by
  by_cases h : n < 32
  · rw [dif_pos h, keys, dif_pos h]
    refine (castK _ _ _).trans (congrArg X4 ?_)
    funext a
    apply Fin.ext
    match a with
    | ⟨0, _⟩ => show 0 + 1 * 0 = 0; omega
    | ⟨1, _⟩ => show 0 + 1 * 0 = 0; omega
    | ⟨2, _⟩ => show 256 * n + 1 * x.val = 256 * n + x.val; omega
    | ⟨3, _⟩ => show 0 + 1 * e.val = e.val; omega
  · rw [dif_neg h, keys, dif_neg h]
    exact castK _ _ _

theorem vals_apply (X5 : FVec Ideal S1x1x128x8192 .bf16) (X7 : FVec Ideal S1x1x128x256 .bf16) (n : ℕ) (e : Fin 128) (x : Fin 256) :
    vals X5 X7 n (ix2 e x) = if h : n < 32 then X5 (ix4 0 0 e ⟨256 * n + x.val, by omega⟩) else X7 (ix4 0 0 e x) := by
  by_cases h : n < 32
  · rw [dif_pos h, vals, dif_pos h]
    refine (castV _ _ _).trans (congrArg X5 ?_)
    funext a
    apply Fin.ext
    match a with
    | ⟨0, _⟩ => show 0 + 1 * 0 = 0; omega
    | ⟨1, _⟩ => show 0 + 1 * 0 = 0; omega
    | ⟨2, _⟩ => show 0 + 1 * e.val = e.val; omega
    | ⟨3, _⟩ => show 256 * n + 1 * x.val = 256 * n + x.val; omega
  · rw [dif_neg h, vals, dif_neg h]
    exact castV _ _ _

section Map

variable {X4 : FVec Ideal S1x1x8192x128 .bf16} {X5 : FVec Ideal S1x1x128x8192 .bf16} {X6 : FVec Ideal S1x1x256x128 .bf16} {X7 : FVec Ideal S1x1x128x256 .bf16}
  {k v : ℕ → Fin 128 → ℝ} {q : FVec Ideal S4096x128 .bf16} {p : Fin 4096 → Fin 128 → ℝ}

/-- One map's totals and accumulators over real keys, values and queries. -/
theorem map_coe (h4 : ∀ (n : Fin 8192) (e : Fin 128), X4 (ix4 0 0 n e) = (k n.val e : EReal)) (h6 : ∀ (n : Fin 256) (e : Fin 128), X6 (ix4 0 0 n e) = (k (8192 + n.val) e : EReal))
    (h5 : ∀ (e : Fin 128) (n : Fin 8192), X5 (ix4 0 0 e n) = (v n.val e : EReal)) (h7 : ∀ (e : Fin 128) (n : Fin 256), X7 (ix4 0 0 e n) = (v (8192 + n.val) e : EReal))
    (hq : ∀ r e, q (ix2 r e) = (p r e : EReal)) (r : Fin 4096) :
    ∃ y : ℝ, total X4 X6 q (ix2 0 r) = ((∑ j ∈ Finset.range 8448, (2 : ℝ) ^ (score k (p r) j - y) : ℝ) : EReal)
      ∧ ∀ e, accum X4 X5 X6 X7 q (ix2 e r) = ((∑ j ∈ Finset.range 8448, v j e * (2 : ℝ) ^ (score k (p r) j - y) : ℝ) : EReal) := by
  have hK : ∀ n < 33, ∀ (x : Fin 256) (e : Fin 128), keys X4 X6 n (ix2 x e) = (k (256 * n + x.val) e : EReal) := by
    intro n hn x e
    rw [keys_apply]
    split
    · rw [h4]
    · obtain rfl : n = 32 := by omega
      rw [h6]
  have hV : ∀ n < 33, ∀ (e : Fin 128) (x : Fin 256), vals X5 X7 n (ix2 e x) = (v (256 * n + x.val) e : EReal) := by
    intro n hn e x
    rw [vals_apply]
    split
    · rw [h5]
    · obtain rfl : n = 32 := by omega
      rw [h7]
  obtain ⟨y, hy⟩ := shiftOf_coe (r := r) (S := scoresOf (keys X4 X6 0) q) (scoresOf_coe (hK 0 (by decide)) (hq r))
  exact ⟨y, totOf_coe hK (hq r) hy, fun e => accN_coe hK hV (hq r) hy e 33 le_rfl⟩

end Map

/-- A sum over the lanes is the sum over its two halves. -/
theorem sum_halves (f : Fin 128 → ℝ) : ∑ e : Fin 128, f e = ∑ d : Fin 64, f ⟨d.val, by omega⟩ + ∑ d : Fin 64, f ⟨64 + d.val, by omega⟩ :=
  Fin.sum_univ_add (a := 64) (b := 64) f

theorem lamOf_coe (A : Args) (h : Fin' A.l) : lamOf (F := Ideal) A.l (ix2 0 0) = (A.lam : EReal) := by
  have hc : Ideal.ofBits .f32 0x3E4CCCCD#32 = ((Ideal.ofBits .f32 0x3E4CCCCD#32).toReal : EReal) := by
    simp [Ideal.ofBits, Ideal.ieee, -EReal.coe_mul]
  have hp : ∀ i j : Fin 4, ∑ d : Fin 64, A.l (ix2 i d) * A.l (ix2 j d) = ((∑ d : Fin 64, (A.l (ix2 i d)).toReal * (A.l (ix2 j d)).toReal : ℝ) : EReal) := by
    intro i j
    rw [coe_sum]
    refine Finset.sum_congr rfl fun d _ => ?_
    rw [EReal.coe_mul, ← h.coe, ← h.coe]
  rw [lamOf_apply, hp, hp, hc, Args.lam, EReal.coe_add, EReal.coe_sub]
  rfl

end Cert.Attn

end
-- ==== Proof.Block.lean ====
/-
  The kernel's block of results at a point, on finite arguments: nothing counts as not finite, and every element is the
  layer's formula.
-/
module

public import proofs.«01_k».proof.Proof.Plain

@[expose] public section

set_option maxRecDepth 16384

noncomputable section

namespace Cert.Attn

open Idealize.ShloMosaic
open Cert.KernelIdeal (S1x1x4096x128 S4096x128 S1x1x8192x128 S1x1x256x128 S256x128 S256x4096 S4096 S1x4096 S8x4096 S128x4096
  S1x1x128x8192 S1x1x128x256 S128x256 S16x4096 S4x64 S1x64 S1 S1x1 S128x1 S1x4096x128 S1x1x1 S1x1x4096 S1x128x4096 S128
  S4x8192x8x2x64 S4x8192x8x128 S4x256x8x2x64 S4x256x8x128 qA qB qScale)
open Cert.KernelIdeal.Facts₀ Cert.KernelIdeal.Facts

/-- The scale the queries are multiplied by: an eighth, in powers of two. -/
def scale : ℝ := (1 / 8) * (Real.log 2)⁻¹

theorem qScale_coe : (qScale : Ideal .f32) = (scale : EReal) :=
  IdealRules.named_const.ideal_named_scalar _ _ _ _ rfl

/-- The blocks a point reads are pieces of the arguments, those of one batch and one head. -/
structure Reads (A : Args) (g : S128.Idx → EReal) (b : Fin 4) (h : Fin 8) (nn : Fin 4096 → Fin 8192)
    (X3 : FVec Ideal S1x1x4096x128 .f32) (X4 : FVec Ideal S1x1x8192x128 .bf16) (X5 : FVec Ideal S1x1x128x8192 .bf16)
    (X6 : FVec Ideal S1x1x256x128 .bf16) (X7 : FVec Ideal S1x1x128x256 .bf16) (X8 : FVec Ideal S4x64 .f32) (X9 : FVec Ideal S128x1 .f32) : Prop where
  h3 : ∀ r e, X3 (ix4 0 0 r e) = A.q (ix5 b (nn r) h ⟨e.val / 64, by omega⟩ ⟨e.val % 64, by omega⟩)
  h4 : ∀ n e, X4 (ix4 0 0 n e) = A.k (ix5 b n h ⟨e.val / 64, by omega⟩ ⟨e.val % 64, by omega⟩)
  h5 : ∀ e n, X5 (ix4 0 0 e n) = A.v (ix4 b n h e)
  h6 : ∀ n e, X6 (ix4 0 0 n e) = A.kc (ix5 b n h ⟨e.val / 64, by omega⟩ ⟨e.val % 64, by omega⟩)
  h7 : ∀ e n, X7 (ix4 0 0 e n) = A.vc (ix4 b n h e)
  h8 : X8 = A.l
  h9 : ∀ e, X9 (ix2 e 0) = g (ix1 e)

variable {A : Args} {g : S128.Idx → EReal} {b : Fin 4} {h : Fin 8} {nn : Fin 4096 → Fin 8192}
  {X3 : FVec Ideal S1x1x4096x128 .f32} {X4 : FVec Ideal S1x1x8192x128 .bf16} {X5 : FVec Ideal S1x1x128x8192 .bf16}
  {X6 : FVec Ideal S1x1x256x128 .bf16} {X7 : FVec Ideal S1x1x128x256 .bf16} {X8 : FVec Ideal S4x64 .f32} {X9 : FVec Ideal S128x1 .f32}

/-- A key's lanes: the first map's, then the second's. -/
def lane (A : Args) (b : Fin 4) (h : Fin 8) (j : ℕ) (e : Fin 128) : ℝ := A.key b h ⟨e.val / 64, by omega⟩ ⟨e.val % 64, by omega⟩ j

/-- A query's lanes, scaled. -/
def query (A : Args) (b : Fin 4) (h : Fin 8) (n : Fin 8192) (e : Fin 128) : ℝ :=
  (A.q (ix5 b n h ⟨e.val / 64, by omega⟩ ⟨e.val % 64, by omega⟩)).toReal * scale

/-- The position of a cached key after the 8192 new ones. -/
theorem cached (n : Fin 256) : (⟨(8192 + n.val - 8192) % 256, Nat.mod_lt _ (by norm_num)⟩ : Fin 256) = n :=
  Fin.ext (by show (8192 + n.val - 8192) % 256 = n.val; omega)

theorem score_low (n : Fin 8192) (j : ℕ) :
    score (lane A b h) (fun e => if e.val < 64 then query A b h n e else 0) j = A.scaled b n h 0 j * (Real.log 2)⁻¹ := by
  rw [score, sum_halves, Finset.sum_eq_zero (s := Finset.univ) (f := fun d : Fin 64 => lane A b h j ⟨64 + d.val, by omega⟩ * _)
    (fun d _ => by rw [if_neg (by show ¬ 64 + d.val < 64; omega), mul_zero]), add_zero, Args.scaled, Finset.sum_mul, Finset.sum_mul]
  refine Finset.sum_congr rfl fun d _ => ?_
  rw [if_pos d.isLt]
  have e0 : (⟨d.val / 64, by omega⟩ : Fin 2) = 0 := Fin.ext (by show d.val / 64 = 0; omega)
  have e1 : (⟨d.val % 64, by omega⟩ : Fin 64) = d := Fin.ext (by show d.val % 64 = d.val; omega)
  simp only [lane, query, e0, e1, scale]
  ring

theorem score_high (n : Fin 8192) (j : ℕ) :
    score (lane A b h) (fun e => if e.val < 64 then 0 else query A b h n e) j = A.scaled b n h 1 j * (Real.log 2)⁻¹ := by
  rw [score, sum_halves, Finset.sum_eq_zero (s := Finset.univ) (f := fun d : Fin 64 => lane A b h j ⟨d.val, by omega⟩ * _)
    (fun d _ => by rw [if_pos d.isLt, mul_zero]), zero_add, Args.scaled, Finset.sum_mul, Finset.sum_mul]
  refine Finset.sum_congr rfl fun d _ => ?_
  rw [if_neg (by show ¬ 64 + d.val < 64; omega)]
  have e0 : (⟨(64 + d.val) / 64, by omega⟩ : Fin 2) = 1 := Fin.ext (by show (64 + d.val) / 64 = 1; omega)
  have e1 : (⟨(64 + d.val) % 64, by omega⟩ : Fin 64) = d := Fin.ext (by show (64 + d.val) % 64 = d.val; omega)
  simp only [lane, query, e0, e1, scale]
  ring

namespace Reads

variable (R : Reads A g b h nn X3 X4 X5 X6 X7 X8 X9) (hA : A.Fin)
include R hA

theorem qA_coe (r : Fin 4096) (e : Fin 128) : (qA X3) (ix2 r e) = ((if e.val < 64 then query A b h (nn r) e else 0 : ℝ) : EReal) := by
  rw [qA, maskA_apply, R.h3, qScale_coe, hA.q.coe]
  split
  · rw [query, EReal.coe_mul]
  · simp

theorem qB_coe (r : Fin 4096) (e : Fin 128) : (qB X3) (ix2 r e) = ((if e.val < 64 then 0 else query A b h (nn r) e : ℝ) : EReal) := by
  rw [qB, maskB_apply, R.h3, qScale_coe, hA.q.coe]
  split
  · simp
  · rw [query, EReal.coe_mul]

theorem one_map {q : FVec Ideal S4096x128 .bf16} {p : Fin 4096 → Fin 128 → ℝ} (hq : ∀ r e, q (ix2 r e) = (p r e : EReal)) (r : Fin 4096) :
    ∃ y : ℝ, total X4 X6 q (ix2 0 r) = ((∑ j ∈ Finset.range 8448, (2 : ℝ) ^ (score (lane A b h) (p r) j - y) : ℝ) : EReal)
      ∧ ∀ e, accum X4 X5 X6 X7 q (ix2 e r) = ((∑ j ∈ Finset.range 8448, A.val b h e j * (2 : ℝ) ^ (score (lane A b h) (p r) j - y) : ℝ) : EReal) := by
  refine map_coe (k := lane A b h) (v := fun j e => A.val b h e j) ?_ ?_ ?_ ?_ hq r
  · intro n e
    rw [R.h4, lane, Args.key, dif_pos n.isLt, ← hA.k.coe]
  · intro n e
    rw [R.h6, lane, Args.key, dif_neg (by omega), ← hA.kc.coe, cached n]
  · intro e n
    rw [R.h5, Args.val, dif_pos n.isLt, ← hA.v.coe]
  · intro e n
    rw [R.h7, Args.val, dif_neg (by omega), ← hA.vc.coe, cached n]

theorem ratio {q : FVec Ideal S4096x128 .bf16} {p : Fin 4096 → Fin 128 → ℝ} (hq : ∀ r e, q (ix2 r e) = (p r e : EReal)) {t : Fin 4096 → ℕ → ℝ}
    (ht : ∀ r j, score (lane A b h) (p r) j = t r j * (Real.log 2)⁻¹) (r : Fin 4096) (e : Fin 128) :
    Ideal.div (accum X4 X5 X6 X7 q (ix2 e r)) (total X4 X6 q (ix2 0 r)) = (average (t r) (A.val b h e) : EReal) := by
  obtain ⟨y, h1, h2⟩ := R.one_map hA hq r
  rw [h1, h2, div_coe_coe _ _ (total_pos _ y).ne', quotient _ (t r) _ y (ht r)]

theorem not_infinite {q : FVec Ideal S4096x128 .bf16} {p : Fin 4096 → Fin 128 → ℝ} (hq : ∀ r e, q (ix2 r e) = (p r e : EReal)) :
    (∀ r, total X4 X6 q (ix2 0 r) ≠ ⊤ ∧ total X4 X6 q (ix2 0 r) ≠ ⊥)
      ∧ ∀ e r, accum X4 X5 X6 X7 q (ix2 e r) ≠ ⊤ ∧ accum X4 X5 X6 X7 q (ix2 e r) ≠ ⊥ := by
  constructor
  · intro r
    obtain ⟨y, h1, -⟩ := R.one_map hA hq r
    rw [h1]
    exact ⟨EReal.coe_ne_top _, EReal.coe_ne_bot _⟩
  · intro e r
    obtain ⟨y, -, h2⟩ := R.one_map hA hq r
    rw [h2]
    exact ⟨EReal.coe_ne_top _, EReal.coe_ne_bot _⟩

theorem good : badness X4 X5 X6 X7 (qA X3) (qB X3) = 0 := by
  have a := R.not_infinite hA (R.qA_coe hA)
  have a' := R.not_infinite hA (R.qB_coe hA)
  exact badOf_zero _ _ _ _ a.1 a'.1 a.2 a'.2

theorem mixed (r : Fin 4096) (e : Fin 128) :
    mixOf (total X4 X6 (qA X3)) (total X4 X6 (qB X3)) (accum X4 X5 X6 X7 (qA X3)) (accum X4 X5 X6 X7 (qB X3)) X8 (ix2 e r)
      = (A.mixed b (nn r) h e : EReal) := by
  rw [mixOf_apply, R.ratio hA (R.qA_coe hA) (fun r j => score_low (nn r) j), R.ratio hA (R.qB_coe hA) (fun r j => score_high (nn r) j), R.h8,
    lamOf_coe A hA.l, ← EReal.coe_mul, ← EReal.coe_sub, Args.mixed]

theorem out (r : Fin 4096) (e : Fin 128) : fast X4 X5 X6 X7 X8 X9 (qA X3) (qB X3) (ix3 0 r e) = A.out b (nn r) h g e := by
  rw [fast, normOf_apply, R.h9, R.mixed hA]
  simp only [R.mixed hA]
  rfl

end Reads

end Cert.Attn

end
-- ==== Proof.Value.lean ====
/-
  The kernel's array of results on finite arguments: no tile is repaired, and every element is the layer's formula.
-/
module

public import proofs.«01_k».proof.Proof.Block
public import proofs.«01_k».proof.Proof.Blocks

@[expose] public section

set_option maxRecDepth 16384

noncomputable section

namespace Cert.KernelIdeal

open Idealize.ShloMosaic Idealize.ShloMosaic.TcCoe
open Cert.Attn Gen

variable (m : (ℓ : Loc nD τ sig) → Buf (Elt Ideal) ℓ) (c : Dev nD)

/-- The arguments a memory holds. -/
def argsOf : Args where
  q := m ((c : Thread nD τ).loc main_arg0)
  k := m ((c : Thread nD τ).loc main_arg1)
  v := m ((c : Thread nD τ).loc main_arg2)
  kc := m ((c : Thread nD τ).loc main_arg3)
  vc := m ((c : Thread nD τ).loc main_arg4)
  l := m ((c : Thread nD τ).loc main_arg5)

/-- The scales of the results' lanes a memory holds. -/
def scalesOf : S128.Idx → EReal := m ((c : Thread nD τ).loc main_arg6)

theorem reads (t : Fin cfg0.N) :
    Reads (argsOf m c) (scalesOf m c) (bOf t) (hOf t) (nOf t) (iblk m c 0 t) (iblk m c 1 t) (iblk m c 2 t) (iblk m c 3 t) (iblk m c 4 t)
      (iblk m c 5 t) (iblk m c 6 t) where
  h3 := iblk0 m c t
  h4 := iblk1 m c t
  h5 := iblk2 m c t
  h6 := iblk3 m c t
  h7 := iblk4 m c t
  h8 := by
    funext i
    have hi : i = ix2 (i 0) (i 1) := by
      funext a
      match a with
      | ⟨0, _⟩ => rfl
      | ⟨1, _⟩ => rfl
    rw [hi]
    exact iblk5 m c t (i 0) (i 1)
  h9 := iblk6 m c t

variable {m}

theorem good_of_finite (hA : ∀ c, (argsOf m c).Fin) (t : Fin cfg0.N) : Good m c t := by
  have h : badAt m c t = (0 : Ideal .f32) := (reads m c t).good (hA c)
  rw [Good, h]
  exact asks_zero

/-- The results are the layer's formula. -/
theorem result_apply (hA : ∀ c, (argsOf m c).Fin) (i : S4x8192x1024.Idx) :
    result m c i = (argsOf m c).out (i 0) (i 1) ⟨(i 2).val / 128, by have : (i 2).val < 1024 := (i 2).isLt; omega⟩ (scalesOf m c)
      ⟨(i 2).val % 128, Nat.mod_lt _ (by decide)⟩ := by
  have h0 : (i 0).val < 4 := (i 0).isLt
  have h1 : (i 1).val < 8192 := (i 1).isLt
  have h2 : (i 2).val < 1024 := (i 2).isLt
  have hb : bOf (ptOf i) = i 0 := Fin.ext (by
    show (16 * (i 0).val + 2 * ((i 2).val / 128) + (i 1).val / 4096) / 16 = (i 0).val; omega)
  have hh : hOf (ptOf i) = ⟨(i 2).val / 128, by omega⟩ := Fin.ext (by
    show (16 * (i 0).val + 2 * ((i 2).val / 128) + (i 1).val / 4096) / 2 % 8 = (i 2).val / 128; omega)
  have hn : nOf (ptOf i) ⟨(i 1).val % 4096, Nat.mod_lt _ (by decide)⟩ = i 1 := Fin.ext (by
    show 4096 * ((16 * (i 0).val + 2 * ((i 2).val / 128) + (i 1).val / 4096) % 2) + (i 1).val % 4096 = (i 1).val; omega)
  refine ((reads m c (ptOf i)).out (hA c) ⟨(i 1).val % 4096, Nat.mod_lt _ (by decide)⟩ ⟨(i 2).val % 128, Nat.mod_lt _ (by decide)⟩).trans ?_
  rw [hb, hh, hn]

end Cert.KernelIdeal

end
-- ==== Proof.Finite.lean ====
/-
  What the precondition says: an element whose absolute value is below the infinity is neither infinity.
-/
module

public import proofs.«01_k».proof.Defs
public import proofs.«01_k».proof.Proof.Value
public import Idealize.ShloMosaic.Lib.KernelVsHost

@[expose] public section

noncomputable section

namespace Cert.KernelIdeal

open Idealize.ShloMosaic Idealize.ShloMosaic.TcCoe
open Cert.Attn (Fin')

theorem finite_of (x : Ideal .f32)
    (h : FloatOps.cmpf .olt (FloatOps.hostAbsf x) (FloatOps.ofBits (F := Ideal) .f32 0x7F800000#32) = 1#1) : x ≠ (⊤ : EReal) ∧ x ≠ (⊥ : EReal) := by
  rw [← Ideal.xori_weird_eq_hostAbsf_olt_inf] at h
  have hw : FloatOps.weird x = BitVec.ofBool (decide ((x : EReal) = ⊤ ∨ (x : EReal) = ⊥)) := rfl
  rw [hw] at h
  by_contra hx
  have ho : (x : EReal) = ⊤ ∨ (x : EReal) = ⊥ := by tauto
  rw [decide_eq_true ho] at h
  exact absurd h (by decide)

/-- An array all of whose elements pass the test is finite. -/
theorem all_finite {s : Shape} (x : FVec Ideal s .f32) (top : FVec Ideal s .f32) (ht : ∀ i, top i = FloatOps.ofBits (F := Ideal) .f32 0x7F800000#32)
    (h : cmpf .olt (Host.absf x) top = fun _ => 1#1) : Fin' (s := s) x := fun i =>
  finite_of (x i) (by rw [← ht i]; exact congrFun h i)

/-- The precondition makes the arguments finite. -/
theorem args_finite [Cert.Pre_finite.Facts] {m : (ℓ : Loc nD τ sig) → Buf (Elt Ideal) ℓ} (hm : Pre_KernelIdeal_finite m) (c : Dev nD) : (argsOf m c).Fin :=
  have ⟨h0, h1, h2, h3, h4, h5⟩ := hm c
  { q := all_finite _ _ (fun _ => rfl) h0
    k := all_finite _ _ (fun _ => rfl) h1
    v := all_finite _ _ (fun _ => rfl) h2
    kc := all_finite _ _ (fun _ => rfl) h3
    vc := all_finite _ _ (fun _ => rfl) h4
    l := all_finite _ _ (fun _ => rfl) h5 }

end Cert.KernelIdeal

end
-- ==== Proof.Pieces.lean ====
/-
  The reference's result, cut into the parts of the layer, each read at one element.
-/
module

public import proofs.«01_k».proof.Proof.Gen.ReferenceIdeal.Run
public import Idealize.ShloMosaic.Lib.Pointwise

@[expose] public section

set_option maxRecDepth 16384

noncomputable section

namespace Cert.ReferenceIdeal

open Idealize.ShloMosaic Idealize.ShloMosaic.TcCoe
open Gen

/-- All the keys: the context's after the others. -/
def allKeys (k : FVec Ideal S4x8192x8x2x64 .f32) (kc : FVec Ideal S4x256x8x2x64 .f32) : FVec Ideal S4x8448x8x2x64 .f32 :=
  concatenate S4x8448x8x2x64 1 [⟨S4x8192x8x2x64, k⟩, ⟨S4x256x8x2x64, kc⟩] concatenates_S4x8192x8x2x64_S4x256x8x2x64_S4x8448x8x2x64_d1

/-- All the values: the context's after the others. -/
def allVals (v : FVec Ideal S4x8192x8x128 .f32) (vc : FVec Ideal S4x256x8x128 .f32) : FVec Ideal S4x8448x8x128 .f32 :=
  concatenate S4x8448x8x128 1 [⟨S4x8192x8x128, v⟩, ⟨S4x256x8x128, vc⟩] concatenates_S4x8192x8x128_S4x256x8x128_S4x8448x8x128_d1

/-- The scores, scaled. -/
def scores (q : FVec Ideal S4x8192x8x2x64 .f32) (K : FVec Ideal S4x8448x8x2x64 .f32) : FVec Ideal S4x8x2x8192x8448 .f32 :=
  mulf (Host.dotGeneral dot_S4x8192x8x2x64_S4x8448x8x2x64_S4x8x2x8192x8448_4_4_1_1_023_023 none q K)
    (broadcastInDim S4x8x2x8192x8448 ![] bcast_S_S4x8x2x8192x8448 (constant S_ .f32 0x3E000000#32))

/-- A row's value, at each of its keys. -/
def alongKeys (x : FVec Ideal S4x8x2x8192 .f32) : FVec Ideal S4x8x2x8192x8448 .f32 :=
  broadcastInDim S4x8x2x8192x8448 ![0, 1, 2, 3, 4] bcast_S4x8x2x8192x1_S4x8x2x8192x8448_0_1_2_3_4
    (broadcastInDim S4x8x2x8192x1 ![0, 1, 2, 3] bcast_S4x8x2x8192_S4x8x2x8192x1_0_1_2_3 x)

/-- The largest score of a row. -/
def top (s : FVec Ideal S4x8x2x8192x8448 .f32) : FVec Ideal S4x8x2x8192 .f32 :=
  maximumf (broadcastInDim S4x8x2x8192 ![] bcast_S_S4x8x2x8192 (constant S_ .f32 0xFF800000#32))
    (Host.reduce FloatOps.maximumf s (constant S_ .f32 0xFF800000#32) reducesTo_S4x8x2x8192x8448_S4x8x2x8192_d4 h_S_)

/-- The exponentials of the scores, less the largest. -/
def expos (s : FVec Ideal S4x8x2x8192x8448 .f32) : FVec Ideal S4x8x2x8192x8448 .f32 := Host.exp (subf s (alongKeys (top s)))

/-- The weights: the exponentials over their sum. -/
def probs (w : FVec Ideal S4x8x2x8192x8448 .f32) : FVec Ideal S4x8x2x8192x8448 .f32 :=
  Host.divf w (alongKeys (Host.reduceAdd w (constant S_ .f32 0x00000000#32) reducesTo_S4x8x2x8192x8448_S4x8x2x8192_d4 h_S_))

/-- The mixing factor. -/
def mixFactor (l : FVec Ideal S4x64 .f32) : FVec Ideal S_ .f32 :=
  addf (subf
    (Host.exp (Host.reduceAdd (mulf (shapeCast _ (extractStridedSlice S1x64 ![0, 0] l slices_S4x64_S1x64_0_0) shapeCasts_S1x64_S64)
      (shapeCast _ (extractStridedSlice S1x64 ![1, 0] l slices_S4x64_S1x64_1_0) shapeCasts_S1x64_S64)) (constant S_ .f32 0x00000000#32) reducesTo_S64_S_d0 h_S_))
    (Host.exp (Host.reduceAdd (mulf (shapeCast _ (extractStridedSlice S1x64 ![2, 0] l slices_S4x64_S1x64_2_0) shapeCasts_S1x64_S64)
      (shapeCast _ (extractStridedSlice S1x64 ![3, 0] l slices_S4x64_S1x64_3_0) shapeCasts_S1x64_S64)) (constant S_ .f32 0x00000000#32) reducesTo_S64_S_d0 h_S_)))
    (constant S_ .f32 0x3E4CCCCD#32)

/-- The difference of the two maps' weights. -/
def mixedProbs (p : FVec Ideal S4x8x2x8192x8448 .f32) (lam : FVec Ideal S_ .f32) : FVec Ideal S4x8x8192x8448 .f32 :=
  subf (shapeCast _ (extractStridedSlice S4x8x1x8192x8448 ![0, 0, 0, 0, 0] p slices_S4x8x2x8192x8448_S4x8x1x8192x8448_0_0_0_0_0) shapeCasts_S4x8x1x8192x8448_S4x8x8192x8448)
    (mulf (broadcastInDim S4x8x8192x8448 ![] bcast_S_S4x8x8192x8448 lam)
      (shapeCast _ (extractStridedSlice S4x8x1x8192x8448 ![0, 0, 1, 0, 0] p slices_S4x8x2x8192x8448_S4x8x1x8192x8448_0_0_1_0_0) shapeCasts_S4x8x1x8192x8448_S4x8x8192x8448))

/-- The attention: the values under the difference. -/
def attend (V : FVec Ideal S4x8448x8x128 .f32) (d : FVec Ideal S4x8x8192x8448 .f32) : FVec Ideal S4x8192x8x128 .f32 :=
  transpose S4x8192x8x128 [0, 3, 1, 2] (Host.dotGeneral dot_S4x8448x8x128_S4x8x8192x8448_S4x8x128x8192_1_3_3_2_02_01 none V d)
    transposes_S4x8x128x8192_S4x8192x8x128_0_3_1_2

/-- The attention over its root mean square, scaled. -/
def normed (o : FVec Ideal S4x8192x8x128 .f32) (g : FVec Ideal S128 .f32) : FVec Ideal S4x8192x1024 .bf16 :=
  truncf .bf16 (shapeCast _ (mulf (mulf (mulf o
    (broadcastInDim S4x8192x8x128 ![0, 1, 2, 3] bcast_S4x8192x8x1_S4x8192x8x128_0_1_2_3
      (Host.rsqrt (addf (Host.divf (broadcastInDim S4x8192x8x1 ![0, 1, 2] bcast_S4x8192x8_S4x8192x8x1_0_1_2
        (Host.reduceAdd (mulf o o) (constant S_ .f32 0x00000000#32) reducesTo_S4x8192x8x128_S4x8192x8_d3 h_S_))
        (broadcastInDim S4x8192x8x1 ![] bcast_S_S4x8192x8x1 (constant S_ .f32 0x43000000#32)))
        (broadcastInDim S4x8192x8x1 ![] bcast_S_S4x8192x8x1 (constant S_ .f32 0x3727C5AC#32))))))
    (broadcastInDim S4x8192x8x128 ![0, 1, 2, 3] bcast_S1x1x1x128_S4x8192x8x128_0_1_2_3 (broadcastInDim S1x1x1x128 ![3] bcast_S128_S1x1x1x128_3 g)))
    (broadcastInDim S4x8192x8x128 ![] bcast_S_S4x8192x8x128 (constant S_ .f32 0x3F4CCCCD#32))) shapeCasts_S4x8192x8x128_S4x8192x1024) bitsLt_bf16_f32

theorem result_eq (m : (ℓ : Loc nD τ sig) → Buf (Elt Ideal) ℓ) (c : Dev nD) :
    Value.res_main_v57 m c
      = normed (attend (allVals (m ((c : Thread nD τ).loc main_arg2)) (m ((c : Thread nD τ).loc main_arg4)))
          (mixedProbs (probs (expos (scores (m ((c : Thread nD τ).loc main_arg0)) (allKeys (m ((c : Thread nD τ).loc main_arg1)) (m ((c : Thread nD τ).loc main_arg3))))))
            (mixFactor (m ((c : Thread nD τ).loc main_arg5)))))
          (m ((c : Thread nD τ).loc main_arg6)) := rfl

theorem allKeys_apply (k : FVec Ideal S4x8192x8x2x64 .f32) (kc : FVec Ideal S4x256x8x2x64 .f32) (b : Fin 4) (j : Fin 8448) (h : Fin 8) (p : Fin 2) (d : Fin 64) :
    allKeys k kc (ix5 b j h p d) = if hj : j.val < 8192 then k (ix5 b ⟨j.val, hj⟩ h p d) else kc (ix5 b ⟨j.val - 8192, by omega⟩ h p d) := by
  pointwise [allKeys]

theorem allVals_apply (v : FVec Ideal S4x8192x8x128 .f32) (vc : FVec Ideal S4x256x8x128 .f32) (b : Fin 4) (j : Fin 8448) (h : Fin 8) (e : Fin 128) :
    allVals v vc (ix4 b j h e) = if hj : j.val < 8192 then v (ix4 b ⟨j.val, hj⟩ h e) else vc (ix4 b ⟨j.val - 8192, by omega⟩ h e) := by
  pointwise [allVals]

variable (b : Fin 4) (n : Fin 8192) (h : Fin 8) (p : Fin 2) (e : Fin 128) (j : Fin 8448)

theorem scores_apply (q : FVec Ideal S4x8192x8x2x64 .f32) (K : FVec Ideal S4x8448x8x2x64 .f32) :
    scores q K (ix5 b h p n j) = (∑ d : Fin 64, q (ix5 b n h p d) * K (ix5 b j h p d)) * Ideal.ofBits .f32 0x3E000000#32 := by
  pointwise [scores]

theorem alongKeys_apply (x : FVec Ideal S4x8x2x8192 .f32) : alongKeys x (ix5 b h p n j) = x (ix4 b h p n) := by
  pointwise [alongKeys]

/-- The largest of finitely many finite elements, and at least one, is finite. -/
theorem fold_finite {ι : Type} (u : Finset ι) (hu : u.Nonempty) (f : ι → EReal) (hf : ∀ i, f i ≠ ⊤ ∧ f i ≠ ⊥) : ∃ y : ℝ, u.fold max ⊥ f = (y : EReal) := by
  obtain ⟨k, -, h⟩ := Finset.exists_mem_eq_sup u hu f
  refine ⟨(f k).toReal, ?_⟩
  rw [EReal.coe_toReal (hf _).1 (hf _).2]
  exact h

theorem reduce_finite {s t u : Shape} {a : Fin s.rank} (x : s.Idx → EReal) (hx : ∀ i, x i ≠ ⊤ ∧ x i ≠ ⊥) (init : u.Idx → EReal) (hi : ∀ i, init i = ⊥)
    (h : s.ReducesTo [a] t) (hr : s.Reduces [a] t) (hu : 0 < u.numel) (ha : 0 < s.size a) (j : t.Idx) :
    ∃ y : ℝ, Host.reduce (FloatOps.maximumf (F := Ideal) (φ := .f32)) x init h hu j = (y : EReal) := by
  rw [Host.reduce_eq_fold_single _ _ _ _ hr, hi]
  exact fold_finite _ ⟨⟨0, ha⟩, Finset.mem_univ _⟩ _ fun i => hx _

theorem max_bot {x : EReal} {φ : FTy} {c : Ideal φ} (hc : c = (⊥ : EReal)) : FloatOps.maximumf (F := Ideal) (φ := φ) c x = x := by
  show max (c : EReal) x = x
  rw [hc]
  exact max_eq_right bot_le

theorem max_finite {s : Shape} (c r : FVec Ideal s .f32) (i : s.Idx) (hc : c i = (⊥ : EReal)) (hr : ∃ y : ℝ, r i = (y : EReal)) :
    ∃ y : ℝ, maximumf c r i = (y : EReal) := by
  obtain ⟨y, hy⟩ := hr
  exact ⟨y, (max_bot hc).trans hy⟩

/-- Of scores that are all finite the largest is finite. -/
theorem top_coe (s : FVec Ideal S4x8x2x8192x8448 .f32) (hs : ∀ i, s i ≠ (⊤ : EReal) ∧ s i ≠ (⊥ : EReal)) (i : S4x8x2x8192.Idx) :
    ∃ y : ℝ, top s i = (y : EReal) := by
  have hb : Ideal.ofBits .f32 0xFF800000#32 = ⊥ := by simp [Ideal.ofBits, Ideal.ieee]
  unfold top
  refine max_finite _ _ i hb ?_
  have hr : S4x8x2x8192x8448.Reduces [4] S4x8x2x8192 :=
    ⟨reducesTo_S4x8x2x8192x8448_S4x8x2x8192_d4.1, Nat.succ_pos 3, reducesTo_S4x8x2x8192x8448_S4x8x2x8192_d4.2⟩
  have ha : 0 < S4x8x2x8192x8448.size 4 := Nat.succ_pos 8447
  have hi : ∀ k, (constant (F := Ideal) S_ .f32 0xFF800000#32 : S_.Idx → EReal) k = ⊥ := fun _ => hb
  generalize (constant (F := Ideal) S_ .f32 0xFF800000#32 : S_.Idx → EReal) = init at hi ⊢
  exact reduce_finite s hs init hi reducesTo_S4x8x2x8192x8448_S4x8x2x8192_d4 hr h_S_ ha i

theorem expos_apply (s : FVec Ideal S4x8x2x8192x8448 .f32) : expos s (ix5 b h p n j) = Ideal.exp (s (ix5 b h p n j) - top s (ix4 b h p n)) := by
  rw [← alongKeys_apply b n h p j (top s)]
  rfl

theorem probs_apply (w : FVec Ideal S4x8x2x8192x8448 .f32) :
    probs w (ix5 b h p n j) = Ideal.div (w (ix5 b h p n j)) (∑ i : Fin 8448, w (ix5 b h p n i)) := by
  pointwise [probs, alongKeys]

theorem mixFactor_apply (l : FVec Ideal S4x64 .f32) :
    mixFactor l ix0 = Ideal.exp (∑ d : Fin 64, l (ix2 0 d) * l (ix2 1 d)) - Ideal.exp (∑ d : Fin 64, l (ix2 2 d) * l (ix2 3 d)) + Ideal.ofBits .f32 0x3E4CCCCD#32 := by
  pointwise [mixFactor]

theorem mixedProbs_apply (x : FVec Ideal S4x8x2x8192x8448 .f32) (lam : FVec Ideal S_ .f32) (j : Fin 8448) :
    mixedProbs x lam (ix4 b h n j) = x (ix5 b h 0 n j) - lam ix0 * x (ix5 b h 1 n j) := by
  pointwise [mixedProbs]

theorem attend_apply (V : FVec Ideal S4x8448x8x128 .f32) (d : FVec Ideal S4x8x8192x8448 .f32) :
    attend V d (ix4 b n h e) = ∑ j : Fin 8448, V (ix4 b j h e) * d (ix4 b h n j) := by
  pointwise [attend]

theorem normed_apply (o : FVec Ideal S4x8192x8x128 .f32) (g : FVec Ideal S128 .f32) (a : Fin 1024) :
    normed o g (ix3 b n a)
      = o (ix4 b n ⟨a.val / 128, by omega⟩ ⟨a.val % 128, by omega⟩)
        * Ideal.rsqrt (Ideal.div (∑ k : Fin 128, o (ix4 b n ⟨a.val / 128, by omega⟩ k) * o (ix4 b n ⟨a.val / 128, by omega⟩ k)) (Ideal.ofBits .f32 0x43000000#32)
          + Ideal.ofBits .f32 0x3727C5AC#32)
        * g (ix1 ⟨a.val % 128, by omega⟩) * Ideal.ofBits .f32 0x3F4CCCCD#32 := by
  pointwise [normed]

end Cert.ReferenceIdeal

end
-- ==== Proof.Reference.lean ====
/-
  The reference's result on finite arguments is the layer's formula.
-/
module

public import proofs.«01_k».proof.Proof.Pieces
public import proofs.«01_k».proof.Proof.Plain

@[expose] public section

set_option maxRecDepth 16384

noncomputable section

namespace Cert.ReferenceIdeal

open Idealize.ShloMosaic Idealize.ShloMosaic.TcCoe
open Cert.Attn (Args Fin' average coe_sum div_coe_coe)

variable {A : Args} (hA : A.Fin) (b : Fin 4) (n : Fin 8192) (h : Fin 8) (p : Fin 2) (e : Fin 128) (j : Fin 8448)

/-- The scores of the arguments. -/
def scoresOf (A : Args) : FVec Ideal S4x8x2x8192x8448 .f32 := scores A.q (allKeys A.k A.kc)

/-- The weights of the arguments. -/
def probsOf (A : Args) : FVec Ideal S4x8x2x8192x8448 .f32 := probs (expos (scoresOf A))

/-- The attention of the arguments. -/
def attendOf (A : Args) : FVec Ideal S4x8192x8x128 .f32 := attend (allVals A.v A.vc) (mixedProbs (probsOf A) (mixFactor A.l))

/-- The sum of a row's exponentials. -/
def mass (t : ℕ → ℝ) : ℝ := ∑ j ∈ Finset.range 8448, Real.exp (t j)

theorem mass_pos (t : ℕ → ℝ) : 0 < mass t := Finset.sum_pos (fun _ _ => Real.exp_pos _) ⟨0, by simp⟩

/-- Less the same shift, the exponentials over their sum are what they were. -/
theorem shifted (t : ℕ → ℝ) (y : ℝ) (i : ℕ) : Real.exp (t i - y) / mass (fun j => t j - y) = Real.exp (t i) / mass t := by
  have e : ∀ j, Real.exp (t j - y) = Real.exp (t j) * Real.exp (-y) := fun j => by rw [sub_eq_add_neg, Real.exp_add]
  rw [mass, e, Finset.sum_congr rfl fun j _ => e j, ← Finset.sum_mul, mul_div_mul_right _ _ (Real.exp_pos _).ne', mass]

theorem eighth : Ideal.ofBits .f32 0x3E000000#32 = ((1 / 8 : ℝ) : EReal) := by
  simp [Ideal.ofBits, Ideal.ieee, -EReal.coe_mul]
  norm_num

include hA

theorem keys_coe (d : Fin 64) : allKeys A.k A.kc (ix5 b j h p d) = (A.key b h p d j.val : EReal) := by
  rw [allKeys_apply, Args.key]
  split
  · exact hA.k.coe _
  · rw [← hA.kc.coe]
    have hj : (⟨j.val - 8192, by omega⟩ : Fin 256) = ⟨(j.val - 8192) % 256, Nat.mod_lt _ (by norm_num)⟩ :=
      Fin.ext (by show j.val - 8192 = (j.val - 8192) % 256; omega)
    rw [hj]

theorem vals_coe : allVals A.v A.vc (ix4 b j h e) = (A.val b h e j.val : EReal) := by
  rw [allVals_apply, Args.val]
  split
  · exact hA.v.coe _
  · rw [← hA.vc.coe]
    have hj : (⟨j.val - 8192, by omega⟩ : Fin 256) = ⟨(j.val - 8192) % 256, Nat.mod_lt _ (by norm_num)⟩ :=
      Fin.ext (by show j.val - 8192 = (j.val - 8192) % 256; omega)
    rw [hj]

theorem scores_coe : scoresOf A (ix5 b h p n j) = (A.scaled b n h p j.val : EReal) := by
  rw [scoresOf, scores_apply, eighth, Args.scaled, EReal.coe_mul, coe_sum]
  congr 1
  refine Finset.sum_congr rfl fun d _ => ?_
  rw [keys_coe hA, EReal.coe_mul, ← hA.q.coe]

theorem scores_finite (i : S4x8x2x8192x8448.Idx) : scoresOf A i ≠ (⊤ : EReal) ∧ scoresOf A i ≠ (⊥ : EReal) := by
  obtain ⟨b, h, p, n, j, rfl⟩ : ∃ (b : Fin 4) (h : Fin 8) (p : Fin 2) (n : Fin 8192) (j : Fin 8448), i = ix5 b h p n j :=
    ⟨i 0, i 1, i 2, i 3, i 4, by
      funext a
      match a with
      | ⟨0, _⟩ => rfl
      | ⟨1, _⟩ => rfl
      | ⟨2, _⟩ => rfl
      | ⟨3, _⟩ => rfl
      | ⟨4, _⟩ => rfl⟩
  rw [scores_coe hA]
  exact ⟨EReal.coe_ne_top _, EReal.coe_ne_bot _⟩

theorem probs_coe : probsOf A (ix5 b h p n j) = ((Real.exp (A.scaled b n h p j.val) / mass (A.scaled b n h p) : ℝ) : EReal) := by
  obtain ⟨y, hy⟩ := top_coe (scoresOf A) (scores_finite hA) (ix4 b h p n)
  have he : ∀ i : Fin 8448, expos (scoresOf A) (ix5 b h p n i) = ((Real.exp (A.scaled b n h p i.val - y) : ℝ) : EReal) := by
    intro i
    rw [expos_apply, hy, scores_coe hA, ← EReal.coe_sub]
    rfl
  have hm : ∑ i : Fin 8448, expos (scoresOf A) (ix5 b h p n i) = ((mass (fun j => A.scaled b n h p j - y) : ℝ) : EReal) := by
    rw [mass, ← Fin.sum_univ_eq_sum_range (fun j => Real.exp (A.scaled b n h p j - y)) 8448, coe_sum]
    exact Finset.sum_congr rfl fun i _ => he i
  rw [probsOf, probs_apply, hm, he, div_coe_coe _ _ (mass_pos _).ne', shifted]

theorem factor_coe : mixFactor A.l ix0 = (A.lam : EReal) := by
  rw [mixFactor_apply, ← Cert.Attn.lamOf_coe A hA.l, Cert.Attn.lamOf_apply]

theorem attend_coe : attendOf A (ix4 b n h e) = (A.mixed b n h e : EReal) := by
  have hj : ∀ i : Fin 8448, allVals A.v A.vc (ix4 b i h e) * mixedProbs (probsOf A) (mixFactor A.l) (ix4 b h n i)
      = ((A.val b h e i.val * (Real.exp (A.scaled b n h 0 i.val) / mass (A.scaled b n h 0)
          - A.lam * (Real.exp (A.scaled b n h 1 i.val) / mass (A.scaled b n h 1))) : ℝ) : EReal) := by
    intro i
    rw [mixedProbs_apply, vals_coe hA, probs_coe hA, probs_coe hA, factor_coe hA, EReal.coe_mul, EReal.coe_sub, EReal.coe_mul]
  rw [attendOf, attend_apply, Finset.sum_congr rfl fun i _ => hj i, ← coe_sum,
    Fin.sum_univ_eq_sum_range (fun i => A.val b h e i * (Real.exp (A.scaled b n h 0 i) / mass (A.scaled b n h 0)
      - A.lam * (Real.exp (A.scaled b n h 1 i) / mass (A.scaled b n h 1)))) 8448]
  congr 1
  rw [Args.mixed, average, average, ← mass, ← mass, Finset.sum_div, Finset.sum_div, Finset.mul_sum, ← Finset.sum_sub_distrib]
  refine Finset.sum_congr rfl fun i _ => ?_
  ring

/-- The reference's result is the layer's formula. -/
theorem normed_coe (g : S128.Idx → EReal) (i : S4x8192x1024.Idx) :
    normed (attendOf A) g i = A.out (i 0) (i 1) ⟨(i 2).val / 128, by have : (i 2).val < 1024 := (i 2).isLt; omega⟩ g
      ⟨(i 2).val % 128, Nat.mod_lt _ (by norm_num)⟩ := by
  obtain ⟨b, n, a, rfl⟩ : ∃ (b : Fin 4) (n : Fin 8192) (a : Fin 1024), i = ix3 b n a :=
    ⟨i 0, i 1, i 2, by
      funext x
      match x with
      | ⟨0, _⟩ => rfl
      | ⟨1, _⟩ => rfl
      | ⟨2, _⟩ => rfl⟩
  rw [normed_apply]
  simp only [attend_coe hA]
  rfl

omit hA in
theorem result_of (m : (ℓ : Loc nD τ sig) → Buf (Elt Ideal) ℓ) (c : Dev nD) (g : S128.Idx → EReal)
    (h0 : m ((c : Thread nD τ).loc main_arg0) = A.q) (h1 : m ((c : Thread nD τ).loc main_arg1) = A.k) (h2 : m ((c : Thread nD τ).loc main_arg2) = A.v)
    (h3 : m ((c : Thread nD τ).loc main_arg3) = A.kc) (h4 : m ((c : Thread nD τ).loc main_arg4) = A.vc) (h5 : m ((c : Thread nD τ).loc main_arg5) = A.l)
    (h6 : m ((c : Thread nD τ).loc main_arg6) = g) : Value.res_main_v57 m c = normed (attendOf A) g := by
  rw [result_eq, h0, h1, h2, h3, h4, h5, h6]
  rfl

end Cert.ReferenceIdeal

end
-- ==== Proof.GateText.lean ====
/-
  The spatial gating at one element of its result, as a formula over extended reals.
-/
module

public import proofs.«01_k».proof.GatingIdeal
public import Idealize.ShloMosaic.Lib.Pointwise

@[expose] public section

noncomputable section

namespace Cert.Gate

open Idealize.ShloMosaic
open Cert.GatingIdeal (S4x8192x1024 S8x1024 S1024x4096 S4096 S2048 S8x128x128 S8x128)

/-- The activation: half of `z` times one more than the error function of `z` over the root of two. -/
def act (z : EReal) : EReal :=
  Ideal.div (z * (1 + Ideal.erf (Ideal.div z (Ideal.sqrt (Ideal.ofBits .f32 0x40000000#32))))) (Ideal.ofBits .f32 0x40000000#32)

/-- The mean of a token's lanes. -/
def mean (v : Fin 2048 → EReal) : EReal := Ideal.div (∑ i : Fin 2048, v i) (Ideal.ofBits .f32 0x45000000#32)

/-- A token's lanes less their mean, over their root mean square, scaled and shifted. -/
def norm (v : Fin 2048 → EReal) (g e : EReal) (j : Fin 2048) : EReal :=
  (v j - mean v) * Ideal.rsqrt (mean (fun i => (v i - mean v) * (v i - mean v)) + Ideal.ofBits .f32 0x3727C5AC#32) * g + e

/-- The arguments: the input, the scales and the shifts of its lanes, the first map and its offset, the scales and the
    shifts of the second half, the mixing of a chunk's tokens and its offset. -/
structure Args where
  x : S4x8192x1024.Idx → EReal
  s : S8x1024.Idx → EReal
  a : S8x1024.Idx → EReal
  w : S1024x4096.Idx → EReal
  c : S4096.Idx → EReal
  g : S2048.Idx → EReal
  e : S2048.Idx → EReal
  k : S8x128x128.Idx → EReal
  d : S8x128.Idx → EReal

namespace Args

variable (A : Args) (b : Fin 4) (n : Fin 8192)

/-- Lane `j` of a token after the first map. -/
def lane (j : Fin 4096) : EReal :=
  (∑ i : Fin 1024, (A.x (ix3 b n i) * (1 + A.s (ix2 ⟨b.val, by omega⟩ i)) + A.a (ix2 ⟨b.val, by omega⟩ i)) * A.w (ix2 i j)) + A.c (ix1 j)

/-- The first half of a token's lanes. -/
def gate (j : Fin 2048) : EReal := act (A.lane b n ⟨j.val, by omega⟩)

/-- The second half of a token's lanes. -/
def value (j : Fin 2048) : EReal := act (A.lane b n ⟨2048 + j.val, by omega⟩)

/-- Lane `j` of a token's result: the gate times the mixed values of the token's chunk. -/
def out (j : Fin 2048) : EReal :=
  A.gate b n j * ((∑ q : Fin 128, A.k (ix3 ⟨j.val / 256, by omega⟩ ⟨n.val % 128, by omega⟩ q)
      * norm (A.value b ⟨n.val / 128 * 128 + q.val, by omega⟩) (A.g (ix1 j)) (A.e (ix1 j)) j)
    + A.d (ix2 ⟨j.val / 256, by omega⟩ ⟨n.val % 128, by omega⟩))

end Args

theorem two : Ideal.ofBits .f32 0x40000000#32 = ((2 : ℝ) : EReal) := by
  simp [Ideal.ofBits, Ideal.ieee, -EReal.coe_mul]
  norm_num

theorem half : Ideal.ofBits .f32 0x3F000000#32 = ((2⁻¹ : ℝ) : EReal) := by
  simp [Ideal.ofBits, Ideal.ieee, -EReal.coe_mul]
  norm_num

theorem root : Ideal.sqrt (Ideal.ofBits .f32 0x40000000#32) = ((Real.sqrt 2 : ℝ) : EReal) := by
  rw [two]
  show (if (2 : ℝ) < 0 then (⊥ : EReal) else (Real.sqrt 2 : EReal)) = _
  rw [if_neg (by norm_num)]

theorem div_coe (x : EReal) {y : ℝ} (h : y ≠ 0) : Ideal.div x (y : EReal) = x * ((y⁻¹ : ℝ) : EReal) := by
  unfold Ideal.div
  rw [if_neg (by exact_mod_cast h), EReal.coe_inv]

/-- The activation by its multiplications. -/
theorem act_eq (z : EReal) :
    Ideal.ofBits .f32 0x3F000000#32 * z * (1 + Ideal.erf (z * (((Real.sqrt 2)⁻¹ : ℝ) : EReal))) = act z := by
  unfold act
  rw [root, two, div_coe _ (by norm_num : (2 : ℝ) ≠ 0), div_coe _ (by positivity : Real.sqrt 2 ≠ 0), half]
  rw [mul_comm (((2⁻¹ : ℝ) : EReal)) z, mul_assoc, mul_assoc, mul_comm (((2⁻¹ : ℝ) : EReal))]

end Cert.Gate

end
-- ==== Proof.GateBlock.lean ====
/-
  The block of results of the spatial gating that a point leaves, element by element.
-/
module

public import proofs.«01_k».proof.Proof.Gen.GatingIdeal.Value
public import proofs.«01_k».proof.Proof.GateText
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.GatingIdeal

open Idealize.ShloMosaic Idealize.ShloMosaic.TcCoe
open Gen
open Cert.Gate

/-- A tile of the result, from the tiles of the two halves. -/
def tile (u : FVec Ideal S128x256 .f32) (v : FVec Ideal S128x256 .bf16) (w : FVec Ideal S1x128x128 .bf16) (s : FVec Ideal S128x1 .f32) :
    FVec Ideal S1x128x256 .bf16 :=
  shapeCast S1x128x256 (truncf .bf16 (mulf u
    (addf (matmul dot_S128x128_S128x256_S128x256_1_0_0_1_n_n none (shapeCast S128x128 w shapeCasts_S1x128x128_S128x128) v (constant S128x256 .f32 0x00000000#32))
      (broadcastTo S128x256 (shapeCast S128x1 s shapeCasts_S128x1_S128x1) broadcasts_S128x1_S128x256))) bitsLt_bf16_f32) shapeCasts_S128x256_S1x128x256

theorem tile_apply (u : FVec Ideal S128x256 .f32) (v : FVec Ideal S128x256 .bf16) (w : FVec Ideal S1x128x128 .bf16) (s : FVec Ideal S128x1 .f32)
    (p : Fin 128) (q : Fin 256) :
    tile u v w s (ix3 0 p q) = u (ix2 p q) * ((∑ k : Fin 128, w (ix3 0 p k) * v (ix2 k q)) + s (ix2 p 0)) := by
  pointwise [tile]

/-- A block of the result, from the two halves. -/
def whole (u : FVec Ideal S512x2048 .f32) (v : FVec Ideal S512x2048 .bf16) (w : FVec Ideal S8x128x128 .bf16) (s : FVec Ideal S128x8 .f32) :
    FVec Ideal S1x512x2048 .bf16 := fun y =>
  u (ix2 (y 1) (y 2)) * ((∑ k : Fin 128, w (ix3 ⟨(y 2).val / 256, Nat.div_lt_of_lt_mul (y 2).isLt⟩ ⟨(y 1).val % 128, Nat.mod_lt _ (by decide)⟩ k)
      * v (ix2 ⟨(y 1).val / 128 * 128 + k.val, by have : (y 1).val < 512 := (y 1).isLt; omega⟩ (y 2)))
    + s (ix2 ⟨(y 1).val % 128, Nat.mod_lt _ (by decide)⟩ ⟨(y 2).val / 256, Nat.div_lt_of_lt_mul (y 2).isLt⟩))

theorem tile_whole {a b g : Nat} (u : FVec Ideal S512x2048 .f32) (v : FVec Ideal S512x2048 .bf16) (w : FVec Ideal S8x128x128 .bf16) (s : FVec Ideal S128x8 .f32)
    {h : S512x2048.Slices ![a, b] S128x256}
    {hw : ∀ i, (![g, 0, 0] : Fin 3 → Nat) i + S1x128x128.size i ≤ S8x128x128.size i}
    {hs : ∀ i, (![0, g] : Fin 2 → Nat) i + S128x1.size i ≤ S128x8.size i}
    (hr : ∀ i, (![0, a, b] : Fin 3 → Nat) i + S1x128x256.size i ≤ S1x512x2048.size i)
    (ha : a % 128 = 0) (hb : b = 256 * g) (x : S1x128x256.Idx) :
    tile (extractStridedSlice S128x256 ![a, b] u h) (extractStridedSlice S128x256 ![a, b] v h)
        (View.ld (Val := Elt Ideal) (e' := .bf16) w (Rect.unit (s := S8x128x128) ![g, 0, 0] S1x128x128.size hw))
        (View.ld (Val := Elt Ideal) (e' := .f32) s (Rect.unit (s := S128x8) ![0, g] S128x1.size hs)) x
      = whole u v w s ((Rect.unit (s := S1x512x2048) ![0, a, b] S1x128x256.size hr).emb x) := by
  obtain ⟨p, q, rfl⟩ : ∃ (p : Fin 128) (q : Fin 256), x = ix3 0 p q := ⟨x 1, x 2, by
    funext i
    match i with
    | ⟨0, _⟩ => exact Subsingleton.elim (α := Fin 1) _ _
    | ⟨1, _⟩ => rfl
    | ⟨2, _⟩ => rfl⟩
  have h1 : a + 128 ≤ 512 := hr 1
  have h2 : b + 256 ≤ 2048 := hr 2
  generalize hy : (Rect.unit (s := S1x512x2048) ![0, a, b] S1x128x256.size hr).emb (ix3 0 p q) = y
  have e1 : (y 1).val = a + p.val := by rw [← hy]; show a + 1 * p.val = _; omega
  have e2 : (y 2).val = b + q.val := by rw [← hy]; show b + 1 * q.val = _; omega
  have sl : ∀ {α : Type} (z : S512x2048.Idx → α) (i : Fin 128) (k : S512x2048.Idx), (k 0).val = a + i.val → (k 1).val = b + q.val →
      extractStridedSlice S128x256 ![a, b] z h (ix2 i q) = z k := fun z i k k0 k1 =>
    extractStridedSlice_apply _ z h _ k fun j => match j with | ⟨0, _⟩ => k0 | ⟨1, _⟩ => k1
  rw [tile_apply, sl u p (ix2 (y 1) (y 2)) e1 e2]
  unfold whole
  have hp := p.isLt
  have hq := q.isLt
  refine congrArg (u (ix2 (y 1) (y 2)) * ·) (congrArg₂ (· + ·) (Finset.sum_congr rfl fun k _ => congrArg₂ (· * ·) ?_ ?_) ?_)
  · rw [View.ld_apply]
    refine congrArg w (funext fun j => Fin.ext ?_)
    match j with
    | ⟨0, _⟩ => show g + 1 * 0 = (y 2).val / 256; omega
    | ⟨1, _⟩ => show 0 + 1 * p.val = (y 1).val % 128; omega
    | ⟨2, _⟩ => show 0 + 1 * k.val = k.val; omega
  · exact sl v k _ (by show (y 1).val / 128 * 128 + k.val = _; omega) e2
  · rw [View.ld_apply]
    refine congrArg s (funext fun j => Fin.ext ?_)
    match j with
    | ⟨0, _⟩ => show 0 + 1 * p.val = (y 1).val % 128; omega
    | ⟨1, _⟩ => show g + 1 * 0 = (y 2).val / 256; omega

/-- The pieces the body stores are the tiles of the block. -/
theorem out_eq (x0 : Vec Ideal S1x512x1024 .f32) (x1 : Vec Ideal S1x1x1024 .f32) (x2 : Vec Ideal S1x1x1024 .f32) (x3 : Vec Ideal S1024x4096 .bf16)
    (x4 : Vec Ideal S1x4096 .f32) (x5 : Vec Ideal S1x2048 .f32) (x6 : Vec Ideal S1x2048 .f32) (x7 : Vec Ideal S8x128x128 .bf16) (x8 : Vec Ideal S128x8 .f32) :
    out0_9 x0 x1 x2 x3 x4 x5 x6 x7 x8 = whole (k0_pay54 x0 x1 x2 x3 x4 x5 x6 x7 x8) (k0_pay59 x0 x1 x2 x3 x4 x5 x6 x7 x8) x7 x8 := by
  funext y
  unfold out0_9
  refine View.canon_apply_of_pieces _ _ ?_ y (cover0_9 _ _ _ _ _ _ _ _ _ _ _ _ _ _ _ _ _ _ _ _ _ _ _ _ _ _ _ _ _ _ _ _ y)
  refine View.PiecesOf.mem ?_
  iterate 32 refine ⟨fun x => tile_whole _ _ _ _ (by decide) (by decide) (by decide) x, ?_⟩
  trivial

/-! ## The two halves -/

theorem root_half : (Named.named κ "sqrt_half" (0x3F3504F3#32 : BitVec (FTy.f32.bits)) : Ideal .f32) = (((Real.sqrt 2)⁻¹ : ℝ) : EReal) :=
  IdealRules.named_const.ideal_named_scalar _ _ _ _ rfl

theorem lanes_apply (x : Vec Ideal S1x512x1024 .f32) (s a : Vec Ideal S1x1x1024 .f32) (w : Vec Ideal S1024x4096 .bf16) (c : Vec Ideal S1x4096 .f32)
    (r : Fin 512) (j : Fin 4096) :
    k0_pay2 x s a w c (ix2 r j)
      = act ((∑ i : Fin 1024, (x (ix3 0 r i) * (1 + s (ix3 0 0 i)) + a (ix3 0 0 i)) * w (ix2 i j)) + c (ix2 0 j)) := by
  rw [← act_eq]
  pointwise [k0_pay2]
  rw [root_half]
  rfl

theorem normed_apply (v : FVec Ideal S512x2048 .f32) (g e : FVec Ideal S1x2048 .f32) (t : FVec Ideal S512 .f32)
    (r : Fin 512) (ht : t (ix1 r) = ∑ i : Fin 2048, v (ix2 r i)) (j : Fin 2048) :
    k0_pay8 v g e t (ix2 r j) = norm (fun i => v (ix2 r i)) (g (ix2 0 j)) (e (ix2 0 j)) j := by
  pointwise [k0_pay8]
  rw [ht]
  rfl

/-- The blocks a point reads, as elements of the arguments. -/
structure Reads (A : Args) (b : Fin 4) (n : Fin 512 → Fin 8192) (x0 : Vec Ideal S1x512x1024 .f32) (x1 : Vec Ideal S1x1x1024 .f32)
    (x2 : Vec Ideal S1x1x1024 .f32) (x3 : Vec Ideal S1024x4096 .bf16) (x4 : Vec Ideal S1x4096 .f32) (x5 : Vec Ideal S1x2048 .f32)
    (x6 : Vec Ideal S1x2048 .f32) (x7 : Vec Ideal S8x128x128 .bf16) (x8 : Vec Ideal S128x8 .f32) : Prop where
  h0 : ∀ r i, x0 (ix3 0 r i) = A.x (ix3 b (n r) i)
  h1 : ∀ i, x1 (ix3 0 0 i) = A.s (ix2 ⟨b.val, by omega⟩ i)
  h2 : ∀ i, x2 (ix3 0 0 i) = A.a (ix2 ⟨b.val, by omega⟩ i)
  h3 : ∀ i j, x3 (ix2 i j) = A.w (ix2 i j)
  h4 : ∀ j, x4 (ix2 0 j) = A.c (ix1 j)
  h5 : ∀ j, x5 (ix2 0 j) = A.g (ix1 j)
  h6 : ∀ j, x6 (ix2 0 j) = A.e (ix1 j)
  h7 : ∀ h p q, x7 (ix3 h p q) = A.k (ix3 h p q)
  h8 : ∀ p h, x8 (ix2 p h) = A.d (ix2 h p)

/-- A load of a whole block is the block. -/
theorem ld_whole {s : Shape} {e : EltTy} (x : s.Idx → Elt Ideal e) (o : Fin s.rank → Nat) (h : ∀ i, o i + s.size i ≤ s.size i) :
    View.ld (Val := Elt Ideal) (e' := e) x (Rect.unit (s := s) o s.size h) = x :=
  View.ld_unit_zero (funext fun i => by have := h i; omega) h x

namespace Reads

variable {A : Args} {b : Fin 4} {n : Fin 512 → Fin 8192} {x0 : Vec Ideal S1x512x1024 .f32} {x1 : Vec Ideal S1x1x1024 .f32}
  {x2 : Vec Ideal S1x1x1024 .f32} {x3 : Vec Ideal S1024x4096 .bf16} {x4 : Vec Ideal S1x4096 .f32} {x5 : Vec Ideal S1x2048 .f32}
  {x6 : Vec Ideal S1x2048 .f32} {x7 : Vec Ideal S8x128x128 .bf16} {x8 : Vec Ideal S128x8 .f32}

theorem lanes (R : Reads A b n x0 x1 x2 x3 x4 x5 x6 x7 x8) (r : Fin 512) (j : Fin 4096) :
    k0_pay2 (View.ld x0 r0_0) (View.ld x1 r0_1) (View.ld x2 r0_1) (View.ld x3 r0_2) (View.ld x4 r0_3) (ix2 r j) = act (A.lane b (n r) j) := by
  rw [show View.ld x0 r0_0 = x0 from ld_whole x0 _ _, show View.ld x1 r0_1 = x1 from ld_whole x1 _ _, show View.ld x2 r0_1 = x2 from ld_whole x2 _ _,
    show View.ld x3 r0_2 = x3 from ld_whole x3 _ _, show View.ld x4 r0_3 = x4 from ld_whole x4 _ _, lanes_apply]
  simp only [R.h0, R.h1, R.h2, R.h3, R.h4]
  rfl

theorem gate (R : Reads A b n x0 x1 x2 x3 x4 x5 x6 x7 x8) (r : Fin 512) (j : Fin 2048) :
    k0_pay54 x0 x1 x2 x3 x4 x5 x6 x7 x8 (ix2 r j) = A.gate b (n r) j :=
  (extractStridedSlice_apply _ _ slices_S512x4096_o0_0_S512x2048 _ (ix2 r ⟨j.val, by omega⟩) fun i =>
    match i with
    | ⟨0, _⟩ => (Nat.zero_add _).symm
    | ⟨1, _⟩ => (Nat.zero_add _).symm).trans (R.lanes r _)

theorem value (R : Reads A b n x0 x1 x2 x3 x4 x5 x6 x7 x8) (r : Fin 512) (j : Fin 2048) :
    k0_pay55 x0 x1 x2 x3 x4 x5 x6 x7 x8 (ix2 r j) = A.value b (n r) j :=
  (extractStridedSlice_apply _ _ slices_S512x4096_o0_2048_S512x2048 _ (ix2 r ⟨2048 + j.val, by omega⟩) fun i =>
    match i with
    | ⟨0, _⟩ => (Nat.zero_add _).symm
    | ⟨1, _⟩ => rfl).trans (R.lanes r _)

theorem sums (r : Fin 512) :
    k0_pay58 x0 x1 x2 x3 x4 x5 x6 x7 x8 (ix1 r) = ∑ i : Fin 2048, k0_pay55 x0 x1 x2 x3 x4 x5 x6 x7 x8 (ix2 r i) := by
  unfold k0_pay58 k0_pay55 k0_pay7
  pointwise

theorem normed (R : Reads A b n x0 x1 x2 x3 x4 x5 x6 x7 x8) (r : Fin 512) (j : Fin 2048) :
    k0_pay59 x0 x1 x2 x3 x4 x5 x6 x7 x8 (ix2 r j) = norm (A.value b (n r)) (A.g (ix1 j)) (A.e (ix1 j)) j := by
  have h5 : k0_pay56 x0 x1 x2 x3 x4 x5 x6 x7 x8 (ix2 0 j) = A.g (ix1 j) := by
    unfold k0_pay56
    rw [show View.ld x5 r0_4 = x5 from ld_whole x5 _ _]
    pointwise [k0_pay5]
    exact R.h5 j
  have h6 : k0_pay57 x0 x1 x2 x3 x4 x5 x6 x7 x8 (ix2 0 j) = A.e (ix1 j) := by
    unfold k0_pay57
    rw [show View.ld x6 r0_4 = x6 from ld_whole x6 _ _]
    pointwise [k0_pay6]
    exact R.h6 j
  unfold k0_pay59
  rw [normed_apply _ _ _ _ r (sums r), h5, h6]
  simp only [R.value]

/-- The block of results is the formula, the tokens of a chunk being one after the other. -/
theorem out (R : Reads A b n x0 x1 x2 x3 x4 x5 x6 x7 x8) {o : Nat} (ho : ∀ r, (n r).val = 512 * o + r.val) (r : Fin 512) (j : Fin 2048) :
    out0_9 x0 x1 x2 x3 x4 x5 x6 x7 x8 (ix3 0 r j) = A.out b (n r) j := by
  rw [out_eq]
  unfold whole Args.out
  have hr := ho r
  have e : ∀ h : r.val % 128 < 128, (⟨r.val % 128, h⟩ : Fin 128) = ⟨(n r).val % 128, Nat.mod_lt _ (by decide)⟩ := fun _ => Fin.ext (by show r.val % 128 = (n r).val % 128; omega)
  refine congrArg₂ (· * ·) (R.gate r j) (congrArg₂ (· + ·) (Finset.sum_congr rfl fun q _ => congrArg₂ (· * ·) ?_ ?_) ?_)
  · exact (R.h7 _ _ _).trans (by rw [← e (Nat.mod_lt _ (by decide))]; rfl)
  · refine (R.normed _ j).trans ?_
    have hq : n ⟨r.val / 128 * 128 + q.val, by omega⟩ = ⟨(n r).val / 128 * 128 + q.val, by omega⟩ := Fin.ext (by
      show (n _).val = _
      rw [ho]
      show 512 * o + (r.val / 128 * 128 + q.val) = (n r).val / 128 * 128 + q.val
      omega)
    exact congrArg (fun t => norm (A.value b t) (A.g (ix1 j)) (A.e (ix1 j)) j) hq
  · exact (R.h8 _ _).trans (by rw [← e (Nat.mod_lt _ (by decide))]; rfl)

end Reads

end Cert.GatingIdeal

end
-- ==== Proof.GateResult.lean ====
/-
  The array of results of the spatial gating, from the blocks the points leave, equal to the formula.
-/
module

public import proofs.«01_k».proof.Proof.GateBlock
public import Idealize.ShloMosaic.Lib.StableHlo.ReadAt

@[expose] public section

set_option maxRecDepth 16384

noncomputable section

namespace Cert.GatingIdeal

open Idealize.ShloMosaic Idealize.ShloMosaic.TcCoe Idealize.ShloMosaic.Tactic
open Idealize.SL.Sem
open Idealize.ShloMosaic.Pipeline (Dat Cfg Window)
open Cert.Gate Gen

/-- The batch entry and the tokens of a point. -/
def bOf (t : Fin cfg0.N) : Fin 4 := ⟨t.val / 16, by have := t.isLt; have : cfg0.N = 64 := N_0; omega⟩
def nOf (t : Fin cfg0.N) (r : Fin 512) : Fin 8192 := ⟨512 * (t.val % 16) + r.val, by omega⟩

theorem index0 : ∀ t : Fin grid0.N, win0_0.index t = ![t.val / 16, t.val % 16, 0] := by decide +kernel
theorem index1 : ∀ t : Fin grid0.N, win0_1.index t = ![t.val / 16, 0, 0] := by decide +kernel
theorem index2 : ∀ t : Fin grid0.N, win0_2.index t = ![t.val / 16, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0, 0] := by decide +kernel
theorem index8 : ∀ t : Fin grid0.N, win0_8.index t = ![0, 0] := by decide +kernel
theorem index9 : ∀ t : Fin grid0.N, win0_9.index t = ![t.val / 16, t.val % 16, 0] := by decide +kernel

variable (m : (ℓ : Loc nD τ sig) → Buf (Elt Ideal) ℓ) (c : Dev nD) (t : Fin cfg0.N)

/-- The arguments a memory holds. -/
def argsOf : Args where
  x := m ((c : Thread nD τ).loc main_arg0)
  s := m ((c : Thread nD τ).loc main_arg1)
  a := m ((c : Thread nD τ).loc main_arg2)
  w := m ((c : Thread nD τ).loc main_arg3)
  c := m ((c : Thread nD τ).loc main_arg4)
  g := m ((c : Thread nD τ).loc main_arg5)
  e := m ((c : Thread nD τ).loc main_arg6)
  k := m ((c : Thread nD τ).loc main_arg7)
  d := m ((c : Thread nD τ).loc main_arg8)

/-! ## The arrays the kernel is given -/

theorem V0 (b : Fin 8) (i : Fin 1024) : (V m c main_v0 : FVec Ideal S8x1x1024 .f32) (ix3 b 0 i) = (argsOf m c).s (ix2 b i) := by
  unfold V argsOf
  after_reads_at

theorem V1 (b : Fin 8) (i : Fin 1024) : (V m c main_v1 : FVec Ideal S8x1x1024 .f32) (ix3 b 0 i) = (argsOf m c).a (ix2 b i) := by
  unfold V argsOf
  after_reads_at

theorem V2 (i : Fin 1024) (j : Fin 4096) : (V m c main_v2 : FVec Ideal S1024x4096 .bf16) (ix2 i j) = (argsOf m c).w (ix2 i j) := by
  unfold V argsOf
  after_reads_at

theorem V3 (h : Fin 8) (p q : Fin 128) : (V m c main_v3 : FVec Ideal S8x128x128 .bf16) (ix3 h p q) = (argsOf m c).k (ix3 h p q) := by
  unfold V argsOf
  after_reads_at

theorem V4 (p : Fin 128) (h : Fin 8) : (V m c main_v4 : FVec Ideal S128x8 .f32) (ix2 p h) = (argsOf m c).d (ix2 h p) := by
  unfold V argsOf
  after_reads_at

theorem V5 (j : Fin 4096) : (V m c main_v5 : FVec Ideal S1x4096 .f32) (ix2 0 j) = (argsOf m c).c (ix1 j) := by
  unfold V argsOf
  after_reads_at

theorem V6 (j : Fin 2048) : (V m c main_v6 : FVec Ideal S1x2048 .f32) (ix2 0 j) = (argsOf m c).g (ix1 j) := by
  unfold V argsOf
  after_reads_at

theorem V7 (j : Fin 2048) : (V m c main_v7 : FVec Ideal S1x2048 .f32) (ix2 0 j) = (argsOf m c).e (ix1 j) := by
  unfold V argsOf
  after_reads_at

/-! ## The blocks a point reads -/

theorem iblk0 (r : Fin 512) (i : Fin 1024) :
    (iblk m c 0 t : FVec Ideal S1x512x1024 .f32) (ix3 0 r i) = (argsOf m c).x (ix3 (bOf t) (nOf t r) i) := by
  have hi := index0 t
  unfold iblk
  rw [View.read_apply]
  refine Eq.trans (b := (V m c main_arg0 : _) (_)) (congrArg (V m c main_arg0) ?_) (congrFun (V_main_arg0 m c) (ix3 (bOf t) (nOf t r) i))
  funext a
  apply Fin.ext
  match a with
  | ⟨0, _⟩ => show win0_0.index t 0 * 1 + 1 * 0 = t.val / 16; rw [hi]; simp [Nat.mul_comm]
  | ⟨1, _⟩ => show win0_0.index t 1 * 512 + 1 * r.val = 512 * (t.val % 16) + r.val; rw [hi]; simp [Nat.mul_comm]
  | ⟨2, _⟩ => show win0_0.index t 2 * 1024 + 1 * i.val = i.val; rw [hi]; simp [Nat.mul_comm]

theorem iblk1 (i : Fin 1024) :
    (iblk m c 1 t : FVec Ideal S1x1x1024 .f32) (ix3 0 0 i) = (argsOf m c).s (ix2 ⟨(bOf t).val, by omega⟩ i) := by
  have hi := index1 t
  unfold iblk
  rw [View.read_apply]
  refine Eq.trans (b := (V m c main_v0 : _) (_)) (congrArg (V m c main_v0) ?_) (V0 m c _ i)
  funext a
  apply Fin.ext
  match a with
  | ⟨0, _⟩ => show win0_1.index t 0 * 1 + 1 * 0 = t.val / 16; rw [hi]; simp [Nat.mul_comm]
  | ⟨1, _⟩ => show win0_1.index t 1 * 1 + 1 * 0 = 0; rw [hi]; simp [Nat.mul_comm]
  | ⟨2, _⟩ => show win0_1.index t 2 * 1024 + 1 * i.val = i.val; rw [hi]; simp [Nat.mul_comm]

theorem iblk2 (i : Fin 1024) :
    (iblk m c 2 t : FVec Ideal S1x1x1024 .f32) (ix3 0 0 i) = (argsOf m c).a (ix2 ⟨(bOf t).val, by omega⟩ i) := by
  have hi := index2 t
  unfold iblk
  rw [View.read_apply]
  refine Eq.trans (b := (V m c main_v1 : _) (_)) (congrArg (V m c main_v1) ?_) (V1 m c _ i)
  funext a
  apply Fin.ext
  match a with
  | ⟨0, _⟩ => show win0_2.index t 0 * 1 + 1 * 0 = t.val / 16; rw [hi]; simp [Nat.mul_comm]
  | ⟨1, _⟩ => show win0_2.index t 1 * 1 + 1 * 0 = 0; rw [hi]; simp [Nat.mul_comm]
  | ⟨2, _⟩ => show win0_2.index t 2 * 1024 + 1 * i.val = i.val; rw [hi]; simp [Nat.mul_comm]

/-- The other blocks are the arrays whole. -/
theorem at_zero {k : Nat} (x : Nat) (hx : x = 0) (y : Nat) : x * k + 1 * y = y := by rw [hx]; omega

theorem iblk3 (i : Fin 1024) (j : Fin 4096) : (iblk m c 3 t : FVec Ideal S1024x4096 .bf16) (ix2 i j) = (argsOf m c).w (ix2 i j) := by
  have hi := index3 t
  unfold iblk
  rw [View.read_apply]
  refine Eq.trans (b := (V m c main_v2 : _) (_)) (congrArg (V m c main_v2) ?_) (V2 m c i j)
  funext a
  match a with
  | ⟨0, _⟩ => exact Fin.ext (at_zero _ (congrFun hi 0) i.val)
  | ⟨1, _⟩ => exact Fin.ext (at_zero _ (congrFun hi 1) j.val)

theorem iblk4 (j : Fin 4096) : (iblk m c 4 t : FVec Ideal S1x4096 .f32) (ix2 0 j) = (argsOf m c).c (ix1 j) := by
  have hi := index4 t
  unfold iblk
  rw [View.read_apply]
  refine Eq.trans (b := (V m c main_v5 : _) (_)) (congrArg (V m c main_v5) ?_) (V5 m c j)
  funext a
  match a with
  | ⟨0, _⟩ => exact Fin.ext (at_zero _ (congrFun hi 0) 0)
  | ⟨1, _⟩ => exact Fin.ext (at_zero _ (congrFun hi 1) j.val)

theorem iblk5 (j : Fin 2048) : (iblk m c 5 t : FVec Ideal S1x2048 .f32) (ix2 0 j) = (argsOf m c).g (ix1 j) := by
  have hi := index5 t
  unfold iblk
  rw [View.read_apply]
  refine Eq.trans (b := (V m c main_v6 : _) (_)) (congrArg (V m c main_v6) ?_) (V6 m c j)
  funext a
  match a with
  | ⟨0, _⟩ => exact Fin.ext (at_zero _ (congrFun hi 0) 0)
  | ⟨1, _⟩ => exact Fin.ext (at_zero _ (congrFun hi 1) j.val)

theorem iblk6 (j : Fin 2048) : (iblk m c 6 t : FVec Ideal S1x2048 .f32) (ix2 0 j) = (argsOf m c).e (ix1 j) := by
  have hi := index6 t
  unfold iblk
  rw [View.read_apply]
  refine Eq.trans (b := (V m c main_v7 : _) (_)) (congrArg (V m c main_v7) ?_) (V7 m c j)
  funext a
  match a with
  | ⟨0, _⟩ => exact Fin.ext (at_zero _ (congrFun hi 0) 0)
  | ⟨1, _⟩ => exact Fin.ext (at_zero _ (congrFun hi 1) j.val)

theorem iblk7 (h : Fin 8) (p q : Fin 128) : (iblk m c 7 t : FVec Ideal S8x128x128 .bf16) (ix3 h p q) = (argsOf m c).k (ix3 h p q) := by
  have hi := index7 t
  unfold iblk
  rw [View.read_apply]
  refine Eq.trans (b := (V m c main_v3 : _) (_)) (congrArg (V m c main_v3) ?_) (V3 m c h p q)
  funext a
  match a with
  | ⟨0, _⟩ => exact Fin.ext (at_zero _ (congrFun hi 0) h.val)
  | ⟨1, _⟩ => exact Fin.ext (at_zero _ (congrFun hi 1) p.val)
  | ⟨2, _⟩ => exact Fin.ext (at_zero _ (congrFun hi 2) q.val)

theorem iblk8 (p : Fin 128) (h : Fin 8) : (iblk m c 8 t : FVec Ideal S128x8 .f32) (ix2 p h) = (argsOf m c).d (ix2 h p) := by
  have hi := index8 t
  unfold iblk
  rw [View.read_apply]
  refine Eq.trans (b := (V m c main_v4 : _) (_)) (congrArg (V m c main_v4) ?_) (V4 m c p h)
  funext a
  match a with
  | ⟨0, _⟩ => exact Fin.ext (at_zero _ (congrFun hi 0) p.val)
  | ⟨1, _⟩ => exact Fin.ext (at_zero _ (congrFun hi 1) h.val)

theorem reads : Reads (argsOf m c) (bOf t) (nOf t) (iblk m c 0 t) (iblk m c 1 t) (iblk m c 2 t) (iblk m c 3 t) (iblk m c 4 t) (iblk m c 5 t)
    (iblk m c 6 t) (iblk m c 7 t) (iblk m c 8 t) where
  h0 := iblk0 m c t
  h1 := iblk1 m c t
  h2 := iblk2 m c t
  h3 := iblk3 m c t
  h4 := iblk4 m c t
  h5 := iblk5 m c t
  h6 := iblk6 m c t
  h7 := iblk7 m c t
  h8 := iblk8 m c t

/-! ## The array -/

/-- The array of results. -/
def result : FVec Ideal S4x8192x2048 .bf16 := fun i => (argsOf m c).out (i 0) (i 1) (i 2)

theorem flushed_eq (_ : (cfg0.win 9).flush t = true) :
    (dats m 0 c).flushed 9 t = ((cfg0.win 9).blk t).view.read (Elt Ideal) (result m c) := by
  have hi := index9 t
  rw [Value.flushed9]
  show (out0_9 (iblk m c 0 t) (iblk m c 1 t) (iblk m c 2 t) (iblk m c 3 t) (iblk m c 4 t) (iblk m c 5 t) (iblk m c 6 t) (iblk m c 7 t) (iblk m c 8 t) :
    FVec Ideal S1x512x2048 .bf16) = _
  funext y
  rw [View.read_apply]
  obtain ⟨r, j, rfl⟩ : ∃ (r : Fin 512) (j : Fin 2048), y = ix3 0 r j := ⟨y 1, y 2, by
    funext a
    match a with
    | ⟨0, _⟩ => exact Subsingleton.elim (α := Fin 1) _ _
    | ⟨1, _⟩ => rfl
    | ⟨2, _⟩ => rfl⟩
  have hx : ((cfg0.win 9).blk t).view.emb (ix3 0 r j) = (ix3 (bOf t) (nOf t r) j : S4x8192x2048.Idx) := by
    funext a
    apply Fin.ext
    match a with
    | ⟨0, _⟩ => show win0_9.index t 0 * 1 + 1 * 0 = t.val / 16; rw [hi]; simp [Nat.mul_comm]
    | ⟨1, _⟩ => show win0_9.index t 1 * 512 + 1 * r.val = 512 * (t.val % 16) + r.val; rw [hi]; simp [Nat.mul_comm]
    | ⟨2, _⟩ => show win0_9.index t 2 * 2048 + 1 * j.val = j.val; rw [hi]; simp [Nat.mul_comm]
  exact ((reads m c t).out (o := t.val % 16) (fun _ => rfl) r j).trans (congrArg (result m c) hx).symm

/-- The point that leaves an element of the results. -/
def ptOf (i : S4x8192x2048.Idx) : Fin cfg0.N :=
  ⟨16 * (i 0).val + (i 1).val / 512, by
    have h0 : (i 0).val < 4 := (i 0).isLt
    have h1 : (i 1).val < 8192 := (i 1).isLt
    have : cfg0.N = 64 := N_0
    omega⟩

theorem final : (dats m 0 c).arrAt 9 cfg0.N = result m c :=
  (dats m 0 c).arrAt_eq_of_cover 9 (result m c) (flushed_eq m c) fun i =>
    ⟨ptOf i, flush0_9 (ptOf i), by
      show i ∈ ((View.whole main_v8).slice (win0_9.rect (ptOf i))).set
      rw [View.set_slice_whole, Rect.mem_set_unit]
      have hi := index9 (ptOf i)
      have h0 : (i 0).val < 4 := (i 0).isLt
      have h1 : (i 1).val < 8192 := (i 1).isLt
      have h2 : (i 2).val < 2048 := (i 2).isLt
      have hv : (ptOf i).val = 16 * (i 0).val + (i 1).val / 512 := rfl
      intro a
      match a with
      | ⟨0, _⟩ => show win0_9.index (ptOf i) 0 * 1 ≤ (i 0).val ∧ (i 0).val < win0_9.index (ptOf i) 0 * 1 + 1; rw [hi]; simp; omega
      | ⟨1, _⟩ => show win0_9.index (ptOf i) 1 * 512 ≤ (i 1).val ∧ (i 1).val < win0_9.index (ptOf i) 1 * 512 + 512; rw [hi]; simp; omega
      | ⟨2, _⟩ => show win0_9.index (ptOf i) 2 * 2048 ≤ (i 2).val ∧ (i 2).val < win0_9.index (ptOf i) 2 * 2048 + 2048; rw [hi]; simp; omega⟩

end Cert.GatingIdeal

end
-- ==== Proof.GatePieces.lean ====
/-
  The spatial gating of the reference, cut into its steps, each read at one element.
-/
module

public import proofs.«01_k».proof.Proof.Gen.GatingReferenceIdeal.Run
public import proofs.«01_k».proof.Proof.GateText
public import Idealize.ShloMosaic.Lib.Pointwise

@[expose] public section

set_option maxRecDepth 16384

noncomputable section

namespace Cert.GatingReferenceIdeal

open Idealize.ShloMosaic Idealize.ShloMosaic.TcCoe
open Gen
open Cert.Gate

/-- The rows a batch entry is scaled or shifted by, along the tokens. -/
def alongTokens (x : FVec Ideal S4x1x1024 .f32) : FVec Ideal S4x8192x1024 .f32 :=
  broadcastInDim S4x8192x1024 ![0, 1, 2] bcast_S4x1x1024_S4x8192x1024_0_1_2 x

/-- The first four rows of a table. -/
def firstRows (x : FVec Ideal S8x1024 .f32) : FVec Ideal S4x1x1024 .f32 :=
  broadcastInDim S4x1x1024 ![0, 2] bcast_S4x1024_S4x1x1024_0_2 (extractStridedSlice S4x1024 ![0, 0] x slices_S8x1024_S4x1024_0_0)

/-- The input, scaled and shifted. -/
def modulated (x : FVec Ideal S4x8192x1024 .f32) (s a : FVec Ideal S8x1024 .f32) : FVec Ideal S4x8192x1024 .f32 :=
  addf (mulf x (alongTokens (addf (broadcastInDim S4x1x1024 ![] bcast_S_S4x1x1024 (constant S_ .f32 0x3F800000#32)) (firstRows s)))) (alongTokens (firstRows a))

/-- The first linear map. -/
def linear (h : FVec Ideal S4x8192x1024 .f32) (w : FVec Ideal S1024x4096 .f32) (b : FVec Ideal S4096 .f32) : FVec Ideal S4x8192x4096 .f32 :=
  addf (Host.dotGeneral dot_S4x8192x1024_S1024x4096_S4x8192x4096_2_0_01_1_n_n none h w)
    (broadcastInDim S4x8192x4096 ![0, 1, 2] bcast_S1x1x4096_S4x8192x4096_0_1_2 (broadcastInDim S1x1x4096 ![2] bcast_S4096_S1x1x4096_2 b))

/-- The activation. -/
def activated (z : FVec Ideal S4x8192x4096 .f32) : FVec Ideal S4x8192x4096 .f32 :=
  Host.divf (mulf z (addf (broadcastInDim S4x8192x4096 ![] bcast_S_S4x8192x4096 (constant S_ .f32 0x3F800000#32))
    (Host.erf (Host.divf z (broadcastInDim S4x8192x4096 ![] bcast_S_S4x8192x4096 (id (Host.sqrt (constant S_ .f32 0x40000000#32))))))))
    (broadcastInDim S4x8192x4096 ![] bcast_S_S4x8192x4096 (constant S_ .f32 0x40000000#32))

/-- A token's mean of its lanes. -/
def means (v : FVec Ideal S4x8192x2048 .f32) : FVec Ideal S4x8192x1 .f32 :=
  Host.divf (broadcastInDim S4x8192x1 ![0, 1] bcast_S4x8192_S4x8192x1_0_1
    (Host.reduceAdd v (constant S_ .f32 0x00000000#32) reducesTo_S4x8192x2048_S4x8192_d2 h_S_))
    (broadcastInDim S4x8192x1 ![] bcast_S_S4x8192x1 (constant S_ .f32 0x45000000#32))

/-- A token's value, along its lanes. -/
def alongLanes (x : FVec Ideal S4x8192x1 .f32) : FVec Ideal S4x8192x2048 .f32 :=
  broadcastInDim S4x8192x2048 ![0, 1, 2] bcast_S4x8192x1_S4x8192x2048_0_1_2 x

/-- The lanes' distances from their mean. -/
def centred (v : FVec Ideal S4x8192x2048 .f32) : FVec Ideal S4x8192x2048 .f32 := subf v (alongLanes (means v))

/-- A row of lanes, along the tokens. -/
def alongAll (g : FVec Ideal S2048 .f32) : FVec Ideal S4x8192x2048 .f32 :=
  broadcastInDim S4x8192x2048 ![0, 1, 2] bcast_S1x1x2048_S4x8192x2048_0_1_2 (broadcastInDim S1x1x2048 ![2] bcast_S2048_S1x1x2048_2 g)

/-- The distances over their root mean square, scaled and shifted. -/
def scaled (d : FVec Ideal S4x8192x2048 .f32) (g b : FVec Ideal S2048 .f32) : FVec Ideal S4x8192x2048 .f32 :=
  addf (mulf (mulf d (alongLanes (Host.rsqrt (addf (means (mulf d d)) (broadcastInDim S4x8192x1 ![] bcast_S_S4x8192x1 (constant S_ .f32 0x3727C5AC#32))))))
    (alongAll g)) (alongAll b)

/-- The mixing of the tokens of a chunk. -/
def mixed (v : FVec Ideal S4x8192x2048 .f32) (w : FVec Ideal S8x128x128 .f32) (s : FVec Ideal S8x128 .f32) : FVec Ideal S4x8192x2048 .f32 :=
  shapeCast _ (addf (transpose S4x64x128x8x256 [1, 2, 4, 0, 3]
    (Host.dotGeneral dot_S4x64x128x8x256_S8x128x128_S8x4x64x256x128_2_2_014_1_3_0 none
      (shapeCast _ v shapeCasts_S4x8192x2048_S4x64x128x8x256 : FVec Ideal S4x64x128x8x256 .f32) w : FVec Ideal S8x4x64x256x128 .f32) transposes_S8x4x64x256x128_S4x64x128x8x256_1_2_4_0_3)
    (broadcastInDim S4x64x128x8x256 ![0, 1, 2, 3, 4] bcast_S1x1x128x8x1_S4x64x128x8x256_0_1_2_3_4
      (broadcastInDim S1x1x128x8x1 ![2, 3, 4] bcast_S128x8x1_S1x1x128x8x1_2_3_4 (broadcastInDim S128x8x1 ![0, 1] bcast_S128x8_S128x8x1_0_1
        (transpose S128x8 [1, 0] s transposes_S8x128_S128x8_1_0))))) shapeCasts_S4x64x128x8x256_S4x8192x2048

/-- The gate: the first half of the lanes times the mixed second half. -/
def gated (z : FVec Ideal S4x8192x4096 .f32) (g b : FVec Ideal S2048 .f32) (w : FVec Ideal S8x128x128 .f32) (s : FVec Ideal S8x128 .f32) :
    FVec Ideal S4x8192x2048 .bf16 :=
  truncf .bf16 (mulf (extractStridedSlice S4x8192x2048 ![0, 0, 0] z slices_S4x8192x4096_S4x8192x2048_0_0_0)
    (mixed (scaled (centred (extractStridedSlice S4x8192x2048 ![0, 0, 2048] z slices_S4x8192x4096_S4x8192x2048_0_0_2048)) g b) w s)) bitsLt_bf16_f32

theorem result_eq (m : (ℓ : Loc nD τ sig) → Buf (Elt Ideal) ℓ) (c : Dev nD) :
    Value.res_main_v60 m c
      = gated (activated (linear (modulated (m ((c : Thread nD τ).loc main_arg0)) (m ((c : Thread nD τ).loc main_arg1)) (m ((c : Thread nD τ).loc main_arg2)))
          (m ((c : Thread nD τ).loc main_arg3)) (m ((c : Thread nD τ).loc main_arg4))))
          (m ((c : Thread nD τ).loc main_arg5)) (m ((c : Thread nD τ).loc main_arg6)) (m ((c : Thread nD τ).loc main_arg7)) (m ((c : Thread nD τ).loc main_arg8)) := rfl

variable (b : Fin 4) (n : Fin 8192)

theorem modulated_apply (x : FVec Ideal S4x8192x1024 .f32) (s a : FVec Ideal S8x1024 .f32) (k : Fin 1024) :
    modulated x s a (ix3 b n k) = x (ix3 b n k) * (1 + s (ix2 ⟨b.val, by omega⟩ k)) + a (ix2 ⟨b.val, by omega⟩ k) := by
  pointwise [modulated, alongTokens, firstRows]

theorem linear_apply (h : FVec Ideal S4x8192x1024 .f32) (w : FVec Ideal S1024x4096 .f32) (c : FVec Ideal S4096 .f32) (j : Fin 4096) :
    linear h w c (ix3 b n j) = (∑ k : Fin 1024, h (ix3 b n k) * w (ix2 k j)) + c (ix1 j) := by
  pointwise [linear]

theorem activated_apply (z : FVec Ideal S4x8192x4096 .f32) (j : Fin 4096) : activated z (ix3 b n j) = act (z (ix3 b n j)) := by
  pointwise [activated]
  rfl

theorem scaled_apply (d : FVec Ideal S4x8192x2048 .f32) (g e : FVec Ideal S2048 .f32) (j : Fin 2048) :
    scaled d g e (ix3 b n j)
      = d (ix3 b n j) * Ideal.rsqrt (mean (fun i => d (ix3 b n i) * d (ix3 b n i)) + Ideal.ofBits .f32 0x3727C5AC#32) * g (ix1 j) + e (ix1 j) := by
  pointwise [scaled, alongLanes, alongAll, means]
  rfl

theorem centred_apply (v : FVec Ideal S4x8192x2048 .f32) (j : Fin 2048) :
    centred v (ix3 b n j) = v (ix3 b n j) - mean fun i => v (ix3 b n i) := by
  pointwise [centred, alongLanes, means]
  rfl

theorem mixed_apply (v : FVec Ideal S4x8192x2048 .f32) (w : FVec Ideal S8x128x128 .f32) (s : FVec Ideal S8x128 .f32) (j : Fin 2048) :
    mixed v w s (ix3 b n j)
      = (∑ q : Fin 128, v (ix3 b ⟨n.val / 128 * 128 + q.val, by omega⟩ j) * w (ix3 ⟨j.val / 256, by omega⟩ ⟨n.val % 128, by omega⟩ q))
        + s (ix2 ⟨j.val / 256, by omega⟩ ⟨n.val % 128, by omega⟩) := by
  pointwise [mixed]

theorem gated_apply (z : FVec Ideal S4x8192x4096 .f32) (g e : FVec Ideal S2048 .f32) (w : FVec Ideal S8x128x128 .f32) (s : FVec Ideal S8x128 .f32) (j : Fin 2048) :
    gated z g e w s (ix3 b n j) = z (ix3 b n ⟨j.val, by omega⟩)
      * ((∑ q : Fin 128, w (ix3 ⟨j.val / 256, by omega⟩ ⟨n.val % 128, by omega⟩ q)
          * norm (fun i => z (ix3 b ⟨n.val / 128 * 128 + q.val, by omega⟩ ⟨2048 + i.val, by omega⟩)) (g (ix1 j)) (e (ix1 j)) j)
        + s (ix2 ⟨j.val / 256, by omega⟩ ⟨n.val % 128, by omega⟩)) := by
  have hv : ∀ (n' : Fin 8192) (i : Fin 2048),
      extractStridedSlice S4x8192x2048 ![0, 0, 2048] z slices_S4x8192x4096_S4x8192x2048_0_0_2048 (ix3 b n' i) = z (ix3 b n' ⟨2048 + i.val, by omega⟩) := by
    intro n' i
    pointwise
  have hu : extractStridedSlice S4x8192x2048 ![0, 0, 0] z slices_S4x8192x4096_S4x8192x2048_0_0_0 (ix3 b n j) = z (ix3 b n ⟨j.val, by omega⟩) := by
    pointwise
  refine congrArg₂ (· * ·) hu ((mixed_apply b n _ w s j).trans (congrArg (· + _) (Finset.sum_congr rfl fun q _ => ?_)))
  rw [mul_comm, scaled_apply]
  simp only [centred_apply, hv]
  rfl

/-- The result is the formula. -/
theorem result_of (A : Args) (m : (ℓ : Loc nD τ sig) → Buf (Elt Ideal) ℓ) (c : Dev nD)
    (h0 : m ((c : Thread nD τ).loc main_arg0) = A.x) (h1 : m ((c : Thread nD τ).loc main_arg1) = A.s) (h2 : m ((c : Thread nD τ).loc main_arg2) = A.a)
    (h3 : m ((c : Thread nD τ).loc main_arg3) = A.w) (h4 : m ((c : Thread nD τ).loc main_arg4) = A.c) (h5 : m ((c : Thread nD τ).loc main_arg5) = A.g)
    (h6 : m ((c : Thread nD τ).loc main_arg6) = A.e) (h7 : m ((c : Thread nD τ).loc main_arg7) = A.k) (h8 : m ((c : Thread nD τ).loc main_arg8) = A.d) :
    (Value.res_main_v60 m c : S4x8192x2048.Idx → EReal) = fun i => A.out (i 0) (i 1) (i 2) := by
  rw [result_eq, h0, h1, h2, h3, h4, h5, h6, h7, h8]
  funext i
  obtain ⟨b, n, j, rfl⟩ : ∃ (b : Fin 4) (n : Fin 8192) (j : Fin 2048), i = ix3 b n j := ⟨i 0, i 1, i 2, by
    funext x
    match x with
    | ⟨0, _⟩ => rfl
    | ⟨1, _⟩ => rfl
    | ⟨2, _⟩ => rfl⟩
  have hz : ∀ (n' : Fin 8192) (l : Fin 4096), activated (linear (modulated A.x A.s A.a) A.w A.c) (ix3 b n' l) = act (A.lane b n' l) := by
    intro n' l
    rw [activated_apply, linear_apply]
    simp only [modulated_apply]
    rfl
  refine (gated_apply b n _ A.g A.e A.k A.d j).trans ?_
  simp only [hz]
  rfl

end Cert.GatingReferenceIdeal

end
-- ==== Proof.TurnText.lean ====
/-
  The projection of the queries, the keys and the values at one element of its results, as formulas over extended reals.
-/
module

public import proofs.«01_k».proof.ProjectionIdeal
public import Idealize.ShloMosaic.Lib.Pointwise

@[expose] public section

noncomputable section

namespace Cert.Turn

open Idealize.ShloMosaic
open Cert.ProjectionIdeal (S4x8192x1024 S8x1024 S1024x3072)

/-- A number as an extended real. -/
def num (k : Nat) : EReal := ((k : ℝ) : EReal)

/-- The frequency of pair `k` of a block of lanes. -/
def freq (k : Nat) : EReal :=
  Ideal.pow (Ideal.ofBits .f32 0x461C4000#32) (Ideal.div (-(Ideal.ofBits .f32 0x40000000#32 * num k)) (Ideal.ofBits .f32 0x42000000#32))

/-- The angle of lane `l` of a token: its place in the grid, by row in a block of even number and by column in one of odd,
    times the frequency. -/
def angle (n : Fin 8192) (l : Fin 128) : EReal :=
  (if l.val / 32 % 2 = 1 then num (n.val % 64) else num (n.val / 64)) * freq (l.val % 16)

/-- The lanes of a head turned by their angles: those of the first half of a block with those of the second. -/
def turned (f : Fin 128 → EReal) (n : Fin 8192) (l : Fin 128) : EReal :=
  f l * Ideal.cos (angle n l)
    + if h : l.val % 32 < 16 then f ⟨l.val + 16, by omega⟩ * -Ideal.sin (angle n l) else f ⟨l.val - 16, by omega⟩ * Ideal.sin (angle n l)

/-- The arguments: the input, the scales and the shifts of its lanes, the map. -/
structure Args where
  x : S4x8192x1024.Idx → EReal
  s : S8x1024.Idx → EReal
  a : S8x1024.Idx → EReal
  w : S1024x3072.Idx → EReal

namespace Args

variable (A : Args) (b : Fin 4)

/-- Lane `j` of a token after the map. -/
def lane (n : Fin 8192) (j : Fin 3072) : EReal :=
  ∑ i : Fin 1024, (A.x (ix3 b n i) * (1 + A.s (ix2 ⟨b.val, by omega⟩ i)) + A.a (ix2 ⟨b.val, by omega⟩ i)) * A.w (ix2 i j)

/-- The queries, over the root of their length and over the logarithm of two. -/
def query (h : Fin 8) (n : Fin 8192) (l : Fin 128) : EReal :=
  turned (fun i => A.lane b n ⟨128 * h.val + i.val, by omega⟩) n l * (((1 / 8) * (Real.log 2)⁻¹ : ℝ) : EReal)

/-- The keys. -/
def key (h : Fin 8) (n : Fin 8192) (l : Fin 128) : EReal :=
  turned (fun i => A.lane b n ⟨1024 + (128 * h.val + i.val), by omega⟩) n l

/-- The values, a head's lanes first. -/
def value (h : Fin 8) (l : Fin 128) (n : Fin 8192) : EReal := A.lane b n ⟨2048 + (128 * h.val + l.val), by omega⟩

end Args

/-- A small word as a number. -/
theorem num_word (k : Nat) (h : k < 2 ^ 31) : (FloatOps.sitofp .f32 (BitVec.ofNat 32 k) : Ideal .f32) = num k := by
  show (((BitVec.ofNat 32 k).toInt : ℝ) : EReal) = ((k : ℝ) : EReal)
  rw [BitVec.toInt_eq_toNat_of_lt (by rw [BitVec.toNat_ofNat, Nat.mod_eq_of_lt (by omega)]; omega), BitVec.toNat_ofNat, Nat.mod_eq_of_lt (by omega)]
  norm_num

theorem two : Ideal.ofBits .f32 0x40000000#32 = ((2 : ℝ) : EReal) := by
  simp [Ideal.ofBits, Ideal.ieee, -EReal.coe_mul]
  norm_num

theorem eight : Ideal.ofBits .f32 0x41000000#32 = ((8 : ℝ) : EReal) := by
  simp [Ideal.ofBits, Ideal.ieee, -EReal.coe_mul]
  norm_num

theorem log_two : Ideal.log (Ideal.ofBits .f32 0x40000000#32) = ((Real.log 2 : ℝ) : EReal) := by
  rw [two]
  show (if (2 : ℝ) ≤ 0 then (⊥ : EReal) else (Real.log 2 : EReal)) = _
  rw [if_neg (by norm_num)]

theorem div_coe (x : EReal) {y : ℝ} (h : y ≠ 0) : Ideal.div x (y : EReal) = x * ((y⁻¹ : ℝ) : EReal) := by
  unfold Ideal.div
  rw [if_neg (by exact_mod_cast h), EReal.coe_inv]

/-- Dividing by the root of the length and by the logarithm is one multiplication. -/
theorem scale_eq (x : EReal) :
    Ideal.div (Ideal.div x (Ideal.ofBits .f32 0x41000000#32)) (Ideal.log (Ideal.ofBits .f32 0x40000000#32))
      = x * (((1 / 8) * (Real.log 2)⁻¹ : ℝ) : EReal) := by
  rw [log_two, eight, div_coe _ (by norm_num : (8 : ℝ) ≠ 0), div_coe _ (Real.log_pos (by norm_num)).ne', mul_assoc, ← EReal.coe_mul]
  norm_num

end Cert.Turn

end
-- ==== Proof.TurnBlock.lean ====
/-
  The blocks of the queries, the keys and the values that a point leaves, element by element.
-/
module

public import proofs.«01_k».proof.Proof.Gen.ProjectionIdeal.Value
public import proofs.«01_k».proof.Proof.TurnText
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.ProjectionIdeal

open Idealize.ShloMosaic Idealize.ShloMosaic.TcCoe
open Gen
open Cert.Turn

/-- A tile of lanes turned, from the tables of cosines and of sines. -/
def turn (u c lo hi : FVec Ideal S512x128 .f32) : FVec Ideal S512x128 .f32 :=
  addf (addf (mulf u c) (mulf (dynamicRotate 1 112#32 none u rotates_S512x128_d1) lo)) (mulf (dynamicRotate 1 16#32 none u rotates_S512x128_d1) hi)

/-- A tile of the queries. -/
def queryTile (u c lo hi : FVec Ideal S512x128 .f32) : FVec Ideal S1x1x512x128 .bf16 :=
  shapeCast S1x1x512x128 (truncf .bf16 (mulf (turn u c lo hi) (broadcast S512x128 (Named.named κ "q_scale" 0x3E38AA3B#32))) bitsLt_bf16_f32)
    shapeCasts_S512x128_S1x1x512x128

/-- A tile of the keys. -/
def keyTile (u c lo hi : FVec Ideal S512x128 .f32) : FVec Ideal S1x1x512x128 .bf16 :=
  shapeCast S1x1x512x128 (truncf .bf16 (turn u c lo hi) bitsLt_bf16_f32) shapeCasts_S512x128_S1x1x512x128

/-- A tile of the values. -/
def valueTile (u : FVec Ideal S512x128 .f32) : FVec Ideal S1x1x128x512 .bf16 :=
  shapeCast S1x1x128x512 (truncf .bf16 (transpose S128x512 [1, 0] u transposes_S512x128_p1_0_S128x512) bitsLt_bf16_f32) shapeCasts_S128x512_S1x1x128x512

/-- One element of a tile turned. -/
def turnAt (f : Fin 128 → EReal) (c lo hi : EReal) (l : Fin 128) : EReal :=
  f l * c + f ⟨(l.val + 16) % 128, Nat.mod_lt _ (by decide)⟩ * lo + f ⟨(l.val + 112) % 128, Nat.mod_lt _ (by decide)⟩ * hi

theorem scale_named : (Named.named κ "q_scale" (0x3E38AA3B#32 : BitVec (FTy.f32.bits)) : Ideal .f32) = (((1 / 8) * (Real.log 2)⁻¹ : ℝ) : EReal) :=
  IdealRules.named_const.ideal_named_scalar _ _ _ _ rfl

theorem turn_apply (u c lo hi : FVec Ideal S512x128 .f32) (r : Fin 512) (l : Fin 128) :
    turn u c lo hi (ix2 r l) = turnAt (fun i => u (ix2 r i)) (c (ix2 r l)) (lo (ix2 r l)) (hi (ix2 r l)) l := by
  unfold turnAt
  pointwise [turn]
  simp only [show ∀ x : Nat, x + 128 - 112 = x + 16 from fun x => by omega, show ∀ x : Nat, x + 128 - 16 = x + 112 from fun x => by omega]

theorem queryTile_apply (u c lo hi : FVec Ideal S512x128 .f32) (r : Fin 512) (l : Fin 128) :
    queryTile u c lo hi (ix4 0 0 r l) = turn u c lo hi (ix2 r l) * (((1 / 8) * (Real.log 2)⁻¹ : ℝ) : EReal) := by
  rw [← scale_named]
  pointwise [queryTile]

theorem keyTile_apply (u c lo hi : FVec Ideal S512x128 .f32) (r : Fin 512) (l : Fin 128) :
    keyTile u c lo hi (ix4 0 0 r l) = turn u c lo hi (ix2 r l) := by
  pointwise [keyTile]

theorem valueTile_apply (u : FVec Ideal S512x128 .f32) (l : Fin 128) (r : Fin 512) : valueTile u (ix4 0 0 l r) = u (ix2 r l) := by
  pointwise [valueTile]

/-- The blocks, whole. -/
def keyBlock (z : FVec Ideal S512x1024 .f32) (c lo hi : FVec Ideal S512x128 .f32) : FVec Ideal S1x8x512x128 .bf16 := fun y =>
  turnAt (fun i => z (ix2 (y 2) ⟨128 * (y 1).val + i.val, by have : (y 1).val < 8 := (y 1).isLt; omega⟩)) (c (ix2 (y 2) (y 3))) (lo (ix2 (y 2) (y 3))) (hi (ix2 (y 2) (y 3))) (y 3)

def queryBlock (z : FVec Ideal S512x1024 .f32) (c lo hi : FVec Ideal S512x128 .f32) : FVec Ideal S1x8x512x128 .bf16 := fun y =>
  keyBlock z c lo hi y * (((1 / 8) * (Real.log 2)⁻¹ : ℝ) : EReal)

def valueBlock (z : FVec Ideal S512x1024 .f32) : FVec Ideal S1x8x128x512 .bf16 := fun y =>
  z (ix2 (y 3) ⟨128 * (y 1).val + (y 2).val, by have : (y 1).val < 8 := (y 1).isLt; have : (y 2).val < 128 := (y 2).isLt; omega⟩)

theorem slice_apply (z : FVec Ideal S512x1024 .f32) {o : Nat} {h : S512x1024.Slices ![0, o] S512x128} (r : Fin 512) (l : Fin 128) (j : Fin 1024)
    (hj : j.val = o + l.val) : extractStridedSlice S512x128 ![0, o] z h (ix2 r l) = z (ix2 r j) :=
  extractStridedSlice_apply _ z h _ (ix2 r j) fun i =>
    match i with
    | ⟨0, _⟩ => (Nat.zero_add _).symm
    | ⟨1, _⟩ => hj

theorem emb_eq {g A B : Nat} (hr : ∀ i, (![0, g, 0, 0] : Fin 4 → Nat) i + (⟨4, ![1, 1, A, B]⟩ : Shape).size i ≤ (⟨4, ![1, 8, A, B]⟩ : Shape).size i)
    (hg : g < 8) (p : Fin A) (q : Fin B) :
    (Rect.unit (s := ⟨4, ![1, 8, A, B]⟩) ![0, g, 0, 0] (⟨4, ![1, 1, A, B]⟩ : Shape).size hr).emb (ix4 0 0 p q) = ix4 0 ⟨g, hg⟩ p q := by
  funext i
  apply Fin.ext
  match i with
  | ⟨0, _⟩ => rfl
  | ⟨1, _⟩ => show g + 1 * 0 = g; omega
  | ⟨2, _⟩ => show 0 + 1 * p.val = p.val; omega
  | ⟨3, _⟩ => show 0 + 1 * q.val = q.val; omega

theorem eta4 {A B : Nat} (x : (⟨4, ![1, 1, A, B]⟩ : Shape).Idx) : ∃ (p : Fin A) (q : Fin B), x = ix4 0 0 p q :=
  ⟨x 2, x 3, by
    funext i
    match i with
    | ⟨0, _⟩ => exact Subsingleton.elim (α := Fin 1) _ _
    | ⟨1, _⟩ => exact Subsingleton.elim (α := Fin 1) _ _
    | ⟨2, _⟩ => rfl
    | ⟨3, _⟩ => rfl⟩

variable (z : FVec Ideal S512x1024 .f32) (c lo hi : FVec Ideal S512x128 .f32)

theorem turned_slice {g o : Nat} {h : S512x1024.Slices ![0, o] S512x128} (hg : g < 8) (ho : o = 128 * g) (r : Fin 512) (l : Fin 128) :
    turn (extractStridedSlice S512x128 ![0, o] z h) c lo hi (ix2 r l) = keyBlock z c lo hi (ix4 0 ⟨g, hg⟩ r l) := by
  rw [turn_apply]
  exact congrArg (turnAt · _ _ _ l) (funext fun i => slice_apply z r i _ (by rw [ho]; rfl))

theorem key_tile {g o : Nat} {h : S512x1024.Slices ![0, o] S512x128}
    (hr : ∀ i, (![0, g, 0, 0] : Fin 4 → Nat) i + S1x1x512x128.size i ≤ S1x8x512x128.size i) (hg : g < 8) (ho : o = 128 * g) (x : S1x1x512x128.Idx) :
    keyTile (extractStridedSlice S512x128 ![0, o] z h) c lo hi x
      = keyBlock z c lo hi ((Rect.unit (s := S1x8x512x128) ![0, g, 0, 0] S1x1x512x128.size hr).emb x) := by
  obtain ⟨p, q, rfl⟩ := eta4 (A := 512) (B := 128) x
  rw [keyTile_apply, turned_slice z c lo hi hg ho]
  exact congrArg _ (emb_eq (A := 512) (B := 128) hr hg p q).symm

theorem query_tile {g o : Nat} {h : S512x1024.Slices ![0, o] S512x128}
    (hr : ∀ i, (![0, g, 0, 0] : Fin 4 → Nat) i + S1x1x512x128.size i ≤ S1x8x512x128.size i) (hg : g < 8) (ho : o = 128 * g) (x : S1x1x512x128.Idx) :
    queryTile (extractStridedSlice S512x128 ![0, o] z h) c lo hi x
      = queryBlock z c lo hi ((Rect.unit (s := S1x8x512x128) ![0, g, 0, 0] S1x1x512x128.size hr).emb x) := by
  obtain ⟨p, q, rfl⟩ := eta4 (A := 512) (B := 128) x
  rw [queryTile_apply, turned_slice z c lo hi hg ho]
  exact congrArg (queryBlock z c lo hi) (emb_eq (A := 512) (B := 128) hr hg p q).symm

theorem value_tile {g o : Nat} {h : S512x1024.Slices ![0, o] S512x128}
    (hr : ∀ i, (![0, g, 0, 0] : Fin 4 → Nat) i + S1x1x128x512.size i ≤ S1x8x128x512.size i) (hg : g < 8) (ho : o = 128 * g) (x : S1x1x128x512.Idx) :
    valueTile (extractStridedSlice S512x128 ![0, o] z h) x
      = valueBlock z ((Rect.unit (s := S1x8x128x512) ![0, g, 0, 0] S1x1x128x512.size hr).emb x) := by
  obtain ⟨p, q, rfl⟩ := eta4 (A := 128) (B := 512) x
  rw [valueTile_apply, slice_apply z q p ⟨128 * g + p.val, by omega⟩ (by rw [ho])]
  exact congrArg (valueBlock z) (emb_eq (A := 128) (B := 512) hr hg p q).symm

section

/-! ## The stored pieces as tiles -/

variable (x : Vec Ideal S1x512x1024 .f32) (s a : Vec Ideal S1x1x1024 .f32) (p q r : Vec Ideal S512x128 .f32) (h : FVec Ideal S512x1024 .bf16)
  (w : Vec Ideal S1024x1024 .bf16)

theorem query0 : k0_pay12 (k0_pay11 x s a p q r w) = queryTile (extractStridedSlice S512x128 ![0, 0] (k0_pay10 x s a w) slices_S512x1024_o0_0_S512x128) (k0_pay7 p) (k0_pay8 q) (k0_pay9 r) := rfl

theorem query1 : k0_pay13 c lo hi z = queryTile (extractStridedSlice S512x128 ![0, 128] z slices_S512x1024_o0_128_S512x128) c lo hi := rfl

theorem query2 : k0_pay14 c lo hi z = queryTile (extractStridedSlice S512x128 ![0, 256] z slices_S512x1024_o0_256_S512x128) c lo hi := rfl

theorem query3 : k0_pay16 (k0_pay15 c lo hi z) (Named.named κ "q_scale" 0x3E38AA3B#32) = queryTile (extractStridedSlice S512x128 ![0, 384] z slices_S512x1024_o0_384_S512x128) c lo hi := rfl

theorem query4 : k0_pay17 c lo hi z = queryTile (extractStridedSlice S512x128 ![0, 512] z slices_S512x1024_o0_512_S512x128) c lo hi := rfl

theorem query5 : k0_pay18 c lo hi z = queryTile (extractStridedSlice S512x128 ![0, 640] z slices_S512x1024_o0_640_S512x128) c lo hi := rfl

theorem query6 : k0_pay22 hi (k0_pay19 z) (k0_pay20 c z) (k0_pay21 lo z) = queryTile (extractStridedSlice S512x128 ![0, 768] z slices_S512x1024_o0_768_S512x128) c lo hi := rfl

theorem query7 : k0_pay23 c lo hi z = queryTile (extractStridedSlice S512x128 ![0, 896] z slices_S512x1024_o0_896_S512x128) c lo hi := rfl

theorem key0 : k0_pay26 (k0_pay25 h c lo hi w) = keyTile (extractStridedSlice S512x128 ![0, 0] (k0_pay24 h w) slices_S512x1024_o0_0_S512x128) c lo hi := rfl

theorem key1 : k0_pay27 c lo hi z = keyTile (extractStridedSlice S512x128 ![0, 128] z slices_S512x1024_o0_128_S512x128) c lo hi := rfl

theorem key2 : k0_pay28 c lo hi z = keyTile (extractStridedSlice S512x128 ![0, 256] z slices_S512x1024_o0_256_S512x128) c lo hi := rfl

theorem key3 : k0_pay29 c lo hi z = keyTile (extractStridedSlice S512x128 ![0, 384] z slices_S512x1024_o0_384_S512x128) c lo hi := rfl

theorem key4 : k0_pay30 c lo hi z = keyTile (extractStridedSlice S512x128 ![0, 512] z slices_S512x1024_o0_512_S512x128) c lo hi := rfl

theorem key5 : k0_pay31 c lo hi z = keyTile (extractStridedSlice S512x128 ![0, 640] z slices_S512x1024_o0_640_S512x128) c lo hi := rfl

theorem key6 : k0_pay32 c lo hi z = keyTile (extractStridedSlice S512x128 ![0, 768] z slices_S512x1024_o0_768_S512x128) c lo hi := rfl

theorem key7 : k0_pay35 lo hi (k0_pay33 z) (k0_pay34 c z) = keyTile (extractStridedSlice S512x128 ![0, 896] z slices_S512x1024_o0_896_S512x128) c lo hi := rfl

theorem value0 : k0_pay37 h w = valueTile (extractStridedSlice S512x128 ![0, 0] (k0_pay36 h w) slices_S512x1024_o0_0_S512x128) := rfl

theorem value1 : k0_pay38 h w = valueTile (extractStridedSlice S512x128 ![0, 128] (k0_pay36 h w) slices_S512x1024_o0_128_S512x128) := rfl

theorem value2 : k0_pay39 h w = valueTile (extractStridedSlice S512x128 ![0, 256] (k0_pay36 h w) slices_S512x1024_o0_256_S512x128) := rfl

theorem value3 : k0_pay1 (k0_pay40 h w) = valueTile (extractStridedSlice S512x128 ![0, 384] (k0_pay36 h w) slices_S512x1024_o0_384_S512x128) := rfl

theorem value4 : k0_pay2 z = valueTile (extractStridedSlice S512x128 ![0, 512] z slices_S512x1024_o0_512_S512x128) := rfl

theorem value5 : k0_pay3 z = valueTile (extractStridedSlice S512x128 ![0, 640] z slices_S512x1024_o0_640_S512x128) := rfl

theorem value6 : k0_pay4 z = valueTile (extractStridedSlice S512x128 ![0, 768] z slices_S512x1024_o0_768_S512x128) := rfl

theorem value7 : k0_pay5 z = valueTile (extractStridedSlice S512x128 ![0, 896] z slices_S512x1024_o0_896_S512x128) := rfl

end

section

variable (x0 : Vec Ideal S1x512x1024 .f32) (x1 : Vec Ideal S1x1x1024 .f32) (x2 : Vec Ideal S1x1x1024 .f32) (x3 : Vec Ideal S1024x3072 .bf16)
  (x4 : Vec Ideal S512x128 .f32) (x5 : Vec Ideal S512x128 .f32) (x6 : Vec Ideal S512x128 .f32)

/-- The pieces the body stores are the tiles of the blocks. -/
theorem query_eq : out0_7 x0 x1 x2 x3 x4 x5 x6 = queryBlock (k0_pay45 x0 x1 x2 x3 x4 x5 x6) (k0_pay42 x0 x1 x2 x3 x4 x5 x6)
    (k0_pay43 x0 x1 x2 x3 x4 x5 x6) (k0_pay44 x0 x1 x2 x3 x4 x5 x6) := by
  funext y
  unfold out0_7
  simp only [query0, query1, query2, query3, query4, query5, query6, query7]
  refine View.canon_apply_of_pieces _ _ ?_ y (cover0_7 _ _ _ _ _ _ _ _ y)
  refine View.PiecesOf.mem ?_
  iterate 8 refine ⟨fun x => query_tile (k0_pay45 x0 x1 x2 x3 x4 x5 x6) (k0_pay42 x0 x1 x2 x3 x4 x5 x6) (k0_pay43 x0 x1 x2 x3 x4 x5 x6) (k0_pay44 x0 x1 x2 x3 x4 x5 x6) (by decide) (by decide) (by decide) x, ?_⟩
  trivial

theorem key_eq : out0_8 x0 x1 x2 x3 x4 x5 x6 = keyBlock (k0_pay46 x0 x1 x2 x3 x4 x5 x6) (k0_pay42 x0 x1 x2 x3 x4 x5 x6)
    (k0_pay43 x0 x1 x2 x3 x4 x5 x6) (k0_pay44 x0 x1 x2 x3 x4 x5 x6) := by
  funext y
  unfold out0_8
  simp only [key0, key1, key2, key3, key4, key5, key6, key7]
  refine View.canon_apply_of_pieces _ _ ?_ y (cover0_8 _ _ _ _ _ _ _ _ y)
  refine View.PiecesOf.mem ?_
  iterate 8 refine ⟨fun x => key_tile (k0_pay46 x0 x1 x2 x3 x4 x5 x6) (k0_pay42 x0 x1 x2 x3 x4 x5 x6) (k0_pay43 x0 x1 x2 x3 x4 x5 x6) (k0_pay44 x0 x1 x2 x3 x4 x5 x6) (by decide) (by decide) (by decide) x, ?_⟩
  trivial

theorem value_eq : out0_9 x0 x1 x2 x3 x4 x5 x6 = valueBlock (k0_pay47 x0 x1 x2 x3 x4 x5 x6) := by
  funext y
  unfold out0_9
  simp only [value0, value1, value2, value3, value4, value5, value6, value7]
  refine View.canon_apply_of_pieces _ _ ?_ y (cover0_9 _ _ _ _ _ _ _ _ y)
  refine View.PiecesOf.mem ?_
  iterate 8 refine ⟨fun x => value_tile (k0_pay47 x0 x1 x2 x3 x4 x5 x6) (by decide) (by decide) (by decide) x, ?_⟩
  trivial

end

/-! ## The three maps -/

theorem modulated_apply (x : Vec Ideal S1x512x1024 .f32) (s a : Vec Ideal S1x1x1024 .f32) (r : Fin 512) (i : Fin 1024) :
    k0_pay6 x s a (ix2 r i) = x (ix3 0 r i) * (1 + s (ix3 0 0 i)) + a (ix3 0 0 i) := by
  pointwise [k0_pay6]

theorem product_apply (h : FVec Ideal S512x1024 .bf16) (w : Vec Ideal S1024x1024 .bf16) (r : Fin 512) (j : Fin 1024) :
    k0_pay24 h w (ix2 r j) = ∑ i : Fin 1024, h (ix2 r i) * w (ix2 i j) := by
  pointwise [k0_pay24]

/-- The blocks a point reads, as elements of the arguments. -/
structure Reads (A : Args) (b : Fin 4) (n : Fin 512 → Fin 8192) (x0 : Vec Ideal S1x512x1024 .f32) (x1 : Vec Ideal S1x1x1024 .f32)
    (x2 : Vec Ideal S1x1x1024 .f32) (x3 : Vec Ideal S1024x3072 .bf16) (x4 : Vec Ideal S512x128 .f32) (x5 : Vec Ideal S512x128 .f32)
    (x6 : Vec Ideal S512x128 .f32) : Prop where
  h0 : ∀ r i, x0 (ix3 0 r i) = A.x (ix3 b (n r) i)
  h1 : ∀ i, x1 (ix3 0 0 i) = A.s (ix2 ⟨b.val, by omega⟩ i)
  h2 : ∀ i, x2 (ix3 0 0 i) = A.a (ix2 ⟨b.val, by omega⟩ i)
  h3 : ∀ i j, x3 (ix2 i j) = A.w (ix2 i j)
  h4 : ∀ r l, x4 (ix2 r l) = Ideal.cos (angle (n r) l)
  h5 : ∀ r l, x5 (ix2 r l) = if l.val % 32 < 16 then -Ideal.sin (angle (n r) l) else 0
  h6 : ∀ r l, x6 (ix2 r l) = if l.val % 32 < 16 then 0 else Ideal.sin (angle (n r) l)

/-- A load of a whole block is the block. -/
theorem ld_whole {s : Shape} {e : EltTy} (x : s.Idx → Elt Ideal e) (o : Fin s.rank → Nat) (h : ∀ i, o i + s.size i ≤ s.size i) :
    View.ld (Val := Elt Ideal) (e' := e) x (Rect.unit (s := s) o s.size h) = x :=
  View.ld_unit_zero (funext fun i => by have := h i; omega) h x

namespace Reads

variable {A : Args} {b : Fin 4} {n : Fin 512 → Fin 8192} {x0 : Vec Ideal S1x512x1024 .f32} {x1 : Vec Ideal S1x1x1024 .f32}
  {x2 : Vec Ideal S1x1x1024 .f32} {x3 : Vec Ideal S1024x3072 .bf16} {x4 : Vec Ideal S512x128 .f32} {x5 : Vec Ideal S512x128 .f32}
  {x6 : Vec Ideal S512x128 .f32}

/-- The lanes a third of the map leads to. -/
theorem lanes (R : Reads A b n x0 x1 x2 x3 x4 x5 x6) {o : Nat} {h : ∀ i, (![0, o] : Fin 2 → Nat) i + S1024x1024.size i ≤ S1024x3072.size i}
    (r : Fin 512) (j : Fin 1024) (k : Fin 3072) (hk : k.val = o + j.val) :
    k0_pay24 (k0_pay6 (View.ld x0 r0_0) (View.ld x1 r0_1) (View.ld x2 r0_1))
        (View.ld (Val := Elt Ideal) (e' := .bf16) x3 (Rect.unit (s := S1024x3072) ![0, o] S1024x1024.size h)) (ix2 r j) = A.lane b (n r) k := by
  rw [show View.ld x0 r0_0 = x0 from ld_whole x0 _ _, show View.ld x1 r0_1 = x1 from ld_whole x1 _ _, show View.ld x2 r0_1 = x2 from ld_whole x2 _ _,
    product_apply]
  refine Finset.sum_congr rfl fun i _ => congrArg₂ (· * ·) ?_ ?_
  · rw [modulated_apply, R.h0, R.h1, R.h2]
  · rw [View.ld_apply, ← R.h3]
    refine congrArg x3 (funext fun a => Fin.ext ?_)
    match a with
    | ⟨0, _⟩ => show 0 + 1 * i.val = i.val; omega
    | ⟨1, _⟩ => show o + 1 * j.val = k.val; omega

/-- A tile turned by the tables a point reads. -/
theorem turns (R : Reads A b n x0 x1 x2 x3 x4 x5 x6) (f : Fin 128 → EReal) (r : Fin 512) (l : Fin 128) :
    turnAt f (k0_pay42 x0 x1 x2 x3 x4 x5 x6 (ix2 r l)) (k0_pay43 x0 x1 x2 x3 x4 x5 x6 (ix2 r l)) (k0_pay44 x0 x1 x2 x3 x4 x5 x6 (ix2 r l)) l
      = turned f (n r) l := by
  have e4 : k0_pay42 x0 x1 x2 x3 x4 x5 x6 (ix2 r l) = x4 (ix2 r l) := by
    unfold k0_pay42
    rw [show View.ld x4 r0_2 = x4 from ld_whole x4 _ _]
    pointwise [k0_pay7]
  have e5 : k0_pay43 x0 x1 x2 x3 x4 x5 x6 (ix2 r l) = x5 (ix2 r l) := by
    unfold k0_pay43
    rw [show View.ld x5 r0_2 = x5 from ld_whole x5 _ _]
    pointwise [k0_pay8]
  have e6 : k0_pay44 x0 x1 x2 x3 x4 x5 x6 (ix2 r l) = x6 (ix2 r l) := by
    unfold k0_pay44
    rw [show View.ld x6 r0_2 = x6 from ld_whole x6 _ _]
    pointwise [k0_pay9]
  rw [e4, e5, e6, R.h4, R.h5, R.h6]
  unfold turnAt turned
  have hl := l.isLt
  by_cases h : l.val % 32 < 16
  · have e : (l.val + 16) % 128 = l.val + 16 := Nat.mod_eq_of_lt (by omega)
    simp only [h, if_true, dif_pos, mul_zero, add_zero, e]
  · have e : (l.val + 112) % 128 = l.val - 16 := by omega
    simp only [h, if_false, dif_neg, not_false_eq_true, mul_zero, add_zero, e]

theorem key (R : Reads A b n x0 x1 x2 x3 x4 x5 x6) (h : Fin 8) (r : Fin 512) (l : Fin 128) :
    out0_8 x0 x1 x2 x3 x4 x5 x6 (ix4 0 h r l) = A.key b h (n r) l := by
  rw [key_eq]
  refine (R.turns _ r l).trans (congrArg (turned · (n r) l) (funext fun i => ?_))
  exact R.lanes r _ _ rfl

theorem query (R : Reads A b n x0 x1 x2 x3 x4 x5 x6) (h : Fin 8) (r : Fin 512) (l : Fin 128) :
    out0_7 x0 x1 x2 x3 x4 x5 x6 (ix4 0 h r l) = A.query b h (n r) l := by
  rw [query_eq]
  refine congrArg (· * _) ((R.turns _ r l).trans (congrArg (turned · (n r) l) (funext fun i => ?_)))
  exact R.lanes (o := 0) r _ _ (Nat.zero_add _).symm

theorem value (R : Reads A b n x0 x1 x2 x3 x4 x5 x6) (h : Fin 8) (l : Fin 128) (r : Fin 512) :
    out0_9 x0 x1 x2 x3 x4 x5 x6 (ix4 0 h l r) = A.value b h l (n r) := by
  rw [value_eq]
  exact R.lanes r _ _ rfl

end Reads

end Cert.ProjectionIdeal

end
-- ==== Proof.TurnTables.lean ====
/-
  The tables of cosines and of sines the kernel is given, element by element.
-/
module

public import proofs.«01_k».proof.Proof.TurnBlock
public import Idealize.ShloMosaic.Lib.StableHlo.ReadAt

@[expose] public section

set_option maxRecDepth 16384

noncomputable section

namespace Cert.ProjectionIdeal

open Idealize.ShloMosaic Idealize.ShloMosaic.TcCoe Idealize.ShloMosaic.Tactic
open Idealize.SL.Sem
open Cert.Turn Gen

/-! ## The numbers of the lanes -/

/-- A word along the lanes. -/
def along {w : Nat} (x : IVec S_ w) : IVec S128 w := broadcastInDim S128 ![] bcast_S_S128 x

/-- A divisor, one in place of zero. -/
def divisor (c : IVec S_ 32) : IVec S_ 32 := select (cmpi .eq (id c) (constantI S_ 32 0#32)) (constantI S_ 32 1#32) (id c)

/-- The remainder, of the divisor's sign. -/
def rem (x : IVec S128 32) (c : IVec S_ 32) : IVec S128 32 :=
  select (andi (cmpi .ne (cmpi .slt (Host.remsi x (along (divisor c))) (along (constantI S_ 32 0#32))) (along (cmpi .slt (divisor c) (constantI S_ 32 0#32))))
      (cmpi .ne (Host.remsi x (along (divisor c))) (along (constantI S_ 32 0#32))))
    (addi (Host.remsi x (along (divisor c))) (along (divisor c))) (Host.remsi x (along (divisor c)))

/-- The quotient rounded down. -/
def quot (x : IVec S128 32) (c : IVec S_ 32) : IVec S128 32 :=
  select (andi (cmpi .ne (signi x) (along (signi (id c)))) (cmpi .ne (Host.remsi x (along (id c))) (along (constantI S_ 32 0#32))))
    (subi (Host.divsi x (along (id c))) (along (constantI S_ 32 1#32))) (Host.divsi x (along (id c)))

/-- The lane in its block, the pair in its half, and whether the block is one of columns. -/
def inBlock : IVec S128 32 := rem (iotaInDim S128 32 0) (constantI S_ 32 32#32)
def inHalf : IVec S128 32 := rem inBlock (constantI S_ 32 16#32)
def parity : IVec S128 32 := rem (quot (iotaInDim S128 32 0) (constantI S_ 32 32#32)) (constantI S_ 32 2#32)

theorem inBlock_apply : ∀ l : Fin 128, inBlock (ix1 l) = BitVec.ofNat 32 (l.val % 32) := by decide +kernel

theorem inHalf_apply : ∀ l : Fin 128, inHalf (ix1 l) = BitVec.ofNat 32 (l.val % 16) := by decide +kernel

theorem parity_apply : ∀ l : Fin 128, parity (ix1 l) = BitVec.ofNat 32 (l.val / 32 % 2) := by decide +kernel

/-- The lanes of the first half of a block, and those of the blocks of columns. -/
def isLow : IVec S1x128 1 := broadcastInDim S1x128 ![1] bcast_S128_S1x128_1 (cmpi .slt inBlock (along (constantI S_ 32 16#32)))
def isColumn : IVec S1x128 1 := broadcastInDim S1x128 ![1] bcast_S128_S1x128_1 (cmpi .eq parity (along (constantI S_ 32 1#32)))

theorem isLow_apply : ∀ l : Fin 128, isLow (ix2 0 l) = if l.val % 32 < 16 then 1#1 else 0#1 := by decide +kernel

theorem isColumn_apply : ∀ l : Fin 128, isColumn (ix2 0 l) = if l.val / 32 % 2 = 1 then 1#1 else 0#1 := by decide +kernel

/-! ## The angles -/

/-- The frequencies. -/
def freqs : FVec Ideal S128 .f32 :=
  Host.powf (broadcastInDim S128 ![] bcast_S_S128 (constant S_ .f32 0x461C4000#32))
    (Host.divf (Host.negf (mulf (broadcastInDim S128 ![] bcast_S_S128 (constant S_ .f32 0x40000000#32)) (sitofp .f32 inHalf)))
      (broadcastInDim S128 ![] bcast_S_S128 (constant S_ .f32 0x42000000#32)))

/-- The tokens' rows and columns in the grid. -/
def rowOf : FVec Ideal S8192 .f32 :=
  shapeCast _ (broadcastInDim S128x64 ![0] bcast_S128_S128x64_0 (sitofp .f32 (iotaInDim S128 32 0)) : FVec Ideal S128x64 .f32) shapeCasts_S128x64_S8192

def colOf : FVec Ideal S8192 .f32 :=
  shapeCast _ (broadcastInDim S128x64 ![0, 1] bcast_S1x64_S128x64_0_1
    (shapeCast _ (sitofp .f32 (iotaInDim S64 32 0) : FVec Ideal S64 .f32) shapeCasts_S64_S1x64 : FVec Ideal S1x64 .f32) : FVec Ideal S128x64 .f32) shapeCasts_S128x64_S8192

/-- A choice by lane. -/
def pick (p : IVec S1x128 1) (x y : FVec Ideal S8192x128 .f32) : FVec Ideal S8192x128 .f32 :=
  select (broadcastInDim S8192x128 ![0, 1] bcast_S1x128_S8192x128_0_1 p) x y

/-- The angles. -/
def angles : FVec Ideal S8192x128 .f32 :=
  mulf (pick isColumn (broadcastInDim S8192x128 ![0, 1] bcast_S8192x1_S8192x128_0_1 (broadcastInDim S8192x1 ![0] bcast_S8192_S8192x1_0 colOf))
      (broadcastInDim S8192x128 ![0, 1] bcast_S8192x1_S8192x128_0_1 (broadcastInDim S8192x1 ![0] bcast_S8192_S8192x1_0 rowOf)))
    (broadcastInDim S8192x128 ![0, 1] bcast_S1x128_S8192x128_0_1 (broadcastInDim S1x128 ![1] bcast_S128_S1x128_1 freqs))

/-- Nothing in every lane. -/
def zeros : FVec Ideal S8192x128 .f32 := broadcastInDim S8192x128 ![] bcast_S_S8192x128 (id (constant S_ .f32 0x00000000#32 : FVec Ideal S_ .f32))

variable (n : Fin 8192) (l : Fin 128)

theorem freqs_apply : freqs (ix1 l) = freq (l.val % 16) := by
  rw [freq, ← num_word (l.val % 16) (by omega), ← inHalf_apply]
  pointwise [freqs]

theorem row_apply : rowOf (ix1 n) = num (n.val / 64) := by
  rw [← num_word (n.val / 64) (by omega)]
  pointwise [rowOf]

theorem col_apply : colOf (ix1 n) = num (n.val % 64) := by
  rw [← num_word (n.val % 64) (by omega)]
  pointwise [colOf]

theorem pick_apply (p : IVec S1x128 1) (x y : FVec Ideal S8192x128 .f32) :
    pick p x y (ix2 n l) = if p (ix2 0 l) = 1#1 then x (ix2 n l) else y (ix2 n l) := by
  pointwise [pick]
  rfl

theorem angles_apply : angles (ix2 n l) = angle n l := by
  have e : angles (ix2 n l) = (if isColumn (ix2 0 l) = 1#1 then colOf (ix1 n) else rowOf (ix1 n)) * freqs (ix1 l) := by
    pointwise [angles, pick]
    rfl
  rw [e, isColumn_apply, freqs_apply, row_apply, col_apply]
  unfold angle
  by_cases h : l.val / 32 % 2 = 1 <;> simp [h]

theorem zeros_apply : zeros (ix2 n l) = 0 := by
  pointwise [zeros]
  show (constant S_ .f32 0x00000000#32 : FVec Ideal S_ .f32) ix0 = 0
  pointwise

/-! ## The tables -/

variable (m : (ℓ : Loc nD τ sig) → Buf (Elt Ideal) ℓ) (c : Dev nD)

theorem V33 : (V m c main_v33 : FVec Ideal S8192x128 .f32) = Host.cos angles := by
  unfold V
  after_reads_simp
  simp -implicitDefEqProofs only [StableHlo.TRef.toBuf, StableHlo.TRef.ofBuf, cast_cast, cast_eq]
  clean_types
  simp only [zeros, angles, pick, isLow, isColumn, freqs, rowOf, colOf, inHalf, inBlock, parity, rem, quot, along, divisor]
  rfl

theorem V35 : (V m c main_v35 : FVec Ideal S8192x128 .f32) = pick isLow (Host.negf (Host.sin angles)) zeros := by
  unfold V
  after_reads_simp
  simp -implicitDefEqProofs only [StableHlo.TRef.toBuf, StableHlo.TRef.ofBuf, cast_cast, cast_eq]
  clean_types
  simp only [zeros, angles, pick, isLow, isColumn, freqs, rowOf, colOf, inHalf, inBlock, parity, rem, quot, along, divisor]
  rfl

theorem V36 : (V m c main_v36 : FVec Ideal S8192x128 .f32) = pick isLow zeros (Host.sin angles) := by
  unfold V
  after_reads_simp
  simp -implicitDefEqProofs only [StableHlo.TRef.toBuf, StableHlo.TRef.ofBuf, cast_cast, cast_eq]
  clean_types
  simp only [zeros, angles, pick, isLow, isColumn, freqs, rowOf, colOf, inHalf, inBlock, parity, rem, quot, along, divisor]
  rfl

theorem cosines : (V m c main_v33 : FVec Ideal S8192x128 .f32) (ix2 n l) = Ideal.cos (angle n l) := by
  rw [V33, ← angles_apply]
  rfl

theorem low_sines : (V m c main_v35 : FVec Ideal S8192x128 .f32) (ix2 n l) = if l.val % 32 < 16 then -Ideal.sin (angle n l) else 0 := by
  rw [V35, pick_apply, isLow_apply, zeros_apply, ← angles_apply]
  by_cases h : l.val % 32 < 16
  · simp only [h, if_true]
    rfl
  · simp [h]

theorem high_sines : (V m c main_v36 : FVec Ideal S8192x128 .f32) (ix2 n l) = if l.val % 32 < 16 then 0 else Ideal.sin (angle n l) := by
  rw [V36, pick_apply, isLow_apply, zeros_apply, ← angles_apply]
  by_cases h : l.val % 32 < 16
  · simp [h]
  · simp only [h, if_false]
    rfl

end Cert.ProjectionIdeal

end
-- ==== Proof.TurnResult.lean ====
/-
  The arrays of queries, of keys and of values, from the blocks the points leave, equal to the formulas.
-/
module

public import proofs.«01_k».proof.Proof.TurnTables

@[expose] public section

set_option maxRecDepth 16384

noncomputable section

namespace Cert.ProjectionIdeal

open Idealize.ShloMosaic Idealize.ShloMosaic.TcCoe Idealize.ShloMosaic.Tactic
open Idealize.SL.Sem
open Idealize.ShloMosaic.Pipeline (Dat Cfg Window)
open Cert.Turn Gen

/-- The batch entry and the tokens of a point. -/
def bOf (t : Fin cfg0.N) : Fin 4 := ⟨t.val / 16, by have := t.isLt; have : cfg0.N = 64 := N_0; omega⟩
def nOf (t : Fin cfg0.N) (r : Fin 512) : Fin 8192 := ⟨512 * (t.val % 16) + r.val, by omega⟩

theorem index0 : ∀ t : Fin grid0.N, win0_0.index t = ![t.val / 16, t.val % 16, 0] := by decide +kernel
theorem index1 : ∀ t : Fin grid0.N, win0_1.index t = ![t.val / 16, 0, 0] := by decide +kernel
theorem index2 : ∀ t : Fin grid0.N, win0_2.index t = ![t.val / 16, 0, 0] := by decide +kernel
theorem index3 : ∀ t : Fin grid0.N, win0_3.index t = ![0, 0] := by decide +kernel
theorem index4 : ∀ t : Fin grid0.N, win0_4.index t = ![t.val % 16, 0] := by decide +kernel
theorem index5 : ∀ t : Fin grid0.N, win0_5.index t = ![t.val % 16, 0] := by decide +kernel
theorem index6 : ∀ t : Fin grid0.N, win0_6.index t = ![t.val % 16, 0] := by decide +kernel
theorem index7 : ∀ t : Fin grid0.N, win0_7.index t = ![t.val / 16, 0, t.val % 16, 0] := by decide +kernel
theorem index8 : ∀ t : Fin grid0.N, win0_8.index t = ![t.val / 16, 0, t.val % 16, 0] := by decide +kernel
theorem index9 : ∀ t : Fin grid0.N, win0_9.index t = ![t.val / 16, 0, 0, t.val % 16] := by decide +kernel

variable (m : (ℓ : Loc nD τ sig) → Buf (Elt Ideal) ℓ) (c : Dev nD) (t : Fin cfg0.N)

/-- The arguments a memory holds. -/
def argsOf : Args where
  x := m ((c : Thread nD τ).loc main_arg0)
  s := m ((c : Thread nD τ).loc main_arg1)
  a := m ((c : Thread nD τ).loc main_arg2)
  w := m ((c : Thread nD τ).loc main_arg3)

/-! ## The arrays the kernel is given -/

theorem V37 (b : Fin 8) (i : Fin 1024) : (V m c main_v37 : FVec Ideal S8x1x1024 .f32) (ix3 b 0 i) = (argsOf m c).s (ix2 b i) := by
  unfold V argsOf
  after_reads_at

theorem V38 (b : Fin 8) (i : Fin 1024) : (V m c main_v38 : FVec Ideal S8x1x1024 .f32) (ix3 b 0 i) = (argsOf m c).a (ix2 b i) := by
  unfold V argsOf
  after_reads_at

theorem V39 (i : Fin 1024) (j : Fin 3072) : (V m c main_v39 : FVec Ideal S1024x3072 .bf16) (ix2 i j) = (argsOf m c).w (ix2 i j) := by
  unfold V argsOf
  after_reads_at

/-! ## The blocks a point reads -/

/-- A coordinate of a block, from its place. -/
theorem at_block {k x z : Nat} (hx : x = z) (y w : Nat) (h : k * z + y = w) : x * k + 1 * y = w := by
  rw [hx, Nat.mul_comm z k, Nat.one_mul]
  exact h

theorem at_zero {k x : Nat} (hx : x = 0) (y : Nat) : x * k + 1 * y = y := by rw [hx]; omega

theorem iblk0 (r : Fin 512) (i : Fin 1024) :
    (iblk m c 0 t : FVec Ideal S1x512x1024 .f32) (ix3 0 r i) = (argsOf m c).x (ix3 (bOf t) (nOf t r) i) := by
  have hi := index0 t
  unfold iblk
  rw [View.read_apply]
  refine Eq.trans (b := (V m c main_arg0 : _) (_)) (congrArg (V m c main_arg0) ?_) (congrFun (V_main_arg0 m c) (ix3 (bOf t) (nOf t r) i))
  funext a
  match a with
  | ⟨0, _⟩ => exact Fin.ext (at_block (congrFun hi 0) 0 _ (by show 1 * (t.val / 16) + 0 = t.val / 16; omega))
  | ⟨1, _⟩ => exact Fin.ext (at_block (congrFun hi 1) r.val _ rfl)
  | ⟨2, _⟩ => exact Fin.ext (at_zero (congrFun hi 2) i.val)

theorem iblk1 (i : Fin 1024) :
    (iblk m c 1 t : FVec Ideal S1x1x1024 .f32) (ix3 0 0 i) = (argsOf m c).s (ix2 ⟨(bOf t).val, by omega⟩ i) := by
  have hi := index1 t
  unfold iblk
  rw [View.read_apply]
  refine Eq.trans (b := (V m c main_v37 : _) (_)) (congrArg (V m c main_v37) ?_) (V37 m c _ i)
  funext a
  match a with
  | ⟨0, _⟩ => exact Fin.ext (at_block (congrFun hi 0) 0 _ (by show 1 * (t.val / 16) + 0 = t.val / 16; omega))
  | ⟨1, _⟩ => exact Fin.ext (at_zero (congrFun hi 1) 0)
  | ⟨2, _⟩ => exact Fin.ext (at_zero (congrFun hi 2) i.val)

theorem iblk2 (i : Fin 1024) :
    (iblk m c 2 t : FVec Ideal S1x1x1024 .f32) (ix3 0 0 i) = (argsOf m c).a (ix2 ⟨(bOf t).val, by omega⟩ i) := by
  have hi := index2 t
  unfold iblk
  rw [View.read_apply]
  refine Eq.trans (b := (V m c main_v38 : _) (_)) (congrArg (V m c main_v38) ?_) (V38 m c _ i)
  funext a
  match a with
  | ⟨0, _⟩ => exact Fin.ext (at_block (congrFun hi 0) 0 _ (by show 1 * (t.val / 16) + 0 = t.val / 16; omega))
  | ⟨1, _⟩ => exact Fin.ext (at_zero (congrFun hi 1) 0)
  | ⟨2, _⟩ => exact Fin.ext (at_zero (congrFun hi 2) i.val)

theorem iblk3 (i : Fin 1024) (j : Fin 3072) : (iblk m c 3 t : FVec Ideal S1024x3072 .bf16) (ix2 i j) = (argsOf m c).w (ix2 i j) := by
  have hi := index3 t
  unfold iblk
  rw [View.read_apply]
  refine Eq.trans (b := (V m c main_v39 : _) (_)) (congrArg (V m c main_v39) ?_) (V39 m c i j)
  funext a
  match a with
  | ⟨0, _⟩ => exact Fin.ext (at_zero (congrFun hi 0) i.val)
  | ⟨1, _⟩ => exact Fin.ext (at_zero (congrFun hi 1) j.val)

theorem iblk4 (r : Fin 512) (l : Fin 128) :
    (iblk m c 4 t : FVec Ideal S512x128 .f32) (ix2 r l) = (V m c main_v33 : FVec Ideal S8192x128 .f32) (ix2 (nOf t r) l) := by
  have hi := index4 t
  unfold iblk
  rw [View.read_apply]
  refine congrArg (V m c main_v33) ?_
  funext a
  match a with
  | ⟨0, _⟩ => exact Fin.ext (at_block (congrFun hi 0) r.val _ rfl)
  | ⟨1, _⟩ => exact Fin.ext (at_zero (congrFun hi 1) l.val)

theorem iblk5 (r : Fin 512) (l : Fin 128) :
    (iblk m c 5 t : FVec Ideal S512x128 .f32) (ix2 r l) = (V m c main_v35 : FVec Ideal S8192x128 .f32) (ix2 (nOf t r) l) := by
  have hi := index5 t
  unfold iblk
  rw [View.read_apply]
  refine congrArg (V m c main_v35) ?_
  funext a
  match a with
  | ⟨0, _⟩ => exact Fin.ext (at_block (congrFun hi 0) r.val _ rfl)
  | ⟨1, _⟩ => exact Fin.ext (at_zero (congrFun hi 1) l.val)

theorem iblk6 (r : Fin 512) (l : Fin 128) :
    (iblk m c 6 t : FVec Ideal S512x128 .f32) (ix2 r l) = (V m c main_v36 : FVec Ideal S8192x128 .f32) (ix2 (nOf t r) l) := by
  have hi := index6 t
  unfold iblk
  rw [View.read_apply]
  refine congrArg (V m c main_v36) ?_
  funext a
  match a with
  | ⟨0, _⟩ => exact Fin.ext (at_block (congrFun hi 0) r.val _ rfl)
  | ⟨1, _⟩ => exact Fin.ext (at_zero (congrFun hi 1) l.val)

theorem reads : Reads (argsOf m c) (bOf t) (nOf t) (iblk m c 0 t) (iblk m c 1 t) (iblk m c 2 t) (iblk m c 3 t) (iblk m c 4 t) (iblk m c 5 t)
    (iblk m c 6 t) where
  h0 := iblk0 m c t
  h1 := iblk1 m c t
  h2 := iblk2 m c t
  h3 := iblk3 m c t
  h4 r l := (iblk4 m c t r l).trans (cosines _ l m c)
  h5 r l := (iblk5 m c t r l).trans (low_sines _ l m c)
  h6 r l := (iblk6 m c t r l).trans (high_sines _ l m c)

/-! ## The arrays -/

def queries : FVec Ideal S4x8x8192x128 .bf16 := fun i => (argsOf m c).query (i 0) (i 1) (i 2) (i 3)
def keys : FVec Ideal S4x8x8192x128 .bf16 := fun i => (argsOf m c).key (i 0) (i 1) (i 2) (i 3)
def values : FVec Ideal S4x8x128x8192 .bf16 := fun i => (argsOf m c).value (i 0) (i 1) (i 2) (i 3)

theorem eta_block {A B : Nat} (y : (⟨4, ![1, 8, A, B]⟩ : Shape).Idx) : ∃ (h : Fin 8) (p : Fin A) (q : Fin B), y = ix4 0 h p q :=
  ⟨y 1, y 2, y 3, by
    funext i
    match i with
    | ⟨0, _⟩ => exact Subsingleton.elim (α := Fin 1) _ _
    | ⟨1, _⟩ => rfl
    | ⟨2, _⟩ => rfl
    | ⟨3, _⟩ => rfl⟩

theorem flushed_queries (_ : (cfg0.win 7).flush t = true) :
    (dats m 0 c).flushed 7 t = ((cfg0.win 7).blk t).view.read (Elt Ideal) (queries m c) := by
  have hi := index7 t
  rw [Value.flushed7]
  show (out0_7 (iblk m c 0 t) (iblk m c 1 t) (iblk m c 2 t) (iblk m c 3 t) (iblk m c 4 t) (iblk m c 5 t) (iblk m c 6 t) : FVec Ideal S1x8x512x128 .bf16) = _
  funext y
  rw [View.read_apply]
  obtain ⟨h, r, l, rfl⟩ := eta_block (A := 512) (B := 128) y
  have hx : ((cfg0.win 7).blk t).view.emb (ix4 0 h r l) = (ix4 (bOf t) h (nOf t r) l : S4x8x8192x128.Idx) := by
    funext a
    match a with
    | ⟨0, _⟩ => exact Fin.ext (at_block (congrFun hi 0) 0 _ (by show 1 * (t.val / 16) + 0 = t.val / 16; omega))
    | ⟨1, _⟩ => exact Fin.ext (at_zero (congrFun hi 1) h.val)
    | ⟨2, _⟩ => exact Fin.ext (at_block (congrFun hi 2) r.val _ rfl)
    | ⟨3, _⟩ => exact Fin.ext (at_zero (congrFun hi 3) l.val)
  exact ((reads m c t).query h r l).trans (congrArg (queries m c) hx).symm

theorem flushed_keys (_ : (cfg0.win 8).flush t = true) :
    (dats m 0 c).flushed 8 t = ((cfg0.win 8).blk t).view.read (Elt Ideal) (keys m c) := by
  have hi := index8 t
  rw [Value.flushed8]
  show (out0_8 (iblk m c 0 t) (iblk m c 1 t) (iblk m c 2 t) (iblk m c 3 t) (iblk m c 4 t) (iblk m c 5 t) (iblk m c 6 t) : FVec Ideal S1x8x512x128 .bf16) = _
  funext y
  rw [View.read_apply]
  obtain ⟨h, r, l, rfl⟩ := eta_block (A := 512) (B := 128) y
  have hx : ((cfg0.win 8).blk t).view.emb (ix4 0 h r l) = (ix4 (bOf t) h (nOf t r) l : S4x8x8192x128.Idx) := by
    funext a
    match a with
    | ⟨0, _⟩ => exact Fin.ext (at_block (congrFun hi 0) 0 _ (by show 1 * (t.val / 16) + 0 = t.val / 16; omega))
    | ⟨1, _⟩ => exact Fin.ext (at_zero (congrFun hi 1) h.val)
    | ⟨2, _⟩ => exact Fin.ext (at_block (congrFun hi 2) r.val _ rfl)
    | ⟨3, _⟩ => exact Fin.ext (at_zero (congrFun hi 3) l.val)
  exact ((reads m c t).key h r l).trans (congrArg (keys m c) hx).symm

theorem flushed_values (_ : (cfg0.win 9).flush t = true) :
    (dats m 0 c).flushed 9 t = ((cfg0.win 9).blk t).view.read (Elt Ideal) (values m c) := by
  have hi := index9 t
  rw [Value.flushed9]
  show (out0_9 (iblk m c 0 t) (iblk m c 1 t) (iblk m c 2 t) (iblk m c 3 t) (iblk m c 4 t) (iblk m c 5 t) (iblk m c 6 t) : FVec Ideal S1x8x128x512 .bf16) = _
  funext y
  rw [View.read_apply]
  obtain ⟨h, l, r, rfl⟩ := eta_block (A := 128) (B := 512) y
  have hx : ((cfg0.win 9).blk t).view.emb (ix4 0 h l r) = (ix4 (bOf t) h l (nOf t r) : S4x8x128x8192.Idx) := by
    funext a
    match a with
    | ⟨0, _⟩ => exact Fin.ext (at_block (congrFun hi 0) 0 _ (by show 1 * (t.val / 16) + 0 = t.val / 16; omega))
    | ⟨1, _⟩ => exact Fin.ext (at_zero (congrFun hi 1) h.val)
    | ⟨2, _⟩ => exact Fin.ext (at_zero (congrFun hi 2) l.val)
    | ⟨3, _⟩ => exact Fin.ext (at_block (congrFun hi 3) r.val _ rfl)
  exact ((reads m c t).value h l r).trans (congrArg (values m c) hx).symm

/-- The point that leaves the elements of a token. -/
def ptOf (b n : Nat) (hb : b < 4) (hn : n < 8192) : Fin cfg0.N :=
  ⟨16 * b + n / 512, by
    have : cfg0.N = 64 := N_0
    omega⟩

/-- A coordinate within a block. -/
theorem within {k x z y : Nat} (hx : x = z) (h : k * z ≤ y ∧ y < k * z + k) : x * k ≤ y ∧ y < x * k + k := by
  rw [hx, Nat.mul_comm z k]
  exact h

theorem final_queries : (dats m 0 c).arrAt 7 cfg0.N = queries m c :=
  (dats m 0 c).arrAt_eq_of_cover 7 (queries m c) (flushed_queries m c) fun i =>
    ⟨ptOf (i 0).val (i 2).val (i 0).isLt (i 2).isLt, flush0_7 _, by
      have h0 : (i 0).val < 4 := (i 0).isLt
      have h1 : (i 1).val < 8 := (i 1).isLt
      have h2 : (i 2).val < 8192 := (i 2).isLt
      have h3 : (i 3).val < 128 := (i 3).isLt
      generalize ht : ptOf (i 0).val (i 2).val (i 0).isLt (i 2).isLt = t
      have hv : t.val = 16 * (i 0).val + (i 2).val / 512 := by rw [← ht]; rfl
      show i ∈ ((View.whole main_v40_0).slice (win0_7.rect t)).set
      rw [View.set_slice_whole, Rect.mem_set_unit]
      have hi := index7 t
      intro a
      match a with
      | ⟨0, _⟩ => exact within (k := 1) (congrFun hi 0) (by show 1 * (t.val / 16) ≤ (i 0).val ∧ (i 0).val < 1 * (t.val / 16) + 1; omega)
      | ⟨1, _⟩ => exact within (k := 8) (congrFun hi 1) (by show 8 * 0 ≤ (i 1).val ∧ (i 1).val < 8 * 0 + 8; omega)
      | ⟨2, _⟩ => exact within (k := 512) (congrFun hi 2) (by show 512 * (t.val % 16) ≤ (i 2).val ∧ (i 2).val < 512 * (t.val % 16) + 512; omega)
      | ⟨3, _⟩ => exact within (k := 128) (congrFun hi 3) (by show 128 * 0 ≤ (i 3).val ∧ (i 3).val < 128 * 0 + 128; omega)⟩

theorem final_keys : (dats m 0 c).arrAt 8 cfg0.N = keys m c :=
  (dats m 0 c).arrAt_eq_of_cover 8 (keys m c) (flushed_keys m c) fun i =>
    ⟨ptOf (i 0).val (i 2).val (i 0).isLt (i 2).isLt, flush0_8 _, by
      have h0 : (i 0).val < 4 := (i 0).isLt
      have h1 : (i 1).val < 8 := (i 1).isLt
      have h2 : (i 2).val < 8192 := (i 2).isLt
      have h3 : (i 3).val < 128 := (i 3).isLt
      generalize ht : ptOf (i 0).val (i 2).val (i 0).isLt (i 2).isLt = t
      have hv : t.val = 16 * (i 0).val + (i 2).val / 512 := by rw [← ht]; rfl
      show i ∈ ((View.whole main_v40_1).slice (win0_8.rect t)).set
      rw [View.set_slice_whole, Rect.mem_set_unit]
      have hi := index8 t
      intro a
      match a with
      | ⟨0, _⟩ => exact within (k := 1) (congrFun hi 0) (by show 1 * (t.val / 16) ≤ (i 0).val ∧ (i 0).val < 1 * (t.val / 16) + 1; omega)
      | ⟨1, _⟩ => exact within (k := 8) (congrFun hi 1) (by show 8 * 0 ≤ (i 1).val ∧ (i 1).val < 8 * 0 + 8; omega)
      | ⟨2, _⟩ => exact within (k := 512) (congrFun hi 2) (by show 512 * (t.val % 16) ≤ (i 2).val ∧ (i 2).val < 512 * (t.val % 16) + 512; omega)
      | ⟨3, _⟩ => exact within (k := 128) (congrFun hi 3) (by show 128 * 0 ≤ (i 3).val ∧ (i 3).val < 128 * 0 + 128; omega)⟩

theorem final_values : (dats m 0 c).arrAt 9 cfg0.N = values m c :=
  (dats m 0 c).arrAt_eq_of_cover 9 (values m c) (flushed_values m c) fun i =>
    ⟨ptOf (i 0).val (i 3).val (i 0).isLt (i 3).isLt, flush0_9 _, by
      have h0 : (i 0).val < 4 := (i 0).isLt
      have h1 : (i 1).val < 8 := (i 1).isLt
      have h2 : (i 2).val < 128 := (i 2).isLt
      have h3 : (i 3).val < 8192 := (i 3).isLt
      generalize ht : ptOf (i 0).val (i 3).val (i 0).isLt (i 3).isLt = t
      have hv : t.val = 16 * (i 0).val + (i 3).val / 512 := by rw [← ht]; rfl
      show i ∈ ((View.whole main_v40_2).slice (win0_9.rect t)).set
      rw [View.set_slice_whole, Rect.mem_set_unit]
      have hi := index9 t
      intro a
      match a with
      | ⟨0, _⟩ => exact within (k := 1) (congrFun hi 0) (by show 1 * (t.val / 16) ≤ (i 0).val ∧ (i 0).val < 1 * (t.val / 16) + 1; omega)
      | ⟨1, _⟩ => exact within (k := 8) (congrFun hi 1) (by show 8 * 0 ≤ (i 1).val ∧ (i 1).val < 8 * 0 + 8; omega)
      | ⟨2, _⟩ => exact within (k := 128) (congrFun hi 2) (by show 128 * 0 ≤ (i 2).val ∧ (i 2).val < 128 * 0 + 128; omega)
      | ⟨3, _⟩ => exact within (k := 512) (congrFun hi 3) (by show 512 * (t.val % 16) ≤ (i 3).val ∧ (i 3).val < 512 * (t.val % 16) + 512; omega)⟩

end Cert.ProjectionIdeal

end
-- ==== Proof.TurnPieces.lean ====
/-
  The projection of the reference, cut into its steps.
-/
module

public import proofs.«01_k».proof.Proof.Gen.ProjectionReferenceIdeal.Run
public import proofs.«01_k».proof.Proof.TurnText

@[expose] public section

set_option maxRecDepth 16384

noncomputable section

namespace Cert.ProjectionReferenceIdeal

open Idealize.ShloMosaic Idealize.ShloMosaic.TcCoe
open Gen
open Cert.Turn

/-- The rows a batch entry is scaled or shifted by, along the tokens. -/
def alongTokens (x : FVec Ideal S4x1x1024 .f32) : FVec Ideal S4x8192x1024 .f32 :=
  broadcastInDim S4x8192x1024 ![0, 1, 2] bcast_S4x1x1024_S4x8192x1024_0_1_2 x

/-- The first four rows of a table. -/
def firstRows (x : FVec Ideal S8x1024 .f32) : FVec Ideal S4x1x1024 .f32 :=
  broadcastInDim S4x1x1024 ![0, 2] bcast_S4x1024_S4x1x1024_0_2 (extractStridedSlice S4x1024 ![0, 0] x slices_S8x1024_S4x1024_0_0)

/-- The input, scaled and shifted. -/
def modulated (x : FVec Ideal S4x8192x1024 .f32) (s a : FVec Ideal S8x1024 .f32) : FVec Ideal S4x8192x1024 .f32 :=
  addf (mulf x (alongTokens (addf (broadcastInDim S4x1x1024 ![] bcast_S_S4x1x1024 (constant S_ .f32 0x3F800000#32)) (firstRows s)))) (alongTokens (firstRows a))

/-- The map. -/
def linear (h : FVec Ideal S4x8192x1024 .f32) (w : FVec Ideal S1024x3072 .f32) : FVec Ideal S4x8192x3072 .f32 :=
  Host.dotGeneral dot_S4x8192x1024_S1024x3072_S4x8192x3072_2_0_01_1_n_n none h w

/-- The frequencies. -/
def freqs : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The tokens' rows in the grid. -/
def rowOf : FVec Ideal S8192 .f32 :=
  shapeCast _ (broadcastInDim S128x64 ![0] bcast_S128_S128x64_0 (sitofp .f32 (iotaInDim S128 32 0)) : FVec Ideal S128x64 .f32) shapeCasts_S128x64_S8192

/-- The tokens' columns in the grid. -/
def colOf : FVec Ideal S8192 .f32 :=
  shapeCast _ (broadcastInDim S128x64 ![0, 1] bcast_S1x64_S128x64_0_1
    (shapeCast _ (sitofp .f32 (iotaInDim S64 32 0) : FVec Ideal S64 .f32) shapeCasts_S64_S1x64 : FVec Ideal S1x64 .f32) : FVec Ideal S128x64 .f32) shapeCasts_S128x64_S8192

/-- The angles of half a block of lanes. -/
def halfAngles (p : FVec Ideal S8192 .f32) : FVec Ideal S8192x16 .f32 :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 freqs))

/-- The angles of a block of lanes. -/
def angles (p : FVec Ideal S8192 .f32) : FVec Ideal S1x8192x1x1x32 .f32 :=
  broadcastInDim S1x8192x1x1x32 ![1, 4] bcast_S8192x32_S1x8192x1x1x32_1_4
    (concatenate S8192x32 1 [⟨S8192x16, halfAngles p⟩, ⟨S8192x16, halfAngles p⟩] concatenates_S8192x16_S8192x16_S8192x32_d1)

/-- A block of lanes along batch entries and heads. -/
def alongHeads (x : FVec Ideal S1x8192x1x1x32 .f32) : FVec Ideal S4x8192x8x2x32 .f32 :=
  broadcastInDim S4x8192x8x2x32 ![0, 1, 2, 3, 4] bcast_S1x8192x1x1x32_S4x8192x8x2x32_0_1_2_3_4 x

/-- The second half of a block, negated, then the first. -/
def swapped (t : FVec Ideal S4x8192x8x2x32 .f32) : FVec Ideal S4x8192x8x2x32 .f32 :=
  concatenate S4x8192x8x2x32 4 [⟨S4x8192x8x2x16, Host.negf (extractStridedSlice S4x8192x8x2x16 ![0, 0, 0, 0, 16] t slices_S4x8192x8x2x32_S4x8192x8x2x16_0_0_0_0_16 : FVec Ideal S4x8192x8x2x16 .f32)⟩,
    ⟨S4x8192x8x2x16, extractStridedSlice S4x8192x8x2x16 ![0, 0, 0, 0, 0] t slices_S4x8192x8x2x32_S4x8192x8x2x16_0_0_0_0_0⟩] concatenates_S4x8192x8x2x16_S4x8192x8x2x16_S4x8192x8x2x32_d4

/-- A block of lanes turned. -/
def turnedBlock (t : FVec Ideal S4x8192x8x2x32 .f32) (p : FVec Ideal S8192 .f32) : FVec Ideal S4x8192x8x2x32 .f32 :=
  addf (mulf t (alongHeads (Host.cos (angles p)))) (mulf (swapped t) (alongHeads (Host.sin (angles p))))

/-- The lanes of the heads. -/
def heads (t : FVec Ideal S4x8192x1024 .f32) : FVec Ideal S4x8192x8x2x64 .f32 := shapeCast _ t shapeCasts_S4x8192x1024_S4x8192x8x2x64

/-- Both blocks of a map turned. -/
def both (t : FVec Ideal S4x8192x8x2x64 .f32) : FVec Ideal S4x8192x8x2x64 .f32 :=
  concatenate S4x8192x8x2x64 4
    [⟨S4x8192x8x2x32, turnedBlock (extractStridedSlice S4x8192x8x2x32 ![0, 0, 0, 0, 0] t slices_S4x8192x8x2x64_S4x8192x8x2x32_0_0_0_0_0) rowOf⟩,
      ⟨S4x8192x8x2x32, turnedBlock (extractStridedSlice S4x8192x8x2x32 ![0, 0, 0, 0, 32] t slices_S4x8192x8x2x64_S4x8192x8x2x32_0_0_0_0_32) colOf⟩]
    concatenates_S4x8192x8x2x32_S4x8192x8x2x32_S4x8192x8x2x64_d4

/-- A head's lanes last. -/
def byHead (t : FVec Ideal S4x8192x8x2x64 .f32) : FVec Ideal S4x8x8192x128 .f32 :=
  transpose S4x8x8192x128 [0, 2, 1, 3] (shapeCast _ t shapeCasts_S4x8192x8x2x64_S4x8192x8x128 : FVec Ideal S4x8192x8x128 .f32) transposes_S4x8192x8x128_S4x8x8192x128_0_2_1_3

/-- The queries. -/
def queries (z : FVec Ideal S4x8192x3072 .f32) : FVec Ideal S4x8x8192x128 .bf16 :=
  truncf .bf16 (Host.divf (Host.divf (byHead (both (heads (extractStridedSlice S4x8192x1024 ![0, 0, 0] z slices_S4x8192x3072_S4x8192x1024_0_0_0))))
    (broadcastInDim S4x8x8192x128 ![] bcast_S_S4x8x8192x128 (constant S_ .f32 0x41000000#32)))
    (broadcastInDim S4x8x8192x128 ![] bcast_S_S4x8x8192x128 (id (Host.log (constant S_ .f32 0x40000000#32) : FVec Ideal S_ .f32)))) bitsLt_bf16_f32

/-- The keys. -/
def keys (z : FVec Ideal S4x8192x3072 .f32) : FVec Ideal S4x8x8192x128 .bf16 :=
  truncf .bf16 (byHead (both (heads (extractStridedSlice S4x8192x1024 ![0, 0, 1024] z slices_S4x8192x3072_S4x8192x1024_0_0_1024)))) bitsLt_bf16_f32

/-- The values. -/
def values (z : FVec Ideal S4x8192x3072 .f32) : FVec Ideal S4x8x128x8192 .bf16 :=
  truncf .bf16 (transpose S4x8x128x8192 [0, 2, 3, 1] (shapeCast _ (extractStridedSlice S4x8192x1024 ![0, 0, 2048] z slices_S4x8192x3072_S4x8192x1024_0_0_2048)
    shapeCasts_S4x8192x1024_S4x8192x8x128 : FVec Ideal S4x8192x8x128 .f32) transposes_S4x8192x8x128_S4x8x128x8192_0_2_3_1) bitsLt_bf16_f32

/-- The lanes a memory's arguments lead to. -/
def lanesOf (m : (ℓ : Loc nD τ sig) → Buf (Elt Ideal) ℓ) (c : Dev nD) : FVec Ideal S4x8192x3072 .f32 :=
  linear (modulated (m ((c : Thread nD τ).loc main_arg0)) (m ((c : Thread nD τ).loc main_arg1)) (m ((c : Thread nD τ).loc main_arg2))) (m ((c : Thread nD τ).loc main_arg3))

theorem queries_eq (m : (ℓ : Loc nD τ sig) → Buf (Elt Ideal) ℓ) (c : Dev nD) : Value.res_main_v123 m c = queries (lanesOf m c) := rfl

theorem keys_eq (m : (ℓ : Loc nD τ sig) → Buf (Elt Ideal) ℓ) (c : Dev nD) : Value.res_main_v124 m c = keys (lanesOf m c) := rfl

end Cert.ProjectionReferenceIdeal

end
-- ==== Proof.TurnRead.lean ====
/-
  The steps of the reference's projection, each read at one element, and its results equal to the formulas.
-/
module

public import proofs.«01_k».proof.Proof.TurnPieces

@[expose] public section

set_option maxRecDepth 16384

noncomputable section

namespace Cert.ProjectionReferenceIdeal

open Idealize.ShloMosaic Idealize.ShloMosaic.TcCoe
open Gen
open Cert.Turn

variable (b : Fin 4) (n : Fin 8192)

theorem modulated_apply (x : FVec Ideal S4x8192x1024 .f32) (s a : FVec Ideal S8x1024 .f32) (k : Fin 1024) :
    modulated x s a (ix3 b n k) = x (ix3 b n k) * (1 + s (ix2 ⟨b.val, by omega⟩ k)) + a (ix2 ⟨b.val, by omega⟩ k) := by
  pointwise [modulated, alongTokens, firstRows]

theorem linear_apply (h : FVec Ideal S4x8192x1024 .f32) (w : FVec Ideal S1024x3072 .f32) (j : Fin 3072) :
    linear h w (ix3 b n j) = ∑ k : Fin 1024, h (ix3 b n k) * w (ix2 k j) := by
  pointwise [linear]

theorem freqs_apply (k : Fin 16) : freqs (ix1 k) = freq k.val := by
  rw [freq, ← num_word k.val (by omega)]
  pointwise [freqs]

theorem row_apply : rowOf (ix1 n) = num (n.val / 64) := by
  rw [← num_word (n.val / 64) (by omega)]
  pointwise [rowOf]

theorem col_apply : colOf (ix1 n) = num (n.val % 64) := by
  rw [← num_word (n.val % 64) (by omega)]
  pointwise [colOf]

theorem halfAngles_apply (p : FVec Ideal S8192 .f32) (k : Fin 16) : halfAngles p (ix2 n k) = p (ix1 n) * freq k.val := by
  rw [← freqs_apply]
  pointwise [halfAngles]

theorem angles_apply (p : FVec Ideal S8192 .f32) (k : Fin 32) : angles p (ix5 0 n 0 0 k) = p (ix1 n) * freq (k.val % 16) := by
  pointwise [angles]
  split
  next h => rw [halfAngles_apply, Nat.mod_eq_of_lt h]
  next h => rw [halfAngles_apply, show k.val % 16 = k.val - 16 by omega]

/-! ## A block of lanes -/

variable (h : Fin 8) (e : Fin 2)

theorem swapped_apply (t : FVec Ideal S4x8192x8x2x32 .f32) (k : Fin 32) :
    swapped t (ix5 b n h e k) = if hk : k.val < 16 then -t (ix5 b n h e ⟨k.val + 16, by omega⟩) else t (ix5 b n h e ⟨k.val - 16, by omega⟩) := by
  pointwise [swapped]
  simp only [Nat.add_comm 16]

theorem turnedBlock_apply (t : FVec Ideal S4x8192x8x2x32 .f32) (p : FVec Ideal S8192 .f32) (k : Fin 32) :
    turnedBlock t p (ix5 b n h e k) = t (ix5 b n h e k) * Ideal.cos (p (ix1 n) * freq (k.val % 16))
      + if hk : k.val < 16 then t (ix5 b n h e ⟨k.val + 16, by omega⟩) * -Ideal.sin (p (ix1 n) * freq (k.val % 16))
        else t (ix5 b n h e ⟨k.val - 16, by omega⟩) * Ideal.sin (p (ix1 n) * freq (k.val % 16)) := by
  rw [← angles_apply n p k]
  have hs := swapped_apply b n h e t k
  have : turnedBlock t p (ix5 b n h e k) = t (ix5 b n h e k) * Ideal.cos (angles p (ix5 0 n 0 0 k)) + swapped t (ix5 b n h e k) * Ideal.sin (angles p (ix5 0 n 0 0 k)) := by
    pointwise [turnedBlock, alongHeads]
  rw [this, hs]
  split
  · rw [neg_mul_comm]
  · rfl

theorem block_slice (t : FVec Ideal S4x8192x8x2x64 .f32) {o : Nat} {hs : S4x8192x8x2x64.Slices ![0, 0, 0, 0, o] S4x8192x8x2x32} (k : Fin 32) (j : Fin 64)
    (hj : j.val = o + k.val) : extractStridedSlice S4x8192x8x2x32 ![0, 0, 0, 0, o] t hs (ix5 b n h e k) = t (ix5 b n h e j) :=
  extractStridedSlice_apply _ t hs _ (ix5 b n h e j) fun i =>
    match i with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => hj

theorem third_slice (z : FVec Ideal S4x8192x3072 .f32) {o : Nat} {hs : S4x8192x3072.Slices ![0, 0, o] S4x8192x1024} (k : Fin 1024) (j : Fin 3072)
    (hj : j.val = o + k.val) : extractStridedSlice S4x8192x1024 ![0, 0, o] z hs (ix3 b n k) = z (ix3 b n j) :=
  extractStridedSlice_apply _ z hs _ (ix3 b n j) fun i =>
    match i with
    | ⟨0, _⟩ => (Nat.zero_add _).symm
    | ⟨1, _⟩ => (Nat.zero_add _).symm
    | ⟨2, _⟩ => hj

theorem heads_apply (u : FVec Ideal S4x8192x1024 .f32) (k : Fin 64) :
    heads u (ix5 b n h e k) = u (ix3 b n ⟨h.val * 128 + e.val * 64 + k.val, by omega⟩) := by
  pointwise [heads]

theorem byHead_apply (t : FVec Ideal S4x8192x8x2x64 .f32) (l : Fin 128) :
    byHead t (ix4 b h n l) = t (ix5 b n h ⟨l.val / 64, by omega⟩ ⟨l.val % 64, Nat.mod_lt _ (by decide)⟩) := by
  pointwise [byHead]

theorem both_apply (t : FVec Ideal S4x8192x8x2x64 .f32) (k : Fin 64) :
    both t (ix5 b n h e k) = if hk : k.val < 32
      then turnedBlock (extractStridedSlice S4x8192x8x2x32 ![0, 0, 0, 0, 0] t slices_S4x8192x8x2x64_S4x8192x8x2x32_0_0_0_0_0) rowOf (ix5 b n h e ⟨k.val, hk⟩)
      else turnedBlock (extractStridedSlice S4x8192x8x2x32 ![0, 0, 0, 0, 32] t slices_S4x8192x8x2x64_S4x8192x8x2x32_0_0_0_0_32) colOf
        (ix5 b n h e ⟨k.val - 32, by omega⟩) := by
  pointwise [both]

/-- A map's heads, turned. -/
theorem turned_heads (z : FVec Ideal S4x8192x3072 .f32) {o : Nat} {hs : S4x8192x3072.Slices ![0, 0, o] S4x8192x1024} (ho : o + 1024 ≤ 3072) (l : Fin 128) :
    byHead (both (heads (extractStridedSlice S4x8192x1024 ![0, 0, o] z hs))) (ix4 b h n l)
      = turned (fun i => z (ix3 b n ⟨o + (128 * h.val + i.val), by omega⟩)) n l := by
  have at_ : ∀ (k : Fin 64) (i : Fin 128), i.val = l.val / 64 * 64 + k.val →
      heads (extractStridedSlice S4x8192x1024 ![0, 0, o] z hs) (ix5 b n h ⟨l.val / 64, by omega⟩ k) = z (ix3 b n ⟨o + (128 * h.val + i.val), by omega⟩) :=
    fun k i hi => by
      rw [heads_apply]
      exact third_slice b n z _ _ (by show o + (128 * h.val + i.val) = o + (h.val * 128 + l.val / 64 * 64 + k.val); omega)
  rw [byHead_apply, both_apply]
  unfold turned angle
  have hl := l.isLt
  by_cases hk : l.val % 64 < 32
  · have h1 : ¬ l.val / 32 % 2 = 1 := by omega
    have h2 : l.val % 64 % 16 = l.val % 16 := by omega
    have h3 : l.val % 32 = l.val % 64 := by omega
    rw [dif_pos hk, turnedBlock_apply, row_apply, block_slice b n h _ _ _ ⟨l.val % 64, by omega⟩ (Nat.zero_add _).symm, at_ _ l (by show l.val = l.val / 64 * 64 + l.val % 64; omega),
      if_neg h1]
    simp only [h2, h3]
    refine congrArg₂ (· + ·) rfl ?_
    by_cases hb : l.val % 64 < 16
    · rw [dif_pos hb, dif_pos hb, block_slice b n h _ _ _ ⟨l.val % 64 + 16, by omega⟩ (Nat.zero_add _).symm,
        at_ _ ⟨l.val + 16, by omega⟩ (by show l.val + 16 = l.val / 64 * 64 + (l.val % 64 + 16); omega)]
    · rw [dif_neg hb, dif_neg hb, block_slice b n h _ _ _ ⟨l.val % 64 - 16, by omega⟩ (Nat.zero_add _).symm,
        at_ _ ⟨l.val - 16, by omega⟩ (by show l.val - 16 = l.val / 64 * 64 + (l.val % 64 - 16); omega)]
  · have h1 : l.val / 32 % 2 = 1 := by omega
    have h2 : (l.val % 64 - 32) % 16 = l.val % 16 := by omega
    have h3 : l.val % 32 = l.val % 64 - 32 := by omega
    rw [dif_neg hk, turnedBlock_apply, col_apply, block_slice b n h _ _ _ ⟨l.val % 64, by omega⟩ (by show l.val % 64 = 32 + (l.val % 64 - 32); omega),
      at_ _ l (by show l.val = l.val / 64 * 64 + l.val % 64; omega), if_pos h1]
    simp only [h2, h3]
    refine congrArg₂ (· + ·) rfl ?_
    by_cases hb : l.val % 64 - 32 < 16
    · rw [dif_pos hb, dif_pos hb, block_slice b n h _ _ _ ⟨l.val % 64 + 16, by omega⟩ (by show l.val % 64 + 16 = 32 + (l.val % 64 - 32 + 16); omega),
        at_ _ ⟨l.val + 16, by omega⟩ (by show l.val + 16 = l.val / 64 * 64 + (l.val % 64 + 16); omega)]
    · rw [dif_neg hb, dif_neg hb, block_slice b n h _ _ _ ⟨l.val % 64 - 16, by omega⟩ (by show l.val % 64 - 16 = 32 + (l.val % 64 - 32 - 16); omega),
        at_ _ ⟨l.val - 16, by omega⟩ (by show l.val - 16 = l.val / 64 * 64 + (l.val % 64 - 16); omega)]

/-! ## The results -/

/-- Narrowing keeps a number. -/
theorem narrow {s : Shape} (x : FVec Ideal s .f32) (i : s.Idx) : (truncf .bf16 x bitsLt_bf16_f32 : FVec Ideal s .bf16) i = x i := rfl

theorem scaled (x : FVec Ideal S4x8x8192x128 .f32) (i : S4x8x8192x128.Idx) :
    (truncf .bf16 (Host.divf (Host.divf x (broadcastInDim S4x8x8192x128 ![] bcast_S_S4x8x8192x128 (constant S_ .f32 0x41000000#32)))
        (broadcastInDim S4x8x8192x128 ![] bcast_S_S4x8x8192x128 (id (Host.log (constant S_ .f32 0x40000000#32) : FVec Ideal S_ .f32)))) bitsLt_bf16_f32 :
        FVec Ideal S4x8x8192x128 .bf16) i = x i * (((1 / 8) * (Real.log 2)⁻¹ : ℝ) : EReal) :=
  Eq.trans (b := Ideal.div (Ideal.div (x i) (Ideal.ofBits .f32 0x41000000#32)) (Ideal.log (Ideal.ofBits .f32 0x40000000#32))) rfl (scale_eq (x i))

theorem keys_apply (z : FVec Ideal S4x8192x3072 .f32) (l : Fin 128) :
    keys z (ix4 b h n l) = turned (fun i => z (ix3 b n ⟨1024 + (128 * h.val + i.val), by omega⟩)) n l := by
  unfold keys
  exact (narrow _ _).trans (turned_heads b n h z (o := 1024) (by omega) l)

theorem queries_apply (z : FVec Ideal S4x8192x3072 .f32) (l : Fin 128) :
    queries z (ix4 b h n l) = turned (fun i => z (ix3 b n ⟨128 * h.val + i.val, by omega⟩)) n l * (((1 / 8) * (Real.log 2)⁻¹ : ℝ) : EReal) := by
  unfold queries
  refine (scaled _ _).trans (congrArg (· * _) ((turned_heads b n h z (o := 0) (by omega) l).trans ?_))
  simp only [Nat.zero_add]

theorem arranged (u : FVec Ideal S4x8192x1024 .f32) (l : Fin 128) :
    (truncf .bf16 (transpose S4x8x128x8192 [0, 2, 3, 1] (shapeCast _ u shapeCasts_S4x8192x1024_S4x8192x8x128 : FVec Ideal S4x8192x8x128 .f32)
        transposes_S4x8192x8x128_S4x8x128x8192_0_2_3_1) bitsLt_bf16_f32 : FVec Ideal S4x8x128x8192 .bf16) (ix4 b h l n)
      = u (ix3 b n ⟨h.val * 128 + l.val, by omega⟩) := by
  pointwise

theorem values_apply (z : FVec Ideal S4x8192x3072 .f32) (l : Fin 128) :
    values z (ix4 b h l n) = z (ix3 b n ⟨2048 + (128 * h.val + l.val), by omega⟩) := by
  have e : values z (ix4 b h l n) = extractStridedSlice S4x8192x1024 ![0, 0, 2048] z slices_S4x8192x3072_S4x8192x1024_0_0_2048
      (ix3 b n ⟨h.val * 128 + l.val, by omega⟩) := by
    unfold values
    exact arranged b n h _ l
  rw [e]
  exact third_slice b n z _ _ (by show 2048 + (128 * h.val + l.val) = 2048 + (h.val * 128 + l.val); omega)

theorem lanes_apply (A : Args) (m : (ℓ : Loc nD τ sig) → Buf (Elt Ideal) ℓ) (c : Dev nD) (h0 : A.x = m ((c : Thread nD τ).loc main_arg0))
    (h1 : A.s = m ((c : Thread nD τ).loc main_arg1)) (h2 : A.a = m ((c : Thread nD τ).loc main_arg2)) (h3 : A.w = m ((c : Thread nD τ).loc main_arg3))
    (j : Fin 3072) : lanesOf m c (ix3 b n j) = A.lane b n j := by
  unfold lanesOf
  rw [linear_apply, ← h0, ← h1, ← h2, ← h3]
  simp only [modulated_apply]
  rfl

theorem eta {A B C D : Nat} (i : (⟨4, ![A, B, C, D]⟩ : Shape).Idx) : ∃ (a : Fin A) (b : Fin B) (c : Fin C) (d : Fin D), i = ix4 a b c d :=
  ⟨i 0, i 1, i 2, i 3, by
    funext k
    match k with
    | ⟨0, _⟩ => rfl
    | ⟨1, _⟩ => rfl
    | ⟨2, _⟩ => rfl
    | ⟨3, _⟩ => rfl⟩

section

variable (A : Args) (m : (ℓ : Loc nD τ sig) → Buf (Elt Ideal) ℓ) (c : Dev nD) (h0 : A.x = m ((c : Thread nD τ).loc main_arg0))
  (h1 : A.s = m ((c : Thread nD τ).loc main_arg1)) (h2 : A.a = m ((c : Thread nD τ).loc main_arg2)) (h3 : A.w = m ((c : Thread nD τ).loc main_arg3))

include h0 h1 h2 h3

theorem queries_of : queries (lanesOf m c) = fun i => A.query (i 0) (i 1) (i 2) (i 3) := by
  funext i
  obtain ⟨b, h, n, l, rfl⟩ := eta (A := 4) (B := 8) (C := 8192) (D := 128) i
  rw [queries_apply]
  simp only [lanes_apply _ _ A m c h0 h1 h2 h3]
  rfl

theorem keys_of : keys (lanesOf m c) = fun i => A.key (i 0) (i 1) (i 2) (i 3) := by
  funext i
  obtain ⟨b, h, n, l, rfl⟩ := eta (A := 4) (B := 8) (C := 8192) (D := 128) i
  rw [keys_apply]
  simp only [lanes_apply _ _ A m c h0 h1 h2 h3]
  rfl

theorem values_of : values (lanesOf m c) = fun i => A.value (i 0) (i 1) (i 2) (i 3) := by
  funext i
  obtain ⟨b, h, l, n, rfl⟩ := eta (A := 4) (B := 8) (C := 128) (D := 8192) i
  rw [values_apply, lanes_apply _ _ A m c h0 h1 h2 h3]
  rfl

end

end Cert.ProjectionReferenceIdeal

end
-- ==== Proof.lean ====
/- The claims of this kernel, put together from the modules under Proof/. -/
module

public import proofs.«01_k».proof.Defs
public import proofs.«01_k».proof.Proof.Same
public import proofs.«01_k».proof.Proof.Finite
public import proofs.«01_k».proof.Proof.Reference
public import proofs.«01_k».proof.Proof.Gen.Pre_finite
public import proofs.«01_k».proof.Proof.Gen.ReferenceIdeal.Run
public import proofs.«01_k».proof.Proof.Gen.Gating.Frame
public import proofs.«01_k».proof.Proof.GateResult
public import proofs.«01_k».proof.Proof.GatePieces
public import proofs.«01_k».proof.Proof.Gen.Projection.Frame
public import proofs.«01_k».proof.Proof.TurnResult
public import proofs.«01_k».proof.Proof.TurnRead
public import Idealize.ShloMosaic.Lib.Quiescent

@[expose] public section

noncomputable section

namespace Cert.Proof

open Idealize.ShloMosaic Idealize.ShloMosaic.TcCoe Idealize.SL.Sem

theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩) (ReferenceIdeal.Value.run (F := Ideal) m g)

theorem same_result {m : (ℓ : Loc KernelIdeal.nD KernelIdeal.τ KernelIdeal.sig) → Buf (Elt Ideal) ℓ}
    (hA : ∀ c, (KernelIdeal.argsOf m c).Fin) (c : Dev KernelIdeal.nD) :
    ReferenceIdeal.normed (ReferenceIdeal.attendOf (KernelIdeal.argsOf m c)) (KernelIdeal.scalesOf m c) = KernelIdeal.result m c :=
  funext fun i => (ReferenceIdeal.normed_coe (hA c) _ i).trans (KernelIdeal.result_apply c hA i).symm

theorem same_values :
    algebraic_KernelIdeal_ReferenceIdeal_pre_finite (hKernelIdeal := Cert.KernelIdeal.Gen.facts) (hReferenceIdeal := Cert.ReferenceIdeal.Gen.facts)
      (hPre_finite := Cert.Pre_finite.Gen.facts) := by
  intro m g m' g' hm ha
  have hA := KernelIdeal.args_finite hm
  refine ⟨KernelIdeal.result m, ?_, ?_⟩
  · exact (θ_run _ _ _).mono (fun r h c => ⟨(h c).1.trans (KernelIdeal.final m c), (h c).2⟩)
      (KernelIdeal.run_value m g fun c t => KernelIdeal.good_of_finite c hA t)
  · refine (θ_run _ _ _).mono (fun r h c => ⟨(h c).1.trans ?_, (h c).2⟩) (ReferenceIdeal.Value.run (F := Ideal) m' g')
    obtain ⟨h0, h1, h2, h3, h4, h5, h6⟩ := ha c
    exact (ReferenceIdeal.result_of (A := KernelIdeal.argsOf m c) m' c (KernelIdeal.scalesOf m c) h0 h1 h2 h3 h4 h5 h6).trans (same_result hA c)

theorem gating_reference_frame : quiescent_GatingReferenceIdeal (hGatingReferenceIdeal := Cert.GatingReferenceIdeal.Gen.facts) := fun m g _ =>
  (θ_run _ _ _).mono (fun r h => ⟨fun c => (h c).2, sem_eq_zero_of_no_sems (by decide) r.2⟩) (GatingReferenceIdeal.Value.run (F := Ideal) m g)

theorem gating_values :
    algebraic_GatingIdeal_GatingReferenceIdeal (hGatingIdeal := Cert.GatingIdeal.Gen.facts) (hGatingReferenceIdeal := Cert.GatingReferenceIdeal.Gen.facts) := by
  intro m g m' g' _ ha
  refine ⟨GatingIdeal.result m, ?_, ?_⟩
  · exact (θ_run _ _ _).mono (fun r h c => ⟨(h c).1.trans (GatingIdeal.final m c), (h c).2⟩) (GatingIdeal.Value.run_blocks m g)
  · refine (θ_run _ _ _).mono (fun r h c => ⟨(h c).1.trans ?_, (h c).2⟩) (GatingReferenceIdeal.Value.run (F := Ideal) m' g')
    obtain ⟨h0, h1, h2, h3, h4, h5, h6, h7, h8⟩ := ha c
    exact GatingReferenceIdeal.result_of (GatingIdeal.argsOf m c) m' c h0 h1 h2 h3 h4 h5 h6 h7 h8

theorem projection_reference_frame : quiescent_ProjectionReferenceIdeal (hProjectionReferenceIdeal := Cert.ProjectionReferenceIdeal.Gen.facts) := fun m g _ =>
  (θ_run _ _ _).mono (fun r h => ⟨fun c => (h c).2.2.2, sem_eq_zero_of_no_sems (by decide) r.2⟩) (ProjectionReferenceIdeal.Value.run (F := Ideal) m g)

theorem projection_values :
    algebraic_ProjectionIdeal_ProjectionReferenceIdeal (hProjectionIdeal := Cert.ProjectionIdeal.Gen.facts)
      (hProjectionReferenceIdeal := Cert.ProjectionReferenceIdeal.Gen.facts) := by
  intro m g m' g' _ ha
  refine ⟨ProjectionIdeal.queries m, ProjectionIdeal.keys m, ProjectionIdeal.values m, ?_, ?_⟩
  · exact (θ_run _ _ _).mono (fun r h c => ⟨(h c).1.trans (ProjectionIdeal.final_queries m c), (h c).2.1.trans (ProjectionIdeal.final_keys m c),
      (h c).2.2.1.trans (ProjectionIdeal.final_values m c), (h c).2.2.2⟩) (ProjectionIdeal.Value.run_blocks m g)
  · refine (θ_run _ _ _).mono (fun r h c => ?_) (ProjectionReferenceIdeal.Value.run (F := Ideal) m' g')
    obtain ⟨h0, h1, h2, h3⟩ := ha c
    exact ⟨(h c).1.trans ((ProjectionReferenceIdeal.queries_eq m' c).trans (ProjectionReferenceIdeal.queries_of (ProjectionIdeal.argsOf m c) m' c h0.symm h1.symm h2.symm h3.symm)),
      (h c).2.1.trans ((ProjectionReferenceIdeal.keys_eq m' c).trans (ProjectionReferenceIdeal.keys_of (ProjectionIdeal.argsOf m c) m' c h0.symm h1.symm h2.symm h3.symm)),
      (h c).2.2.1.trans (ProjectionReferenceIdeal.values_of (ProjectionIdeal.argsOf m c) m' c h0.symm h1.symm h2.symm h3.symm), (h c).2.2.2⟩

theorem claim : Cert.Claim :=
  ⟨Cert.Kernel.Gen.facts, Cert.KernelIdeal.Gen.facts, Cert.ReferenceIdeal.Gen.facts, Cert.Gating.Gen.facts, Cert.GatingIdeal.Gen.facts,
    Cert.GatingReferenceIdeal.Gen.facts, Cert.Projection.Gen.facts, Cert.ProjectionIdeal.Gen.facts,
    Cert.ProjectionReferenceIdeal.Gen.facts, Cert.Pre_finite.Gen.facts, fun m g _ => kernel_frame m g,
    fun m g _ => KernelIdeal.run_frame m g, fun m g _ => KernelIdeal.run_frame m g, reference_frame, fun m g _ => reference_frame m g trivial,
    fun m g _ => Cert.Gating.Gen.frame m g, fun m g _ => Cert.GatingIdeal.Gen.frame m g, gating_reference_frame,
    fun m g _ => Cert.Projection.Gen.frame m g, fun m g _ => Cert.ProjectionIdeal.Gen.frame m g, projection_reference_frame,
    IdealRules.named_const.statement Cert.KernelIdeal.κ "q_scale" .f32 0x3E38AA3B#32 (((1 / 8) * (Real.log 2)⁻¹ : ℝ) : EReal) rfl, same_values,
    IdealRules.named_const.statement Cert.GatingIdeal.κ "sqrt_half" .f32 0x3F3504F3#32 (((Real.sqrt 2)⁻¹ : ℝ) : EReal) rfl, gating_values,
    IdealRules.named_const.statement Cert.ProjectionIdeal.κ "q_scale" .f32 0x3E38AA3B#32 (((1 / 8) * (Real.log 2)⁻¹ : ℝ) : EReal) rfl, projection_values⟩

end Cert.Proof

end
